-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_bounded [hPre_bounded : Cert.Pre_bounded.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_bounded.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_bounded [hPre_bounded : Cert.Pre_bounded.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_bounded.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_bounded [hKernel6Ideal : Cert.Kernel6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_bounded m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_bounded [hReference6Ideal : Cert.Reference6Ideal.Facts] [hPre_bounded : Cert.Pre_bounded.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_bounded m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v39)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_bounded [hKernel6Ideal : Cert.Kernel6Ideal.Facts] [hReference6Ideal : Cert.Reference6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_bounded m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v80) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_bounded (hKernel6Ideal := hKernel6Ideal) (hPre_bounded := hPre_bounded)
    ∧ quiescent_Reference6Ideal (hReference6Ideal := hReference6Ideal)
    ∧ quiescent_Reference6Ideal_pre_bounded (hReference6Ideal := hReference6Ideal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_bounded (hKernel6Ideal := hKernel6Ideal) (hReference6Ideal := hReference6Ideal) (hPre_bounded := hPre_bounded)
-- ==== Pre_bounded.lean ====
abbrev S4x4096x5384 : Shape := ⟨3, ![4, 4096, 5384]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S4x4096x5384 .f32) (main_arg1 : FVec F S512 .f32) (main_arg2 : FVec F S512 .f32) : IVec S_ 1 :=
  let main_cst : FVec F S_ .f32 := constant S_ .f32 0x7F800000#32
  let main_v0 : FVec F S512 .f32 := broadcastInDim S512 ![] bcast_S_S512 main_cst
  let main_v1 : IVec S512 1 := cmpf .olt main_arg1 main_v0
  let main_c : IVec S_ 1 := constantI S_ 1 1#1
  let main_v2 : IVec S_ 1 := (fun x v => Host.reduce IntOp.andi x v reducesTo_S512_S_d0 h_S_) main_v1 main_c
  main_v2
-- ==== Pre_finite.lean ====
abbrev S4x4096x5384 : Shape := ⟨3, ![4, 4096, 5384]⟩
abbrev S16 : Shape := ⟨1, ![16]⟩
abbrev S4x4096x1152 : Shape := ⟨3, ![4, 4096, 1152]⟩
abbrev S_ : Shape := ⟨0, ![]⟩

class Facts : Prop where
  slices_S4x4096x5384_S4x4096x1152_0_0_0 : S4x4096x5384.Slices ![0, 0, 0] S4x4096x1152
  bcast_S_S4x4096x1152 : S_.BroadcastsInDim S4x4096x1152 (![] : Fin 0 → Fin S4x4096x1152.rank)
  reducesTo_S4x4096x1152_S_d0_1_2 : S4x4096x1152.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4x4096x5384 .f32) (main_arg1 : FVec F S16 .f32) : IVec S_ 1 :=
  let main_v0 : FVec F S4x4096x1152 .f32 := (extractStridedSlice S4x4096x1152 ![0, 0, 0] · slices_S4x4096x5384_S4x4096x1152_0_0_0) main_arg0
  let main_v1 : FVec F S4x4096x1152 .f32 := Host.absf main_v0
  let main_cst : FVec F S_ .f32 := constant S_ .f32 0x7F800000#32
  let main_v2 : FVec F S4x4096x1152 .f32 := broadcastInDim S4x4096x1152 ![] bcast_S_S4x4096x1152 main_cst
  let main_v3 : IVec S4x4096x1152 1 := cmpf .olt main_v1 main_v2
  let main_c : IVec S_ 1 := constantI S_ 1 1#1
  let main_v4 : IVec S_ 1 := (fun x v => Host.reduce IntOp.andi x v reducesTo_S4x4096x1152_S_d0_1_2 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Kernel.lean ====
abbrev S4x4096x5384 : Shape := ⟨3, ![4, 4096, 5384]⟩
abbrev S16 : Shape := ⟨1, ![16]⟩
abbrev S16384x5384 : Shape := ⟨2, ![16384, 5384]⟩
abbrev S16384x1024 : Shape := ⟨2, ![16384, 1024]⟩
abbrev S16384x512 : Shape := ⟨2, ![16384, 512]⟩
abbrev S16384x128 : Shape := ⟨2, ![16384, 128]⟩
abbrev S16384x8 : Shape := ⟨2, ![16384, 8]⟩
abbrev S_ : Shape := ⟨0, ![]⟩
abbrev S16384x248 : Shape := ⟨2, ![16384, 248]⟩
abbrev S16384x5632 : Shape := ⟨2, ![16384, 5632]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 40
  | .vmem => 20
  | .smem => 1
  | _ => 0

abbrev bufTy : (tb : Table) → Fin (tcTables nBuf tb) → BufTy
  | .hbm, ⟨0, _⟩ => ⟨S4x4096x5384, .f32⟩
  | .hbm, ⟨1, _⟩ => ⟨S16, .f32⟩
  | .hbm, ⟨2, _⟩ => ⟨S16384x5384, .f32⟩
  | .hbm, ⟨3, _⟩ => ⟨S16384x1024, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x128, .f32⟩
  | .hbm, ⟨12, _⟩ => ⟨S16384x128, .f32⟩
  | .hbm, ⟨13, _⟩ => ⟨S16384x8, .f32⟩
  | .hbm, ⟨14, _⟩ => ⟨S_, .f32⟩
  | .hbm, ⟨15, _⟩ => ⟨S16384x248, .f32⟩
  | .hbm, ⟨16, _⟩ => ⟨S16384x5632, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S1x4096x1x32, .f32⟩
  | .hbm, ⟨34, _⟩ => ⟨S1x4096x4x32, .f32⟩
  | .hbm, ⟨35, _⟩ => ⟨S4096x128, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S16384x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x1024, .bf16⟩
  | .local _ .vmem, ⟨19, _⟩ => ⟨S128x1024, .bf16⟩
  | .local _ .smem, ⟨0, _⟩ => ⟨S16, .f32⟩
  | _, _ => ⟨S4x4096x5384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c40_i32 : BitVec 32 := 40#32
  let c0_i32 : BitVec 32 := 0#32
  ![v1.toNat, c40_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c40_i32 : BitVec 32 := 40#32
  let c0_i32_0 : BitVec 32 := 0#32
  ![v3.toNat, c40_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c41_i32 : BitVec 32 := 41#32
  let c0_i32 : BitVec 32 := 0#32
  ![v1.toNat, c41_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c41_i32 : BitVec 32 := 41#32
  let c0_i32_0 : BitVec 32 := 0#32
  ![v3.toNat, c41_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x5384 : Shape := ⟨3, ![4, 4096, 5384]⟩
abbrev S16 : Shape := ⟨1, ![16]⟩
abbrev S4x4096x1024 : Shape := ⟨3, ![4, 4096, 1024]⟩
abbrev S4x4096x128 : Shape := ⟨3, ![4, 4096, 128]⟩
abbrev S4x4096x512 : Shape := ⟨3, ![4, 4096, 512]⟩
abbrev S4x4096x4 : Shape := ⟨3, ![4, 4096, 4]⟩
abbrev S4096 : Shape := ⟨1, ![4096]⟩
abbrev S4x4096x16x64 : Shape := ⟨4, ![4, 4096, 16, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x16x32 : Shape := ⟨4, ![4, 4096, 16, 32]⟩
abbrev S4x4096x2x64 : Shape := ⟨4, ![4, 4096, 2, 64]⟩
abbrev S4x4096x2x32 : Shape := ⟨4, ![4, 4096, 2, 32]⟩
abbrev S4x32x128x2x8x64 : Shape := ⟨6, ![4, 32, 128, 2, 8, 64]⟩
abbrev S4x32x128x2x64 : Shape := ⟨5, ![4, 32, 128, 2, 64]⟩
abbrev S4x33x128x2x64 : Shape := ⟨5, ![4, 33, 128, 2, 64]⟩
abbrev S4x32x256x2x64 : Shape := ⟨5, ![4, 32, 256, 2, 64]⟩
abbrev S4x32x2x256x128x8 : Shape := ⟨6, ![4, 32, 2, 256, 128, 8]⟩
abbrev S4x32x2x8x128x256 : Shape := ⟨6, ![4, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x8x1x1 : Shape := ⟨6, ![1, 1, 2, 8, 1, 1]⟩
abbrev S4x32x2x8x128x1 : Shape := ⟨6, ![4, 32, 2, 8, 128, 1]⟩
abbrev S4x32x2x8x128x257 : Shape := ⟨6, ![4, 32, 2, 8, 128, 257]⟩
abbrev S4x32x2x8x128 : Shape := ⟨5, ![4, 32, 2, 8, 128]⟩
abbrev S4x32x2x64x8x128 : Shape := ⟨6, ![4, 32, 2, 64, 8, 128]⟩
abbrev S16384x1024 : Shape := ⟨2, ![16384, 1024]⟩

abbrev nBuf : Space → Nat
  | .hbm => 162
  | .vmem => 0
  | .smem => 0
  | _ => 0

abbrev hbmTy0_0 (i : Nat) : BufTy := match i % 128 with
  | 0 => ⟨S4x4096x5384, .f32⟩
  | 1 => ⟨S16, .f32⟩
  | 2 => ⟨S4x4096x1024, .f32⟩
  | 3 => ⟨S4x4096x128, .f32⟩
  | 4 => ⟨S4x4096x128, .f32⟩
  | 5 => ⟨S4x4096x512, .f32⟩
  | 6 => ⟨S4x4096x512, .f32⟩
  | 7 => ⟨S4x4096x512, .f32⟩
  | 8 => ⟨S4x4096x512, .f32⟩
  | 9 => ⟨S4x4096x1024, .f32⟩
  | 10 => ⟨S4x4096x512, .f32⟩
  | 11 => ⟨S4x4096x512, .f32⟩
  | 12 => ⟨S4x4096x4, .f32⟩
  | 13 => ⟨S4x4096x4, .f32⟩
  | 14 => ⟨S4096, .i32⟩
  | 15 => ⟨S4x4096x16x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S4096x32, .f32⟩
  | 31 => ⟨S1x4096x1x32, .f32⟩
  | 32 => ⟨S4096x32, .f32⟩
  | 33 => ⟨S1x4096x1x32, .f32⟩
  | 34 => ⟨S4x4096x16x32, .f32⟩
  | 35 => ⟨S4x4096x16x32, .f32⟩
  | 36 => ⟨S4x4096x16x32, .f32⟩
  | 37 => ⟨S4x4096x16x32, .f32⟩
  | 38 => ⟨S4x4096x16x32, .f32⟩
  | 39 => ⟨S4x4096x16x32, .f32⟩
  | 40 => ⟨S4x4096x16x32, .f32⟩
  | 41 => ⟨S4x4096x16x32, .f32⟩
  | 42 => ⟨S4x4096x16x32, .f32⟩
  | 43 => ⟨S4x4096x16x32, .f32⟩
  | 44 => ⟨S4x4096x16x32, .f32⟩
  | 45 => ⟨S4x4096x16x32, .f32⟩
  | 46 => ⟨S4x4096x16x64, .f32⟩
  | 47 => ⟨S4x4096x2x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S4096, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x32, .f32⟩
  | 63 => ⟨S1x4096x1x32, .f32⟩
  | 64 => ⟨S4096x32, .f32⟩
  | 65 => ⟨S1x4096x1x32, .f32⟩
  | 66 => ⟨S4x4096x2x32, .f32⟩
  | 67 => ⟨S4x4096x2x32, .f32⟩
  | 68 => ⟨S4x4096x2x32, .f32⟩
  | 69 => ⟨S4x4096x2x32, .f32⟩
  | 70 => ⟨S4x4096x2x32, .f32⟩
  | 71 => ⟨S4x4096x2x32, .f32⟩
  | 72 => ⟨S4x4096x2x32, .f32⟩
  | 73 => ⟨S4x4096x2x32, .f32⟩
  | 74 => ⟨S4x4096x2x32, .f32⟩
  | 75 => ⟨S4x4096x2x32, .f32⟩
  | 76 => ⟨S4x4096x2x32, .f32⟩
  | 77 => ⟨S4x4096x2x32, .f32⟩
  | 78 => ⟨S4x4096x2x64, .f32⟩
  | 79 => ⟨S4x4096x2x64, .f32⟩
  | 80 => ⟨S4x32x128x2x8x64, .f32⟩
  | 81 => ⟨S4x32x128x2x64, .f32⟩
  | 82 => ⟨S_, .i32⟩
  | 83 => ⟨S_, .f32⟩
  | 84 => ⟨S4x33x128x2x64, .f32⟩
  | 85 => ⟨S4x32x128x2x64, .f32⟩
  | 86 => ⟨S4x32x256x2x64, .f32⟩
  | 87 => ⟨S4x32x128x2x64, .f32⟩
  | 88 => ⟨S_, .i32⟩
  | 89 => ⟨S_, .f32⟩
  | 90 => ⟨S4x33x128x2x64, .f32⟩
  | 91 => ⟨S4x32x128x2x64, .f32⟩
  | 92 => ⟨S4x32x256x2x64, .f32⟩
  | 93 => ⟨S4x32x2x256x128x8, .f32⟩
  | 94 => ⟨S4x32x2x8x128x256, .f32⟩
  | 95 => ⟨S_, .f32⟩
  | 96 => ⟨S4x32x2x8x128x256, .f32⟩
  | 97 => ⟨S4x32x2x8x128x256, .f32⟩
  | 98 => ⟨S128, .i32⟩
  | 99 => ⟨S128x1, .i32⟩
  | 100 => ⟨S256, .i32⟩
  | 101 => ⟨S1x256, .i32⟩
  | 102 => ⟨S_, .i32⟩
  | 103 => ⟨S128x1, .i32⟩
  | 104 => ⟨S128x1, .i32⟩
  | 105 => ⟨S128x256, .i32⟩
  | 106 => ⟨S128x256, .i32⟩
  | 107 => ⟨S128x256, .i32⟩
  | 108 => ⟨S32, .i32⟩
  | 109 => ⟨S32x1x1, .i32⟩
  | 110 => ⟨S_, .i32⟩
  | 111 => ⟨S128x256, .i32⟩
  | 112 => ⟨S128x256, .i1⟩
  | 113 => ⟨S_, .i32⟩
  | 114 => ⟨S128x256, .i32⟩
  | 115 => ⟨S128x256, .i1⟩
  | 116 => ⟨S128x256, .i1⟩
  | 117 => ⟨S_, .i32⟩
  | 118 => ⟨S32x1x1, .i32⟩
  | 119 => ⟨S32x1x1, .i32⟩
  | 120 => ⟨S_, .i32⟩
  | 121 => ⟨S32x1x1, .i32⟩
  | 122 => ⟨S32x1x1, .i32⟩
  | 123 => ⟨S1x1x256, .i32⟩
  | 124 => ⟨S32x1x256, .i32⟩
  | 125 => ⟨S32x1x256, .i32⟩
  | 126 => ⟨S32x1x256, .i32⟩
  | 127 => ⟨S_, .i32⟩
  | _ => ⟨S4x4096x5384, .f32⟩

abbrev hbmTy0_1 (i : Nat) : BufTy := match i % 128 with
  | 0 => ⟨S32x1x256, .i32⟩
  | 1 => ⟨S32x1x256, .i1⟩
  | 2 => ⟨S1x128x256, .i1⟩
  | 3 => ⟨S32x128x256, .i1⟩
  | 4 => ⟨S32x128x256, .i1⟩
  | 5 => ⟨S32x128x256, .i1⟩
  | 6 => ⟨S1x32x1x1x128x256, .i1⟩
  | 7 => ⟨S_, .f32⟩
  | 8 => ⟨S_, .f32⟩
  | 9 => ⟨S4x32x2x8x128x256, .i1⟩
  | 10 => ⟨S4x32x2x8x128x256, .f32⟩
  | 11 => ⟨S4x32x2x8x128x256, .f32⟩
  | 12 => ⟨S1x1x2x8x1x1, .f32⟩
  | 13 => ⟨S4x32x2x8x128x1, .f32⟩
  | 14 => ⟨S4x32x2x8x128x257, .f32⟩
  | 15 => ⟨S_, .f32⟩
  | 16 => ⟨S4x32x2x8x128, .f32⟩
  | 17 => ⟨S_, .f32⟩
  | 18 => ⟨S4x32x2x8x128, .f32⟩
  | 19 => ⟨S4x32x2x8x128, .f32⟩
  | 20 => ⟨S4x32x2x8x128x1, .f32⟩
  | 21 => ⟨S4x32x2x8x128x257, .f32⟩
  | 22 => ⟨S4x32x2x8x128x257, .f32⟩
  | 23 => ⟨S4x32x2x8x128x257, .f32⟩
  | 24 => ⟨S_, .f32⟩
  | 25 => ⟨S4x32x2x8x128, .f32⟩
  | 26 => ⟨S4x32x2x8x128x1, .f32⟩
  | 27 => ⟨S4x32x2x8x128x257, .f32⟩
  | 28 => ⟨S4x32x2x8x128x257, .f32⟩
  | 29 => ⟨S4x32x2x8x128x256, .f32⟩
  | 30 => ⟨S4x32x2x64x8x128, .f32⟩
  | 31 => ⟨S4x32x128x2x8x64, .f32⟩
  | 32 => ⟨S16384x1024, .f32⟩
  | 33 => ⟨S16384x1024, .bf16⟩
  | _ => ⟨S4x4096x5384, .f32⟩

abbrev hbmTy (i : Nat) : BufTy := match i / 128 with
  | 0 => hbmTy0_0 i
  | 1 => hbmTy0_1 i
  | _ => ⟨S4x4096x5384, .f32⟩

abbrev bufTy : (tb : Table) → Fin (tcTables nBuf tb) → BufTy
  | .hbm, ⟨i, _⟩ => hbmTy i
  | _, _ => ⟨S4x4096x5384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_1 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_c : Ref sig .tc := ⟨.hbm, 82, rfl⟩
abbrev main_call0_v0 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_c_3 : Ref sig .tc := ⟨.hbm, 88, rfl⟩
abbrev main_call1_v0 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_4 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_c_5 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_c_6 : Ref sig .tc := ⟨.hbm, 110, rfl⟩
abbrev main_v98 : Ref sig .tc := ⟨.hbm, 111, rfl⟩
abbrev main_v99 : Ref sig .tc := ⟨.hbm, 112, rfl⟩
abbrev main_c_7 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_c_8 : Ref sig .tc := ⟨.hbm, 117, rfl⟩
abbrev main_v103 : Ref sig .tc := ⟨.hbm, 118, rfl⟩
abbrev main_v104 : Ref sig .tc := ⟨.hbm, 119, rfl⟩
abbrev main_c_9 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_c_10 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst_11 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_12 : Ref sig .tc := ⟨.hbm, 143, rfl⟩
abbrev main_v122 : Ref sig .tc := ⟨.hbm, 144, rfl⟩
abbrev main_cst_13 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_14 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048 : Shape := ⟨1, ![2048]⟩
abbrev S2048x5384 : Shape := ⟨2, ![2048, 5384]⟩
abbrev S2048x1024 : Shape := ⟨2, ![2048, 1024]⟩
abbrev S2048x512 : Shape := ⟨2, ![2048, 512]⟩
abbrev S2048x128 : Shape := ⟨2, ![2048, 128]⟩
abbrev S2048x8 : Shape := ⟨2, ![2048, 8]⟩
abbrev S_ : Shape := ⟨0, ![]⟩
abbrev S2048x248 : Shape := ⟨2, ![2048, 248]⟩
abbrev S2048x5632 : Shape := ⟨2, ![2048, 5632]⟩
abbrev S16384x2048 : Shape := ⟨2, ![16384, 2048]⟩
abbrev S1x2048 : Shape := ⟨2, ![1, 2048]⟩
abbrev S16384x5632 : Shape := ⟨2, ![16384, 5632]⟩
abbrev S1024x2048 : Shape := ⟨2, ![1024, 2048]⟩
abbrev S2048x1408 : Shape := ⟨2, ![2048, 1408]⟩
abbrev S1024x1408 : Shape := ⟨2, ![1024, 1408]⟩
abbrev S1024 : Shape := ⟨1, ![1024]⟩
abbrev S1024x1 : Shape := ⟨2, ![1024, 1]⟩
abbrev S16384x1024 : Shape := ⟨2, ![16384, 1024]⟩
abbrev S16384x128 : Shape := ⟨2, ![16384, 128]⟩
abbrev S16384x512 : Shape := ⟨2, ![16384, 512]⟩
abbrev S16384x8 : Shape := ⟨2, ![16384, 8]⟩
abbrev S16384x5384 : Shape := ⟨2, ![16384, 5384]⟩
abbrev S4x4096x5384 : Shape := ⟨3, ![4, 4096, 5384]⟩

abbrev nBuf : Space → Nat
  | .hbm => 44
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5384, .f32⟩
  | .hbm, ⟨3, _⟩ => ⟨S2048x1024, .f32⟩
  | .hbm, ⟨4, _⟩ => ⟨S2048x1024, .bf16⟩
  | .hbm, ⟨5, _⟩ => ⟨S2048x512, .f32⟩
  | .hbm, ⟨6, _⟩ => ⟨S2048x512, .bf16⟩
  | .hbm, ⟨7, _⟩ => ⟨S2048x512, .f32⟩
  | .hbm, ⟨8, _⟩ => ⟨S2048x512, .bf16⟩
  | .hbm, ⟨9, _⟩ => ⟨S2048x512, .f32⟩
  | .hbm, ⟨10, _⟩ => ⟨S2048x512, .bf16⟩
  | .hbm, ⟨11, _⟩ => ⟨S2048x512, .f32⟩
  | .hbm, ⟨12, _⟩ => ⟨S2048x512, .bf16⟩
  | .hbm, ⟨13, _⟩ => ⟨S2048x1024, .f32⟩
  | .hbm, ⟨14, _⟩ => ⟨S2048x1024, .bf16⟩
  | .hbm, ⟨15, _⟩ => ⟨S2048x512, .f32⟩
  | .hbm, ⟨16, _⟩ => ⟨S2048x512, .bf16⟩
  | .hbm, ⟨17, _⟩ => ⟨S2048x512, .f32⟩
  | .hbm, ⟨18, _⟩ => ⟨S2048x512, .bf16⟩
  | .hbm, ⟨19, _⟩ => ⟨S2048x128, .f32⟩
  | .hbm, ⟨20, _⟩ => ⟨S2048x128, .bf16⟩
  | .hbm, ⟨21, _⟩ => ⟨S2048x128, .f32⟩
  | .hbm, ⟨22, _⟩ => ⟨S2048x128, .bf16⟩
  | .hbm, ⟨23, _⟩ => ⟨S2048x8, .f32⟩
  | .hbm, ⟨24, _⟩ => ⟨S2048x8, .bf16⟩
  | .hbm, ⟨25, _⟩ => ⟨S_, .bf16⟩
  | .hbm, ⟨26, _⟩ => ⟨S2048x248, .bf16⟩
  | .hbm, ⟨27, _⟩ => ⟨S2048x5632, .bf16⟩
  | .hbm, ⟨28, _⟩ => ⟨S16384x2048, .f32⟩
  | .hbm, ⟨29, _⟩ => ⟨S1x2048, .f32⟩
  | .hbm, ⟨30, _⟩ => ⟨S16384x5632, .f32⟩
  | .hbm, ⟨31, _⟩ => ⟨S16384x1024, .f32⟩
  | .hbm, ⟨32, _⟩ => ⟨S16384x128, .f32⟩
  | .hbm, ⟨33, _⟩ => ⟨S16384x128, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x1024, .f32⟩
  | .hbm, ⟨39, _⟩ => ⟨S16384x512, .f32⟩
  | .hbm, ⟨40, _⟩ => ⟨S16384x512, .f32⟩
  | .hbm, ⟨41, _⟩ => ⟨S16384x8, .f32⟩
  | .hbm, ⟨42, _⟩ => ⟨S16384x5384, .f32⟩
  | .hbm, ⟨43, _⟩ => ⟨S4x4096x5384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1408, .bf16⟩
  | .local _ .vmem, ⟨4, _⟩ => ⟨S2048x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S2048 : Shape := ⟨1, ![2048]⟩
abbrev S2048x5384 : Shape := ⟨2, ![2048, 5384]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5384 : Shape := ⟨3, ![4, 4096, 5384]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5384, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S4x4096x5384, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048 : Shape := ⟨1, ![2048]⟩
abbrev S2048x2048 : Shape := ⟨2, ![2048, 2048]⟩
abbrev S16384x2048 : Shape := ⟨2, ![16384, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x4096x2048 : Shape := ⟨3, ![4, 4096, 2048]⟩
abbrev S2048 : Shape := ⟨1, ![2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x2048, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S16384x2048, .f32⟩
  | .hbm, ⟨20, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S4x4096x2048 : Shape := ⟨3, ![4, 4096, 2048]⟩
abbrev S16384x1024 : Shape := ⟨2, ![16384, 1024]⟩
abbrev S16384x512 : Shape := ⟨2, ![16384, 512]⟩
abbrev S2048x2048 : Shape := ⟨2, ![2048, 2048]⟩
abbrev S16384x2048 : Shape := ⟨2, ![16384, 2048]⟩
abbrev S1024x2048 : Shape := ⟨2, ![1024, 2048]⟩
abbrev S512x2048 : Shape := ⟨2, ![512, 2048]⟩
abbrev S512x1024 : Shape := ⟨2, ![512, 1024]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S2048x2048, .f32⟩
  | .hbm, ⟨5, _⟩ => ⟨S16384x2048, .f32⟩
  | .hbm, ⟨6, _⟩ => ⟨S2048x2048, .bf16⟩
  | .hbm, ⟨7, _⟩ => ⟨S1024x2048, .bf16⟩
  | .hbm, ⟨8, _⟩ => ⟨S512x2048, .bf16⟩
  | .hbm, ⟨9, _⟩ => ⟨S512x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4x4096x2048 : Shape := ⟨3, ![4, 4096, 2048]⟩
abbrev S16384x1024 : Shape := ⟨2, ![16384, 1024]⟩
abbrev S16384x512 : Shape := ⟨2, ![16384, 512]⟩
abbrev S2048x2048 : Shape := ⟨2, ![2048, 2048]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S2048x2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | .hbm, ⟨18, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4x4096x5384 : Shape := ⟨3, ![4, 4096, 5384]⟩
abbrev S512 : Shape := ⟨1, ![512]⟩
abbrev S896x64 : Shape := ⟨2, ![896, 64]⟩
abbrev S448x64 : Shape := ⟨2, ![448, 64]⟩
abbrev S16384x5384 : Shape := ⟨2, ![16384, 5384]⟩
abbrev S16384x1024 : Shape := ⟨2, ![16384, 1024]⟩
abbrev S16384x512 : Shape := ⟨2, ![16384, 512]⟩
abbrev S16384x128 : Shape := ⟨2, ![16384, 128]⟩
abbrev S16384x8 : Shape := ⟨2, ![16384, 8]⟩
abbrev S_ : Shape := ⟨0, ![]⟩
abbrev S16384x248 : Shape := ⟨2, ![16384, 248]⟩
abbrev S16384x5632 : Shape := ⟨2, ![16384, 5632]⟩
abbrev S1x512 : Shape := ⟨2, ![1, 512]⟩
abbrev S512x512 : Shape := ⟨2, ![512, 512]⟩
abbrev S4x128x128 : Shape := ⟨3, ![4, 128, 128]⟩
abbrev S64x512 : Shape := ⟨2, ![64, 512]⟩
abbrev S896x512 : Shape := ⟨2, ![896, 512]⟩
abbrev S64x128 : Shape := ⟨2, ![64, 128]⟩
abbrev S896x128 : Shape := ⟨2, ![896, 128]⟩
abbrev S64x64 : Shape := ⟨2, ![64, 64]⟩
abbrev S1x128x128 : Shape := ⟨3, ![1, 128, 128]⟩
abbrev S128x128 : Shape := ⟨2, ![128, 128]⟩
abbrev S1x128 : Shape := ⟨2, ![1, 128]⟩
abbrev S128x64 : Shape := ⟨2, ![128, 64]⟩
abbrev S64 : Shape := ⟨1, ![64]⟩
abbrev S64x1 : Shape := ⟨2, ![64, 1]⟩

abbrev nBuf : Space → Nat
  | .hbm => 24
  | .vmem => 15
  | .smem => 0
  | _ => 0

abbrev bufTy : (tb : Table) → Fin (tcTables nBuf tb) → BufTy
  | .hbm, ⟨0, _⟩ => ⟨S4x4096x5384, .f32⟩
  | .hbm, ⟨1, _⟩ => ⟨S512, .f32⟩
  | .hbm, ⟨2, _⟩ => ⟨S512, .f32⟩
  | .hbm, ⟨3, _⟩ => ⟨S896x64, .f32⟩
  | .hbm, ⟨4, _⟩ => ⟨S448x64, .f32⟩
  | .hbm, ⟨5, _⟩ => ⟨S16384x5384, .f32⟩
  | .hbm, ⟨6, _⟩ => ⟨S16384x1024, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x512, .f32⟩
  | .hbm, ⟨13, _⟩ => ⟨S16384x512, .f32⟩
  | .hbm, ⟨14, _⟩ => ⟨S16384x128, .f32⟩
  | .hbm, ⟨15, _⟩ => ⟨S16384x128, .f32⟩
  | .hbm, ⟨16, _⟩ => ⟨S16384x8, .f32⟩
  | .hbm, ⟨17, _⟩ => ⟨S_, .f32⟩
  | .hbm, ⟨18, _⟩ => ⟨S16384x248, .f32⟩
  | .hbm, ⟨19, _⟩ => ⟨S16384x5632, .f32⟩
  | .hbm, ⟨20, _⟩ => ⟨S1x512, .f32⟩
  | .hbm, ⟨21, _⟩ => ⟨S1x512, .f32⟩
  | .hbm, ⟨22, _⟩ => ⟨S896x64, .bf16⟩
  | .hbm, ⟨23, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S896x64, .bf16⟩
  | .local _ .vmem, ⟨11, _⟩ => ⟨S448x64, .f32⟩
  | .local _ .vmem, ⟨12, _⟩ => ⟨S512x512, .bf16⟩
  | .local _ .vmem, ⟨13, _⟩ => ⟨S512x512, .bf16⟩
  | .local _ .vmem, ⟨14, _⟩ => ⟨S4x128x128, .f32⟩
  | _, _ => ⟨S4x4096x5384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c64_i32 : BitVec 32 := 64#32
  let v10 : BitVec 32 := Scalar.muli arg12 c64_i32
  v10
def k0_off1 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c64_i32 : BitVec 32 := 64#32
  let v10 : BitVec 32 := Scalar.muli arg12 c64_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S896x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S448x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4x4096x5384 : Shape := ⟨3, ![4, 4096, 5384]⟩
abbrev S512 : Shape := ⟨1, ![512]⟩
abbrev S4x4096x1024 : Shape := ⟨3, ![4, 4096, 1024]⟩
abbrev S4x4096x128 : Shape := ⟨3, ![4, 4096, 128]⟩
abbrev S4x4096x512 : Shape := ⟨3, ![4, 4096, 512]⟩
abbrev S4x4096x4 : Shape := ⟨3, ![4, 4096, 4]⟩
abbrev S_ : Shape := ⟨0, ![]⟩
abbrev S1x1x512 : Shape := ⟨3, ![1, 1, 512]⟩
abbrev S4x4096x4x128 : Shape := ⟨4, ![4, 4096, 4, 128]⟩
abbrev S4x64x64x4x128 : Shape := ⟨5, ![4, 64, 64, 4, 128]⟩
abbrev S64x4x4x64x128 : Shape := ⟨5, ![64, 4, 4, 64, 128]⟩
abbrev S64x64 : Shape := ⟨2, ![64, 64]⟩
abbrev S64x64x1 : Shape := ⟨3, ![64, 64, 1]⟩
abbrev S4x4x128x128 : Shape := ⟨4, ![4, 4, 128, 128]⟩
abbrev S1x4x4x64x128 : Shape := ⟨5, ![1, 4, 4, 64, 128]⟩
abbrev S4x4x64x128 : Shape := ⟨4, ![4, 4, 64, 128]⟩
abbrev S4x4x64x1x128 : Shape := ⟨5, ![4, 4, 64, 1, 128]⟩
abbrev S4x4x1x64x128 : Shape := ⟨5, ![4, 4, 1, 64, 128]⟩
abbrev S4x4x64x64x128 : Shape := ⟨5, ![4, 4, 64, 64, 128]⟩
abbrev S4x4x64x64 : Shape := ⟨4, ![4, 4, 64, 64]⟩
abbrev S4x4x1x128 : Shape := ⟨4, ![4, 4, 1, 128]⟩
abbrev S4x4x128 : Shape := ⟨3, ![4, 4, 128]⟩
abbrev S4x4x128x1 : Shape := ⟨4, ![4, 4, 128, 1]⟩
abbrev S4x128 : Shape := ⟨2, ![4, 128]⟩
abbrev S4x4096x4x1 : Shape := ⟨4, ![4, 4096, 4, 1]⟩
abbrev S1x1x4x128 : Shape := ⟨4, ![1, 1, 4, 128]⟩
abbrev S16384x512 : Shape := ⟨2, ![16384, 512]⟩

abbrev nBuf : Space → Nat
  | .hbm => 203
  | .vmem => 0
  | .smem => 0
  | _ => 0

abbrev hbmTy0_0 (i : Nat) : BufTy := match i % 128 with
  | 0 => ⟨S4x4096x5384, .f32⟩
  | 1 => ⟨S512, .f32⟩
  | 2 => ⟨S512, .f32⟩
  | 3 => ⟨S4x4096x1024, .f32⟩
  | 4 => ⟨S4x4096x128, .f32⟩
  | 5 => ⟨S4x4096x128, .f32⟩
  | 6 => ⟨S4x4096x512, .f32⟩
  | 7 => ⟨S4x4096x512, .f32⟩
  | 8 => ⟨S4x4096x512, .f32⟩
  | 9 => ⟨S4x4096x512, .f32⟩
  | 10 => ⟨S4x4096x1024, .f32⟩
  | 11 => ⟨S4x4096x512, .f32⟩
  | 12 => ⟨S4x4096x512, .f32⟩
  | 13 => ⟨S4x4096x4, .f32⟩
  | 14 => ⟨S4x4096x4, .f32⟩
  | 15 => ⟨S_, .f32⟩
  | 16 => ⟨S512, .f32⟩
  | 17 => ⟨S512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S_, .f32⟩
  | 24 => ⟨S4x4096x512, .f32⟩
  | 25 => ⟨S4x4096x512, .f32⟩
  | 26 => ⟨S1x1x512, .f32⟩
  | 27 => ⟨S4x4096x512, .f32⟩
  | 28 => ⟨S4x4096x512, .f32⟩
  | 29 => ⟨S1x1x512, .f32⟩
  | 30 => ⟨S4x4096x512, .f32⟩
  | 31 => ⟨S4x4096x512, .f32⟩
  | 32 => ⟨S_, .f32⟩
  | 33 => ⟨S4x4096x512, .f32⟩
  | 34 => ⟨S4x4096x512, .f32⟩
  | 35 => ⟨S4x4096x512, .f32⟩
  | 36 => ⟨S_, .f32⟩
  | 37 => ⟨S512, .f32⟩
  | 38 => ⟨S512, .f32⟩
  | 39 => ⟨S4x4096x512, .f32⟩
  | 40 => ⟨S4x4096x512, .f32⟩
  | 41 => ⟨S4x4096x512, .f32⟩
  | 42 => ⟨S_, .f32⟩
  | 43 => ⟨S4x4096x512, .f32⟩
  | 44 => ⟨S4x4096x512, .f32⟩
  | 45 => ⟨S_, .f32⟩
  | 46 => ⟨S4x4096x512, .f32⟩
  | 47 => ⟨S4x4096x512, .f32⟩
  | 48 => ⟨S1x1x512, .f32⟩
  | 49 => ⟨S4x4096x512, .f32⟩
  | 50 => ⟨S4x4096x512, .f32⟩
  | 51 => ⟨S4x4096x512, .f32⟩
  | 52 => ⟨S4x4096x512, .f32⟩
  | 53 => ⟨S_, .f32⟩
  | 54 => ⟨S4x4096x512, .f32⟩
  | 55 => ⟨S4x4096x512, .f32⟩
  | 56 => ⟨S_, .f32⟩
  | 57 => ⟨S4x4096x512, .f32⟩
  | 58 => ⟨S4x4096x512, .f32⟩
  | 59 => ⟨S4x4096x512, .f32⟩
  | 60 => ⟨S4x4096x4x128, .f32⟩
  | 61 => ⟨S4x4096x4x128, .f32⟩
  | 62 => ⟨S4x4096x4x128, .f32⟩
  | 63 => ⟨S4x4096x4x128, .f32⟩
  | 64 => ⟨S4x64x64x4x128, .f32⟩
  | 65 => ⟨S64x4x4x64x128, .f32⟩
  | 66 => ⟨S4x64x64x4x128, .f32⟩
  | 67 => ⟨S64x4x4x64x128, .f32⟩
  | 68 => ⟨S4x64x64x4x128, .f32⟩
  | 69 => ⟨S64x4x4x64x128, .f32⟩
  | 70 => ⟨S4x64x64x4x128, .f32⟩
  | 71 => ⟨S64x4x4x64x128, .f32⟩
  | 72 => ⟨S_, .i1⟩
  | 73 => ⟨S64x64, .i1⟩
  | 74 => ⟨S64x64, .i32⟩
  | 75 => ⟨S_, .i32⟩
  | 76 => ⟨S64x64, .i32⟩
  | 77 => ⟨S64x64, .i32⟩
  | 78 => ⟨S64x64, .i32⟩
  | 79 => ⟨S64x64, .i1⟩
  | 80 => ⟨S_, .i1⟩
  | 81 => ⟨S64x64, .i1⟩
  | 82 => ⟨S64x64, .i1⟩
  | 83 => ⟨S64x64x1, .i1⟩
  | 84 => ⟨S_, .f32⟩
  | 85 => ⟨S4x4x128x128, .f32⟩
  | 86 => ⟨S_, .f32⟩
  | 87 => ⟨S64x4x4x64x128, .f32⟩
  | 88 => ⟨S_, .i32⟩
  | 89 => ⟨S64x4x4x64x128, .f32⟩
  | 90 => ⟨S64x4x4x64x128, .f32⟩
  | 91 => ⟨S64x4x4x64x128, .f32⟩
  | 92 => ⟨S64x4x4x64x128, .f32⟩
  | 93 => ⟨S64x64x1, .i1⟩
  | 94 => ⟨S_, .i32⟩
  | 95 => ⟨S4x4x128x128, .f32⟩
  | 96 => ⟨S64x4x4x64x128, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1x4x4x64x128, .f32⟩
  | 104 => ⟨S4x4x64x128, .f32⟩
  | 105 => ⟨S_, .i32⟩
  | 106 => ⟨S_, .i32⟩
  | 107 => ⟨S_, .i32⟩
  | 108 => ⟨S_, .i32⟩
  | 109 => ⟨S1x4x4x64x128, .f32⟩
  | 110 => ⟨S4x4x64x128, .f32⟩
  | 111 => ⟨S_, .i32⟩
  | 112 => ⟨S_, .i32⟩
  | 113 => ⟨S_, .i32⟩
  | 114 => ⟨S_, .i32⟩
  | 115 => ⟨S1x4x4x64x128, .f32⟩
  | 116 => ⟨S4x4x64x128, .f32⟩
  | 117 => ⟨S_, .i32⟩
  | 118 => ⟨S_, .i32⟩
  | 119 => ⟨S_, .i32⟩
  | 120 => ⟨S_, .i32⟩
  | 121 => ⟨S1x4x4x64x128, .f32⟩
  | 122 => ⟨S4x4x64x128, .f32⟩
  | 123 => ⟨S_, .f32⟩
  | 124 => ⟨S_, .f32⟩
  | 125 => ⟨S4x4x64x128, .f32⟩
  | 126 => ⟨S4x4x64x128, .f32⟩
  | 127 => ⟨S4x4x64x128, .f32⟩
  | _ => ⟨S4x4096x5384, .f32⟩

abbrev hbmTy0_1 (i : Nat) : BufTy := match i % 128 with
  | 0 => ⟨S4x4x64x128, .f32⟩
  | 1 => ⟨S4x4x64x1x128, .f32⟩
  | 2 => ⟨S4x4x1x64x128, .f32⟩
  | 3 => ⟨S4x4x64x64x128, .f32⟩
  | 4 => ⟨S4x4x64x64x128, .f32⟩
  | 5 => ⟨S4x4x64x64x128, .f32⟩
  | 6 => ⟨S_, .f32⟩
  | 7 => ⟨S_, .f32⟩
  | 8 => ⟨S4x4x64x64x128, .i1⟩
  | 9 => ⟨S4x4x64x64x128, .f32⟩
  | 10 => ⟨S4x4x64x64x128, .f32⟩
  | 11 => ⟨S4x4x64x1x128, .f32⟩
  | 12 => ⟨S4x4x1x64x128, .f32⟩
  | 13 => ⟨S4x4x64x64x128, .f32⟩
  | 14 => ⟨S4x4x64x64x128, .f32⟩
  | 15 => ⟨S4x4x64x64x128, .f32⟩
  | 16 => ⟨S4x4x64x64x128, .f32⟩
  | 17 => ⟨S4x4x64x64x128, .f32⟩
  | 18 => ⟨S_, .f32⟩
  | 19 => ⟨S4x4x64x64, .f32⟩
  | 20 => ⟨S4x4x64x128, .f32⟩
  | 21 => ⟨S4x4x1x128, .f32⟩
  | 22 => ⟨S4x4x128, .f32⟩
  | 23 => ⟨S4x4x1x128, .f32⟩
  | 24 => ⟨S4x4x64x128, .f32⟩
  | 25 => ⟨S4x4x64x128, .f32⟩
  | 26 => ⟨S4x4x64x128, .f32⟩
  | 27 => ⟨S4x4x64x128, .f32⟩
  | 28 => ⟨S4x4x128, .f32⟩
  | 29 => ⟨S4x4x128x1, .f32⟩
  | 30 => ⟨S4x4x128x128, .f32⟩
  | 31 => ⟨S4x4x128x128, .f32⟩
  | 32 => ⟨S4x4x128x128, .f32⟩
  | 33 => ⟨S4x4x128x128, .f32⟩
  | 34 => ⟨S4x4x64x128, .f32⟩
  | 35 => ⟨S1x4x4x64x128, .f32⟩
  | 36 => ⟨S_, .i32⟩
  | 37 => ⟨S_, .i32⟩
  | 38 => ⟨S_, .i32⟩
  | 39 => ⟨S_, .i32⟩
  | 40 => ⟨S64x4x4x64x128, .f32⟩
  | 41 => ⟨S_, .i32⟩
  | 42 => ⟨S_, .i32⟩
  | 43 => ⟨S4x64x64x4x128, .f32⟩
  | 44 => ⟨S4x4096x4x128, .f32⟩
  | 45 => ⟨S4x128, .f32⟩
  | 46 => ⟨S4x4096x4x128, .f32⟩
  | 47 => ⟨S_, .f32⟩
  | 48 => ⟨S4x4096x4, .f32⟩
  | 49 => ⟨S4x4096x4x1, .f32⟩
  | 50 => ⟨S_, .f32⟩
  | 51 => ⟨S4x4096x4x1, .f32⟩
  | 52 => ⟨S4x4096x4x1, .f32⟩
  | 53 => ⟨S_, .f32⟩
  | 54 => ⟨S4x4096x4x1, .f32⟩
  | 55 => ⟨S4x4096x4x1, .f32⟩
  | 56 => ⟨S4x4096x4x1, .f32⟩
  | 57 => ⟨S4x4096x4x128, .f32⟩
  | 58 => ⟨S4x4096x4x128, .f32⟩
  | 59 => ⟨S1x1x4x128, .f32⟩
  | 60 => ⟨S4x4096x4x128, .f32⟩
  | 61 => ⟨S4x4096x4x128, .f32⟩
  | 62 => ⟨S4x4096x512, .f32⟩
  | 63 => ⟨S4x4096x512, .f32⟩
  | 64 => ⟨S4x4096x512, .f32⟩
  | 65 => ⟨S_, .f32⟩
  | 66 => ⟨S4x4096x512, .f32⟩
  | 67 => ⟨S4x4096x512, .f32⟩
  | 68 => ⟨S_, .f32⟩
  | 69 => ⟨S4x4096x512, .f32⟩
  | 70 => ⟨S4x4096x512, .f32⟩
  | 71 => ⟨S4x4096x512, .f32⟩
  | 72 => ⟨S4x4096x512, .f32⟩
  | 73 => ⟨S16384x512, .f32⟩
  | 74 => ⟨S16384x512, .bf16⟩
  | _ => ⟨S4x4096x5384, .f32⟩

abbrev hbmTy (i : Nat) : BufTy := match i / 128 with
  | 0 => hbmTy0_0 i
  | 1 => hbmTy0_1 i
  | _ => ⟨S4x4096x5384, .f32⟩

abbrev bufTy : (tb : Table) → Fin (tcTables nBuf tb) → BufTy
  | .hbm, ⟨i, _⟩ => hbmTy i
  | _, _ => ⟨S4x4096x5384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_0 : Ref sig .tc := ⟨.hbm, 80, rfl⟩
abbrev main_call1_v5 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_c_8 : Ref sig .tc := ⟨.hbm, 88, rfl⟩
abbrev main_v59_0 : Ref sig .tc := ⟨.hbm, 89, rfl⟩
abbrev main_v59_1 : Ref sig .tc := ⟨.hbm, 90, rfl⟩
abbrev main_v59_2 : Ref sig .tc := ⟨.hbm, 91, rfl⟩
abbrev main_v59_3 : Ref sig .tc := ⟨.hbm, 92, rfl⟩
abbrev main_v59_4 : Ref sig .tc := ⟨.hbm, 93, rfl⟩
abbrev main_v59_5 : Ref sig .tc := ⟨.hbm, 94, rfl⟩
abbrev main_v59_6 : Ref sig .tc := ⟨.hbm, 95, rfl⟩
abbrev main_v59_7 : Ref sig .tc := ⟨.hbm, 96, rfl⟩
abbrev main_while0c_c_19 : Ref sig .tc := ⟨.hbm, 97, rfl⟩
abbrev main_while0c_v81 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_c_1 : Ref sig .tc := ⟨.hbm, 101, rfl⟩
abbrev main_while0b_call2_c_2 : Ref sig .tc := ⟨.hbm, 102, rfl⟩
abbrev main_while0b_call2_v0 : Ref sig .tc := ⟨.hbm, 103, rfl⟩
abbrev main_while0b_v81 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_c_2 : Ref sig .tc := ⟨.hbm, 108, rfl⟩
abbrev main_while0b_call3_v0 : Ref sig .tc := ⟨.hbm, 109, rfl⟩
abbrev main_while0b_v82 : Ref sig .tc := ⟨.hbm, 110, rfl⟩
abbrev main_while0b_call4_c : Ref sig .tc := ⟨.hbm, 111, rfl⟩
abbrev main_while0b_call4_c_0 : Ref sig .tc := ⟨.hbm, 112, rfl⟩
abbrev main_while0b_call4_c_1 : Ref sig .tc := ⟨.hbm, 113, rfl⟩
abbrev main_while0b_call4_c_2 : Ref sig .tc := ⟨.hbm, 114, rfl⟩
abbrev main_while0b_call4_v0 : Ref sig .tc := ⟨.hbm, 115, rfl⟩
abbrev main_while0b_v83 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_c_2 : Ref sig .tc := ⟨.hbm, 120, rfl⟩
abbrev main_while0b_call5_v0 : Ref sig .tc := ⟨.hbm, 121, rfl⟩
abbrev main_while0b_v84 : Ref sig .tc := ⟨.hbm, 122, rfl⟩
abbrev main_while0b_call6_call0_cst : Ref sig .tc := ⟨.hbm, 123, rfl⟩
abbrev main_while0b_call6_call0_v0 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_v88 : Ref sig .tc := ⟨.hbm, 128, rfl⟩
abbrev main_while0b_v89 : Ref sig .tc := ⟨.hbm, 129, rfl⟩
abbrev main_while0b_v90 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_cst_19 : Ref sig .tc := ⟨.hbm, 134, rfl⟩
abbrev main_while0b_call7_v0 : Ref sig .tc := ⟨.hbm, 135, rfl⟩
abbrev main_while0b_call7_v1 : Ref sig .tc := ⟨.hbm, 136, rfl⟩
abbrev main_while0b_call7_v2 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_cst_20 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_v109 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_call8_v0 : Ref sig .tc := ⟨.hbm, 163, rfl⟩
abbrev main_while0b_call8_c : Ref sig .tc := ⟨.hbm, 164, rfl⟩
abbrev main_while0b_call8_c_0 : Ref sig .tc := ⟨.hbm, 165, rfl⟩
abbrev main_while0b_call8_c_1 : Ref sig .tc := ⟨.hbm, 166, rfl⟩
abbrev main_while0b_call8_c_2 : Ref sig .tc := ⟨.hbm, 167, rfl⟩
abbrev main_while0b_v118 : Ref sig .tc := ⟨.hbm, 168, rfl⟩
abbrev main_while0b_c_21 : Ref sig .tc := ⟨.hbm, 169, rfl⟩
abbrev main_while0b_v119 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_cst_9 : Ref sig .tc := ⟨.hbm, 175, rfl⟩
abbrev main_v64 : Ref sig .tc := ⟨.hbm, 176, rfl⟩
abbrev main_v65 : Ref sig .tc := ⟨.hbm, 177, rfl⟩
abbrev main_cst_10 : Ref sig .tc := ⟨.hbm, 178, rfl⟩
abbrev main_v66 : Ref sig .tc := ⟨.hbm, 179, rfl⟩
abbrev main_v67 : Ref sig .tc := ⟨.hbm, 180, rfl⟩
abbrev main_cst_11 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_call9_v0 : Ref sig .tc := ⟨.hbm, 191, rfl⟩
abbrev main_call9_v1 : Ref sig .tc := ⟨.hbm, 192, rfl⟩
abbrev main_call9_cst : Ref sig .tc := ⟨.hbm, 193, rfl⟩
abbrev main_call9_v2 : Ref sig .tc := ⟨.hbm, 194, rfl⟩
abbrev main_call9_v3 : Ref sig .tc := ⟨.hbm, 195, rfl⟩
abbrev main_call9_cst_0 : Ref sig .tc := ⟨.hbm, 196, rfl⟩
abbrev main_call9_v4 : Ref sig .tc := ⟨.hbm, 197, rfl⟩
abbrev main_call9_v5 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩

abbrev nD : Nat := 1
abbrev τ : Topo := Topo.v7x

variable {F : FTy → Type} [FloatOps F]

abbrev main_while0_count : Scf.Loop 32 := ⟨0#32, 64#32, 1#32⟩
-- ==== Proof.Tool.Columns.lean ====
module

public import Idealize.ShloMosaic.Lib.Pipeline.ValueKit

@[expose] public section

/-!
# Matrices set side by side

An array that a concatenation along the columns makes holds, from a piece's first column on, that piece.
-/

namespace Cert.Columns

open Idealize.ShloMosaic

/-- At the column `pre + k`, where `pre` is the width of the pieces before piece `j`, a concatenation along the columns
    holds piece `j`'s column `k`. -/
theorem concat_apply {α : Type} {R C w : ℕ} (xs : List ((s : Shape) × (s.Idx → α)))
    (h : Shape.Concatenates (xs.map (·.1)) ⟨2, ![R, C]⟩ 1) (i : Fin R) (l : Fin C) (j : ℕ) (hj : j < xs.length)
    (x : (⟨2, ![R, w]⟩ : Shape).Idx → α) (hx : xs[j] = ⟨⟨2, ![R, w]⟩, x⟩) (pre : ℕ)
    (hpre : (((xs.take j).map (·.1)).map fun s => if h : s.rank = (⟨2, ![R, C]⟩ : Shape).rank then s.size ((1 : Fin 2).cast h.symm) else 0).sum = pre)
    (k : Fin w) (hk : pre + k.val = l.val) :
    concatenate ⟨2, ![R, C]⟩ 1 xs h (ix2 i l) = x (ix2 i k) := by
  refine concatenate_apply_piece (t := ⟨2, ![R, C]⟩) 1 xs h (ix2 i l) j hj ⟨2, ![R, w]⟩ x hx rfl pre hpre (ix2 i k) ?_ hk
  intro b hb
  fin_cases b
  · rfl
  · exact absurd rfl hb

end Cert.Columns

end
-- ==== Proof.Att.Body.lean ====
module

public import proofs.«01_k».proof.Proof.Gen.KernelIdeal.Value

@[expose] public section

/-!
# What one grid point of the attention call computes

The body treats eight pairs of heads one after the other. Its text is the same for each pair; here it is written once,
and every payload the body stores is shown to be that one text at the pair's queries and sinks.
-/

set_option maxRecDepth 16384

noncomputable section

namespace Cert.KernelIdeal.Att

open Cert.KernelIdeal Cert.KernelIdeal.Gen Idealize.ShloMosaic Idealize.SL.Sem

variable {F : FTy → Type} [FloatOps F] [Named F]

/-- The rotation of one block: the block times the cosines plus its rotated halves times the signed sines. -/
def rope (x cos sin : FVec F S128x128 .f32) : FVec F S128x128 .f32 :=
  addf (mulf x cos)
    (mulf (select k0_pay2 (dynamicRotate 1 96#32 none x rotates_S128x128_d1) (dynamicRotate 1 32#32 none x rotates_S128x128_d1)) sin)

/-- The rotated keys of the block before and of the block itself. -/
def kband (kp kc cp sp cc sc : FVec F S128x128 .f32) : FVec F S256x128 .f32 :=
  concatenate S256x128 0 [⟨S128x128, rope kp cp sp⟩, ⟨S128x128, rope kc cc sc⟩] concatenates_S128x128_S128x128_S256x128_d0

/-- The values of the block before and of the block itself. -/
def vband (vp vc : FVec F S128x128 .f32) : FVec F S256x128 .f32 :=
  concatenate S256x128 0 [⟨S128x128, vp⟩, ⟨S128x128, vc⟩] concatenates_S128x128_S128x128_S256x128_d0

/-- The first head's 64 lanes in both halves. -/
def dup0 (x : FVec F S256x128 .f32) : FVec F S256x128 .bf16 :=
  truncf .bf16 (select k0_pay9 x (dynamicRotate 1 64#32 none x rotates_S256x128_d1)) bitsLt_bf16_f32

/-- The second head's 64 lanes in both halves. -/
def dup1 (x : FVec F S256x128 .f32) : FVec F S256x128 .bf16 :=
  truncf .bf16 (select k0_pay9 (dynamicRotate 1 64#32 none x rotates_S256x128_d1) x) bitsLt_bf16_f32

/-- The masked logits of one head, its lanes chosen by `sel`. -/
def logits (kd : FVec F S256x128 .bf16) (valid : IVec S128x256 1) (sel : IVec S128x128 1) (q : FVec F S128x128 .f32) :
    FVec F S128x256 .f32 :=
  select valid
    (mulf (matmul dot_S128x128_S256x128_S128x256_1_1_0_0_n_n none
        (truncf .bf16 (select sel q (broadcast S128x128 (Scalar.ofBits .f32 0x00000000#32))) bitsLt_bf16_f32) kd
        (constant S128x256 .f32 0x00000000#32))
      (broadcast S128x256 (Scalar.ofBits .f32 0x3E000000#32)))
    (broadcast S128x256 (Named.named κ "mask" 0xF149F2CA#32))

/-- A row's maximum, the sink counted. -/
def rowMax (lg : FVec F S128x256 .f32) (sink : F .f32) : FVec F S128x1 .f32 :=
  maximumf (shapeCast S128x1 (multiReduction .maximumf [1] S128 lg 0xFF800000#32 reduces_S128x256_S128 (.inl rfl) rfl) shapeCasts_S128_S128x1)
    (broadcast S128x1 sink)

/-- The unnormalised probabilities. -/
def probs (lg : FVec F S128x256 .f32) (sink : F .f32) : FVec F S128x256 .f32 :=
  exp (subf lg (broadcastTo S128x256 (rowMax lg sink) broadcasts_S128x1_S128x256))

/-- Their sum, the sink counted. -/
def denom (lg : FVec F S128x256 .f32) (sink : F .f32) : FVec F S128x1 .f32 :=
  addf (shapeCast S128x1 (multiReduction .add [1] S128 (probs lg sink) 0x00000000#32 reduces_S128x256_S128 (.inl rfl) rfl) shapeCasts_S128_S128x1)
    (exp (subf (broadcast S128x1 sink) (rowMax lg sink)))

/-- One head: the probabilities times the values, divided by their sum. -/
def half (vd : FVec F S256x128 .bf16) (lg : FVec F S128x256 .f32) (sink : F .f32) : FVec F S128x128 .f32 :=
  divf (matmul dot_S128x256_S256x128_S128x128_1_0_0_1_n_n none (truncf .bf16 (probs lg sink) bitsLt_bf16_f32) vd
      (constant S128x128 .f32 0x00000000#32))
    (broadcastTo S128x128 (denom lg sink) broadcasts_S128x1_S128x128)

/-- The lanes below 64. -/
def low : IVec S128x128 1 := k0_pay17 (iota .tc S128x128 32 [1] iota_S128x128_d1_w32)

/-- The lanes from 64 on. -/
def high : IVec S128x128 1 := xori low (constantI S128x128 1 1#1)

/-- A pair of heads: the even head in the lanes below 64, the odd one in the rest. -/
def pair (kd vd : FVec F S256x128 .bf16) (valid : IVec S128x256 1) (q : FVec F S128x128 .f32) (s0 s1 : F .f32) :
    FVec F S128x128 .bf16 :=
  truncf .bf16 (select low (half vd (logits kd valid low q) s0) (half vd (logits kd valid high q) s1)) bitsLt_bf16_f32

end Cert.KernelIdeal.Att

end
-- ==== Proof.Att.Soft.lean ====
module

public import Idealize.ShloMosaic.Lib.Pointwise

@[expose] public section

/-!
# A softmax with a sink over the extended reals

`att` divides once, after the product with the values; `attRef` divides every weight. The two agree when the greatest
logit, the sink counted, is a real number.
-/

noncomputable section

namespace Cert.Att

open Idealize.ShloMosaic

/-- The greatest of the logits and the sink. -/
def top {n : ℕ} (lg : Fin n → EReal) (s : EReal) : EReal := max (Finset.univ.fold max ⊥ lg) s

/-- One row of attention, divided after the product. -/
def att {n : ℕ} (lg v : Fin n → EReal) (s : EReal) : EReal :=
  Ideal.div (∑ k, Ideal.exp (lg k - top lg s) * v k) (∑ k, Ideal.exp (lg k - top lg s) + Ideal.exp (s - top lg s))

/-- One row of attention, every weight divided. -/
def attRef {n : ℕ} (lg v : Fin n → EReal) (s : EReal) : EReal :=
  ∑ k, Ideal.div (Ideal.exp (lg k - top lg s)) (∑ k, Ideal.exp (lg k - top lg s) + Ideal.exp (s - top lg s)) * v k

theorem exp_nonneg (x : EReal) : 0 ≤ Ideal.exp x := by
  induction x with
  | bot => exact le_refl _
  | top => exact le_top
  | coe r => exact EReal.coe_nonneg.mpr (Real.exp_pos r).le

theorem exp_zero : Ideal.exp 0 = 1 := by
  show ((Real.exp 0 : ℝ) : EReal) = 1
  simp

/-- A masked key has the weight zero. -/
theorem exp_masked (m : EReal) : Ideal.exp (⊥ - m) = 0 := by
  rw [sub_eq_add_neg, EReal.bot_add]; rfl

/-- The row depends on the values only at the keys that are not masked. -/
theorem att_congr {n : ℕ} (lg v v' : Fin n → EReal) (s : EReal) (h : ∀ k, lg k ≠ ⊥ → v k = v' k) :
    att lg v s = att lg v' s := by
  unfold att
  congr 1
  refine Finset.sum_congr rfl fun k _ => ?_
  by_cases hk : lg k = ⊥
  · rw [hk, exp_masked, zero_mul, zero_mul]
  · rw [h k hk]

theorem fold_max_eq_sup {n : ℕ} (lg : Fin n → EReal) : Finset.univ.fold max ⊥ lg = Finset.univ.sup lg := rfl

/-- The maximum is one of the logits or the sink, or nothing is above `⊥`. -/
theorem top_mem {n : ℕ} (lg : Fin n → EReal) (s : EReal) : top lg s = s ∨ ∃ k, top lg s = lg k := by
  unfold top
  rw [fold_max_eq_sup]
  rcases max_choice (Finset.univ.sup lg) s with h | h
  · rw [h]
    rcases Finset.univ.eq_empty_or_nonempty (α := Fin n) with he | hne
    · left
      rw [he, Finset.sup_empty] at h ⊢
      exact (le_bot_iff.mp (max_eq_left_iff.mp h)).symm
    · obtain ⟨k, _, hk⟩ := Finset.exists_mem_eq_sup _ hne lg
      exact .inr ⟨k, hk⟩
  · exact .inl h

theorem top_real {n : ℕ} (lg : Fin n → EReal) (s : EReal) (hs : s ≠ ⊥) (hs' : s ≠ ⊤) (hl : ∀ k, lg k ≠ ⊤) :
    top lg s ≠ ⊥ ∧ top lg s ≠ ⊤ := by
  refine ⟨fun h => hs ?_, fun h => ?_⟩
  · exact le_bot_iff.mp (h ▸ le_max_right _ _)
  · rcases top_mem lg s with h' | ⟨k, h'⟩
    · exact hs' (h' ▸ h)
    · exact hl k (h' ▸ h)

/-- The sum of the weights is at least one where the maximum is a real number. -/
theorem one_le_denom {n : ℕ} (lg : Fin n → EReal) (s : EReal) (h0 : top lg s ≠ ⊥) (h1 : top lg s ≠ ⊤) :
    1 ≤ ∑ k, Ideal.exp (lg k - top lg s) + Ideal.exp (s - top lg s) := by
  have hself : ∀ x, top lg s = x → Ideal.exp (x - top lg s) = 1 := fun x hx => by
    rw [← hx, EReal.sub_self h1 h0, exp_zero]
  rcases top_mem lg s with h | ⟨k, h⟩
  · rw [hself s h]
    exact le_add_of_nonneg_left (Finset.sum_nonneg fun k _ => exp_nonneg _)
  · refine le_trans ?_ (le_add_of_nonneg_right (exp_nonneg _))
    rw [← hself _ h]
    exact Finset.single_le_sum (f := fun k => Ideal.exp (lg k - top lg s)) (fun k _ => exp_nonneg _) (Finset.mem_univ k)

theorem sum_mul_const {n : ℕ} (f : Fin n → EReal) (c : EReal) (h0 : 0 ≤ c) (h1 : c ≠ ⊤) :
    (∑ k, f k) * c = ∑ k, f k * c := by
  classical
  induction (Finset.univ : Finset (Fin n)) using Finset.induction_on with
  | empty => simp
  | insert a t ha ih => rw [Finset.sum_insert ha, Finset.sum_insert ha, EReal.right_distrib_of_nonneg_of_ne_top h0 h1, ih]

/-- Dividing once or dividing every weight is the same. -/
theorem attRef_eq {n : ℕ} (lg v : Fin n → EReal) (s : EReal) (h0 : top lg s ≠ ⊥) (h1 : top lg s ≠ ⊤) :
    attRef lg v s = att lg v s := by
  have hd := one_le_denom lg s h0 h1
  unfold attRef att
  generalize ∑ k, Ideal.exp (lg k - top lg s) + Ideal.exp (s - top lg s) = d at hd ⊢
  have hd0 : d ≠ 0 := fun h => by rw [h] at hd; exact absurd hd (by norm_num)
  have hpos : 0 ≤ d⁻¹ := EReal.inv_nonneg_of_nonneg (le_trans zero_le_one hd)
  have hfin : d⁻¹ ≠ ⊤ := by
    intro h
    induction d with
    | bot => simp at h
    | top => simp at h
    | coe r => rw [← EReal.coe_inv] at h; exact EReal.coe_ne_top _ h
  simp only [Ideal.div, if_neg hd0]
  rw [sum_mul_const _ _ hpos hfin]
  refine Finset.sum_congr rfl fun k _ => ?_
  rw [mul_assoc, mul_assoc, mul_comm d⁻¹]

end Cert.Att

end
-- ==== Proof.Att.Head.lean ====
module

public import proofs.«01_k».proof.Proof.Att.Body
public import proofs.«01_k».proof.Proof.Att.Soft

@[expose] public section

set_option maxRecDepth 16384

noncomputable section

namespace Cert.KernelIdeal.Att

open Cert.KernelIdeal Cert.KernelIdeal.Gen Idealize.ShloMosaic Idealize.SL.Sem

/-- The first half of each 64 lanes, as a mask. -/
theorem pay2_apply (r l : Fin 128) : k0_pay2 (ix2 r l) = if l.val % 64 < 32 then 1#1 else 0#1 := by
  have key : ∀ l : Fin 128, k0_pay2 (ix2 (0 : Fin 128) l) = if l.val % 64 < 32 then 1#1 else 0#1 := by decide +kernel
  exact key l

theorem pay9_apply (r : Fin 256) (l : Fin 128) : k0_pay9 (ix2 r l) = if l.val < 64 then 1#1 else 0#1 := by
  have key : ∀ l : Fin 128, k0_pay9 (ix2 (0 : Fin 256) l) = if l.val < 64 then 1#1 else 0#1 := by decide +kernel
  exact key l

theorem low_apply (r l : Fin 128) : low (ix2 r l) = if l.val < 64 then 1#1 else 0#1 := by
  have key : ∀ l : Fin 128, low (ix2 (0 : Fin 128) l) = if l.val < 64 then 1#1 else 0#1 := by decide +kernel
  exact key l

theorem high_apply (r l : Fin 128) : high (ix2 r l) = if l.val < 64 then 0#1 else 1#1 := by
  have key : ∀ l : Fin 128, high (ix2 (0 : Fin 128) l) = if l.val < 64 then 0#1 else 1#1 := by decide +kernel
  exact key l

/-- The rotation at an index: the partner lane is 32 further in the first half of each 64 lanes and 32 back in the other. -/
theorem rope_apply (x c s : FVec Ideal S128x128 .f32) (r l : Fin 128) :
    rope x c s (ix2 r l) = x (ix2 r l) * c (ix2 r l)
      + (if l.val % 64 < 32 then x (ix2 r ⟨(l.val + 128 - 96) % 128, Nat.mod_lt _ (by decide)⟩)
          else x (ix2 r ⟨(l.val + 128 - 32) % 128, Nat.mod_lt _ (by decide)⟩)) * s (ix2 r l) := by
  unfold rope
  pointwise [pay2_apply]
  split_ifs <;> rfl

/-- The band of keys at an index: the block before in the rows below 128. -/
theorem kband_apply (kp kc cp sp cc sc : FVec Ideal S128x128 .f32) (r : Fin 256) (l : Fin 128) :
    kband kp kc cp sp cc sc (ix2 r l)
      = if h : r.val < 128 then rope kp cp sp (ix2 ⟨r.val, h⟩ l) else rope kc cc sc (ix2 ⟨r.val - 128, by omega⟩ l) := by
  unfold kband
  pointwise

/-- The band of values at an index. -/
theorem vband_apply (vp vc : FVec Ideal S128x128 .f32) (r : Fin 256) (l : Fin 128) :
    vband vp vc (ix2 r l) = if h : r.val < 128 then vp (ix2 ⟨r.val, h⟩ l) else vc (ix2 ⟨r.val - 128, by omega⟩ l) := by
  unfold vband
  pointwise

theorem dup0_apply (x : FVec Ideal S256x128 .f32) (r : Fin 256) (l : Fin 128) :
    dup0 x (ix2 r l) = x (ix2 r ⟨l.val % 64, by omega⟩) := by
  unfold dup0
  pointwise [pay9_apply]
  split_ifs with h
  · show x _ = x _
    congr 1; congr 1; apply Fin.ext; show l.val = l.val % 64; omega
  · show x _ = x _
    congr 1; congr 1; apply Fin.ext; show (l.val + 128 - 64) % 128 = l.val % 64; omega

theorem dup1_apply (x : FVec Ideal S256x128 .f32) (r : Fin 256) (l : Fin 128) :
    dup1 x (ix2 r l) = x (ix2 r ⟨64 + l.val % 64, by omega⟩) := by
  unfold dup1
  pointwise [pay9_apply]
  split_ifs with h
  · show x _ = x _
    congr 1; congr 1; apply Fin.ext; show (l.val + 128 - 64) % 128 = 64 + l.val % 64; omega
  · show x _ = x _
    congr 1; congr 1; apply Fin.ext; show l.val = 64 + l.val % 64; omega

/-- The constant that stands for minus infinity. -/
theorem mask_eq : (Named.named κ "mask" 0xF149F2CA#32 : Ideal .f32) = ⊥ :=
  IdealRules.named_const.ideal_named_scalar _ _ _ _ rfl

theorem negInf_eq : Ideal.ofBits .f32 0xFF800000#32 = ⊥ := by simp [Ideal.ofBits, Ideal.ieee]

/-- The masked logits at an index, as a sum over all lanes. -/
theorem logits_apply (kd : FVec Ideal S256x128 .bf16) (valid : IVec S128x256 1) (sel : IVec S128x128 1) (q : FVec Ideal S128x128 .f32)
    (r : Fin 128) (k : Fin 256) :
    logits kd valid sel q (ix2 r k) = Scalar.select (valid (ix2 r k))
      ((∑ l : Fin 128, Scalar.select (sel (ix2 r l)) (q (ix2 r l) * kd (ix2 k l)) 0) * Ideal.ofBits .f32 0x3E000000#32) ⊥ := by
  unfold logits
  pointwise [mask_eq]

theorem rowMax_apply (lg : FVec Ideal S128x256 .f32) (sink : Ideal .f32) (r : Fin 128) (z : Fin 1) :
    rowMax lg sink (ix2 r z) = Cert.Att.top (fun k : Fin 256 => lg (ix2 r k)) sink := by
  unfold rowMax Cert.Att.top
  pointwise [negInf_eq]

/-- One head's row is the row of attention. -/
theorem half_apply (vd : FVec Ideal S256x128 .bf16) (lg : FVec Ideal S128x256 .f32) (sink : Ideal .f32) (r l : Fin 128) :
    half vd lg sink (ix2 r l) = Cert.Att.att (fun k : Fin 256 => lg (ix2 r k)) (fun k => vd (ix2 k l)) sink := by
  unfold half denom probs Cert.Att.att
  pointwise [rowMax_apply]

/-- A sum over 128 lanes of which the first 64 count. -/
theorem sum_low (f : Fin 128 → EReal) (r : Fin 128) :
    ∑ l : Fin 128, Scalar.select (low (ix2 r l)) (f l) 0 = ∑ d : Fin 64, f ⟨d.val, by omega⟩ := by
  rw [show (∑ l : Fin 128, Scalar.select (low (ix2 r l)) (f l) 0)
    = ∑ l : Fin (64 + 64), Scalar.select (low (ix2 r l)) (f l) 0 from rfl, Fin.sum_univ_add]
  have h0 : ∀ i : Fin 64, low (ix2 r (Fin.castAdd 64 i)) = 1#1 := fun i => by
    rw [low_apply]; exact if_pos i.isLt
  have h1 : ∀ i : Fin 64, low (ix2 r (Fin.natAdd 64 i)) = 0#1 := fun i => by
    rw [low_apply]; exact if_neg (by simp)
  simp only [h0, h1]
  show _ + ∑ i : Fin 64, (0 : EReal) = _
  rw [Finset.sum_const_zero, add_zero]
  rfl

/-- A sum over 128 lanes of which the last 64 count. -/
theorem sum_high (f : Fin 128 → EReal) (r : Fin 128) :
    ∑ l : Fin 128, Scalar.select (high (ix2 r l)) (f l) 0 = ∑ d : Fin 64, f ⟨64 + d.val, by omega⟩ := by
  rw [show (∑ l : Fin 128, Scalar.select (high (ix2 r l)) (f l) 0)
    = ∑ l : Fin (64 + 64), Scalar.select (high (ix2 r l)) (f l) 0 from rfl, Fin.sum_univ_add]
  have h0 : ∀ i : Fin 64, high (ix2 r (Fin.castAdd 64 i)) = 0#1 := fun i => by
    rw [high_apply]; exact if_pos i.isLt
  have h1 : ∀ i : Fin 64, high (ix2 r (Fin.natAdd 64 i)) = 1#1 := fun i => by
    rw [high_apply]; exact if_neg (by simp)
  simp only [h0, h1]
  show ∑ i : Fin 64, (0 : EReal) + _ = _
  rw [Finset.sum_const_zero, zero_add]
  rfl

/-- A pair of heads at an index. `o` is the first lane of the key head. -/
theorem pair_apply (kd vd : FVec Ideal S256x128 .bf16) (kb vb : FVec Ideal S256x128 .f32) (o : ℕ) (ho : o ≤ 64)
    (hk : ∀ r l, kd (ix2 r l) = kb (ix2 r ⟨o + l.val % 64, by omega⟩))
    (hv : ∀ r l, vd (ix2 r l) = vb (ix2 r ⟨o + l.val % 64, by omega⟩))
    (valid : IVec S128x256 1) (q : FVec Ideal S128x128 .f32) (s0 s1 : Ideal .f32) (r l : Fin 128) :
    pair kd vd valid q s0 s1 (ix2 r l)
      = Cert.Att.att (fun k : Fin 256 => Scalar.select (valid (ix2 r k))
            ((∑ d : Fin 64, q (ix2 r ⟨64 * (l.val / 64) + d.val, by omega⟩) * kb (ix2 k ⟨o + d.val, by omega⟩))
              * Ideal.ofBits .f32 0x3E000000#32) ⊥)
          (fun k => vb (ix2 k ⟨o + l.val % 64, by omega⟩)) (if l.val < 64 then s0 else s1) := by
  unfold pair
  pointwise [low_apply, half_apply, logits_apply]
  simp only [sum_low, sum_high, hk, hv]
  by_cases h : l.val < 64
  · have e : l.val / 64 = 0 := by omega
    simp only [if_pos h, e]
    refine congrArg₂ (fun a b => Cert.Att.att a b _) (funext fun k => ?_) rfl
    refine congrArg (fun x : EReal => Scalar.select (valid (ix2 r k)) (x * Ideal.ofBits .f32 0x3E000000#32) (⊥ : EReal)) ?_
    simp only [Finset.sum_const_zero, add_zero]
    refine Finset.sum_congr rfl fun d _ => ?_
    congr 3 <;> apply Fin.ext <;> dsimp only <;> omega
  · have e : l.val / 64 = 1 := by omega
    simp only [if_neg h, e]
    refine congrArg₂ (fun a b => Cert.Att.att a b _) (funext fun k => ?_) rfl
    refine congrArg (fun x : EReal => Scalar.select (valid (ix2 r k)) (x * Ideal.ofBits .f32 0x3E000000#32) (⊥ : EReal)) ?_
    refine Finset.sum_congr rfl fun d _ => ?_
    congr 3 <;> apply Fin.ext <;> dsimp only <;> omega

end Cert.KernelIdeal.Att

end
-- ==== Proof.Att.Mask.lean ====
module

public import proofs.«01_k».proof.Proof.Att.Body
public import proofs.«01_k».proof.Proof.Att.Soft

@[expose] public section

set_option maxRecDepth 16384

noncomputable section

namespace Cert.KernelIdeal.Att

open Cert.KernelIdeal Cert.KernelIdeal.Gen Idealize.ShloMosaic Idealize.SL.Sem

/-- Key `k` of the band is visible to query `r`: inside the window, and not before the sequence's start. -/
theorem valid_apply (n : BitVec 32) (r : Fin 128) (k : Fin 256) :
    k0_pay16 n (ix2 r k) = (if k.val ≤ r.val + 128 ∧ r.val < k.val then 1#1 else 0#1)
      &&& ((if 128 ≤ k.val then 1#1 else 0#1) ||| Scalar.cmpi .sgt n 0#32) := by
  have key : ∀ r : Fin 128, ∀ k : Fin 256,
    IntOp.andi (IntOp.cmpi .sge (IntOp.subi (IntOp.addi (BitVec.ofNat 32 r.val) 128#32) (BitVec.ofNat 32 k.val)) 0#32)
        (IntOp.cmpi .slt (IntOp.subi (IntOp.addi (BitVec.ofNat 32 r.val) 128#32) (BitVec.ofNat 32 k.val)) 128#32)
     = if k.val ≤ r.val + 128 ∧ r.val < k.val then 1#1 else 0#1 := by decide +kernel
  have key2 : ∀ k : Fin 256, IntOp.cmpi .sge (BitVec.ofNat 32 k.val) 128#32 = if 128 ≤ k.val then 1#1 else 0#1 := by decide +kernel
  pointwise [k0_pay16]
  rw [key, key2]
  rfl

end Cert.KernelIdeal.Att

end
-- ==== Proof.Att.Out.lean ====
module

public import proofs.«01_k».proof.Proof.Att.Body
public import Idealize.ShloMosaic.Lib.Pipeline.Value

@[expose] public section

set_option maxRecDepth 16384

noncomputable section

namespace Cert.KernelIdeal.Att

open Cert.KernelIdeal Cert.KernelIdeal.Gen Idealize.ShloMosaic Idealize.ShloMosaic.TcCoe Idealize.SL.Sem Idealize.ShloMosaic.Tactic
open Idealize.ShloMosaic.Pipeline (Dat)

variable {F : FTy → Type} [FloatOps F] [Named F]

/-- A whole 128×128 block as the body loads it. -/
def ldb (x : Vec F S128x128 .f32) : FVec F S128x128 .f32 :=
  shapeCast S128x128 (View.ld (Val := Elt F) (e' := .f32) x (Rect.unit ![0, 0] ![128, 128] inb_S128x128_S128x128_0_0)) shapeCasts_S128x128_S128x128

/-- The queries of one pair of heads as the body loads them. -/
def ldq (x : Vec F S128x1024 .f32) (o : ℕ) (h : ∀ a, (![0, o] : Fin 2 → ℕ) a + (![128, 128] : Fin 2 → ℕ) a ≤ S128x1024.size a) :
    FVec F S128x128 .f32 :=
  shapeCast S128x128 (View.ld (Val := Elt F) (e' := .f32) x (Rect.unit ![0, o] ![128, 128] h)) shapeCasts_S128x128_S128x128

/-- The band of keys of a point. -/
def kb (x2 x3 x6 x7 x8 x9 : Vec F S128x128 .f32) : FVec F S256x128 .f32 :=
  kband (ldb x3) (ldb x2) (ldb x8) (ldb x9) (ldb x6) (ldb x7)

/-- The band of values of a point. -/
def vb (x4 x5 : Vec F S128x128 .f32) : FVec F S256x128 .f32 := vband (ldb x5) (ldb x4)

/-- What the body leaves in the output's buffer: eight pairs of heads side by side. -/
theorem out_eq (c : Dev nD) (i : grid0.Coords) (arg2 : Memref sig .tc .smem S16 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x1024 .bf16) (harg12 : arg12.IsWhole) (x0 : Vec F S16 .f32) (x1 : Vec F S128x1024 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 = View.canon (Val := Elt F) (s := S128x1024) (e := .bf16)
      [⟨Rect.unit ![0, 896] ![128, 128] inb_S128x1024_S128x128_0_896,
          pair (dup1 (kb x2 x3 x6 x7 x8 x9)) (dup1 (vb x4 x5)) (k0_pay16 (BitVec.ofNat 32 ↑(i 1)))
            (rope (ldq x1 896 inb_S128x1024_S128x128_0_896) (ldb x6) (ldb x7))
            (View.ld (Val := Elt F) (e' := .f32) x0 (Rect.unit ![14] ![1] inb_S16_S1_14) (Shape.Idx.first (by decide)))
            (View.ld (Val := Elt F) (e' := .f32) x0 (Rect.unit ![15] ![1] inb_S16_S1_15) (Shape.Idx.first (by decide)))⟩,
        ⟨Rect.unit ![0, 768] ![128, 128] inb_S128x1024_S128x128_0_768,
          pair (dup1 (kb x2 x3 x6 x7 x8 x9)) (dup1 (vb x4 x5)) (k0_pay16 (BitVec.ofNat 32 ↑(i 1)))
            (rope (ldq x1 768 inb_S128x1024_S128x128_0_768) (ldb x6) (ldb x7))
            (View.ld (Val := Elt F) (e' := .f32) x0 (Rect.unit ![12] ![1] inb_S16_S1_12) (Shape.Idx.first (by decide)))
            (View.ld (Val := Elt F) (e' := .f32) x0 (Rect.unit ![13] ![1] inb_S16_S1_13) (Shape.Idx.first (by decide)))⟩,
        ⟨Rect.unit ![0, 640] ![128, 128] inb_S128x1024_S128x128_0_640,
          pair (dup1 (kb x2 x3 x6 x7 x8 x9)) (dup1 (vb x4 x5)) (k0_pay16 (BitVec.ofNat 32 ↑(i 1)))
            (rope (ldq x1 640 inb_S128x1024_S128x128_0_640) (ldb x6) (ldb x7))
            (View.ld (Val := Elt F) (e' := .f32) x0 (Rect.unit ![10] ![1] inb_S16_S1_10) (Shape.Idx.first (by decide)))
            (View.ld (Val := Elt F) (e' := .f32) x0 (Rect.unit ![11] ![1] inb_S16_S1_11) (Shape.Idx.first (by decide)))⟩,
        ⟨Rect.unit ![0, 512] ![128, 128] inb_S128x1024_S128x128_0_512,
          pair (dup1 (kb x2 x3 x6 x7 x8 x9)) (dup1 (vb x4 x5)) (k0_pay16 (BitVec.ofNat 32 ↑(i 1)))
            (rope (ldq x1 512 inb_S128x1024_S128x128_0_512) (ldb x6) (ldb x7))
            (View.ld (Val := Elt F) (e' := .f32) x0 (Rect.unit ![8] ![1] inb_S16_S1_8) (Shape.Idx.first (by decide)))
            (View.ld (Val := Elt F) (e' := .f32) x0 (Rect.unit ![9] ![1] inb_S16_S1_9) (Shape.Idx.first (by decide)))⟩,
        ⟨Rect.unit ![0, 384] ![128, 128] inb_S128x1024_S128x128_0_384,
          pair (dup0 (kb x2 x3 x6 x7 x8 x9)) (dup0 (vb x4 x5)) (k0_pay16 (BitVec.ofNat 32 ↑(i 1)))
            (rope (ldq x1 384 inb_S128x1024_S128x128_0_384) (ldb x6) (ldb x7))
            (View.ld (Val := Elt F) (e' := .f32) x0 (Rect.unit ![6] ![1] inb_S16_S1_6) (Shape.Idx.first (by decide)))
            (View.ld (Val := Elt F) (e' := .f32) x0 (Rect.unit ![7] ![1] inb_S16_S1_7) (Shape.Idx.first (by decide)))⟩,
        ⟨Rect.unit ![0, 256] ![128, 128] inb_S128x1024_S128x128_0_256,
          pair (dup0 (kb x2 x3 x6 x7 x8 x9)) (dup0 (vb x4 x5)) (k0_pay16 (BitVec.ofNat 32 ↑(i 1)))
            (rope (ldq x1 256 inb_S128x1024_S128x128_0_256) (ldb x6) (ldb x7))
            (View.ld (Val := Elt F) (e' := .f32) x0 (Rect.unit ![4] ![1] inb_S16_S1_4) (Shape.Idx.first (by decide)))
            (View.ld (Val := Elt F) (e' := .f32) x0 (Rect.unit ![5] ![1] inb_S16_S1_5) (Shape.Idx.first (by decide)))⟩,
        ⟨Rect.unit ![0, 128] ![128, 128] inb_S128x1024_S128x128_0_128,
          pair (dup0 (kb x2 x3 x6 x7 x8 x9)) (dup0 (vb x4 x5)) (k0_pay16 (BitVec.ofNat 32 ↑(i 1)))
            (rope (ldq x1 128 inb_S128x1024_S128x128_0_128) (ldb x6) (ldb x7))
            (View.ld (Val := Elt F) (e' := .f32) x0 (Rect.unit ![2] ![1] inb_S16_S1_2) (Shape.Idx.first (by decide)))
            (View.ld (Val := Elt F) (e' := .f32) x0 (Rect.unit ![3] ![1] inb_S16_S1_3) (Shape.Idx.first (by decide)))⟩,
        ⟨Rect.unit ![0, 0] ![128, 128] inb_S128x1024_S128x128_0_0,
          pair (dup0 (kb x2 x3 x6 x7 x8 x9)) (dup0 (vb x4 x5)) (k0_pay16 (BitVec.ofNat 32 ↑(i 1)))
            (rope (ldq x1 0 inb_S128x1024_S128x128_0_0) (ldb x6) (ldb x7))
            (View.ld (Val := Elt F) (e' := .f32) x0 (Rect.unit ![0] ![1] inb_S16_S1_0) (Shape.Idx.first (by decide)))
            (View.ld (Val := Elt F) (e' := .f32) x0 (Rect.unit ![1] ![1] inb_S16_S1_1) (Shape.Idx.first (by decide)))⟩] := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread]
  rfl

end Cert.KernelIdeal.Att

end
-- ==== Proof.Att.Spec.lean ====
module

public import proofs.«01_k».proof.Proof.Att.Soft

@[expose] public section

/-!
# Sliding-window attention with rotary positions and sinks, at one output

A sequence is cut into 32 blocks of 128 positions; the queries of block `n` see the 256 keys of the band made of the
block before and the block itself. `head` is the output of query `r` of block `n` in head `h` at lane `d`.
-/

noncomputable section

namespace Cert.Att

open Idealize.ShloMosaic

/-- A row of 64 lanes turned by the angles whose cosines and sines are `cs` and `sn`. -/
def rot (x : Fin 64 → EReal) (cs sn : Fin 32 → EReal) (d : Fin 64) : EReal :=
  if h : d.val < 32 then x d * cs ⟨d.val, h⟩ - x ⟨d.val + 32, by omega⟩ * sn ⟨d.val, h⟩
  else x d * cs ⟨d.val - 32, by omega⟩ + x ⟨d.val - 32, by omega⟩ * sn ⟨d.val - 32, by omega⟩

/-- Position of query `r` of block `n`. -/
def queryPos (n : Fin 32) (r : Fin 128) : Fin 4096 := ⟨n.val * 128 + r.val, by omega⟩

/-- Position of key `k` of the band of block `n` (before the sequence's start, where no key is visible: position 0). -/
def keyPos (n : Fin 32) (k : Fin 256) : Fin 4096 := ⟨n.val * 128 + k.val - 128, by omega⟩

/-- Key `k` of the band is in the window of query `r` and not before the sequence's start. -/
def Visible (n : Fin 32) (r : Fin 128) (k : Fin 256) : Prop := (k.val ≤ r.val + 128 ∧ r.val < k.val) ∧ (128 ≤ k.val ∨ 0 < n.val)

instance (n : Fin 32) (r : Fin 128) (k : Fin 256) : Decidable (Visible n r k) := by unfold Visible; infer_instance

/-- The scaled product of the turned query of head `h` at position `s` and the turned key of its group at position `p`. -/
def score (T : Fin 4096 → Fin 5384 → EReal) (cs sn : Fin 4096 → Fin 32 → EReal) (h : Fin 16) (s p : Fin 4096) : EReal :=
  (∑ d : Fin 64, rot (fun d => T s ⟨64 * h.val + d.val, by omega⟩) (cs s) (sn s) d
      * rot (fun d => T p ⟨1024 + 64 * (h.val / 8) + d.val, by omega⟩) (cs p) (sn p) d)
    * Ideal.ofBits .f32 0x3E000000#32

/-- The logits of one query, minus infinity at the keys that are not visible. -/
def logit (T : Fin 4096 → Fin 5384 → EReal) (cs sn : Fin 4096 → Fin 32 → EReal) (n : Fin 32) (r : Fin 128) (h : Fin 16)
    (k : Fin 256) : EReal :=
  if Visible n r k then score T cs sn h (queryPos n r) (keyPos n k) else ⊥

/-- The values of one band at one lane. -/
def value (T : Fin 4096 → Fin 5384 → EReal) (n : Fin 32) (h : Fin 16) (d : Fin 64) (k : Fin 256) : EReal :=
  T (keyPos n k) ⟨1152 + 64 * (h.val / 8) + d.val, by omega⟩

/-- The output of attention at one query, head and lane, divided after the product with the values. -/
def head (T : Fin 4096 → Fin 5384 → EReal) (S : Fin 16 → EReal) (cs sn : Fin 4096 → Fin 32 → EReal) (n : Fin 32) (r : Fin 128)
    (h : Fin 16) (d : Fin 64) : EReal :=
  att (logit T cs sn n r h) (value T n h d) (S h)

/-- The angle of position `s` in the `d`-th plane. -/
def ang (s : Fin 4096) (d : Fin 32) : EReal :=
  FloatOps.sitofp (F := Ideal) FTy.f32 (BitVec.ofNat 32 s.val) *
    Ideal.pow (Ideal.ofBits FTy.f32 1176256512#32)
      (Ideal.div (-FloatOps.sitofp (F := Ideal) FTy.f32 (BitVec.ofNat 32 d.val)) (Ideal.ofBits FTy.f32 1107296256#32))

/-- The cosines and the sines of the angles. -/
def cosT (s : Fin 4096) (d : Fin 32) : EReal := Ideal.cos (ang s d)
def sinT (s : Fin 4096) (d : Fin 32) : EReal := Ideal.sin (ang s d)

/-- Attention at an index of the output: rows are sequence by position, columns head by lane. -/
def res (T : Fin 4 → Fin 4096 → Fin 5384 → EReal) (S : Fin 16 → EReal) (row : Fin 16384) (col : Fin 1024) : EReal :=
  head (T ⟨row.val / 4096, by omega⟩) S cosT sinT ⟨row.val % 4096 / 128, by omega⟩ ⟨row.val % 128, by omega⟩
    ⟨col.val / 64, by omega⟩ ⟨col.val % 64, by omega⟩

end Cert.Att

end
-- ==== Proof.Att.Block.lean ====
module

public import proofs.«01_k».proof.Proof.Att.Head
public import proofs.«01_k».proof.Proof.Att.Mask
public import proofs.«01_k».proof.Proof.Att.Out
public import proofs.«01_k».proof.Proof.Att.Spec
public import Idealize.ShloMosaic.Lib.Pipeline.ValueKit

@[expose] public section

/-!
# One grid point's output block

If the blocks a point reads are blocks of a projection `T`, of the sinks `S` and of cosine and sine tables, the block the
point leaves is the block of attention.
-/

set_option maxRecDepth 16384

noncomputable section

namespace Cert.KernelIdeal.Att

open Cert.KernelIdeal Cert.KernelIdeal.Gen Idealize.ShloMosaic Idealize.ShloMosaic.TcCoe Idealize.SL.Sem Idealize.ShloMosaic.Tactic

theorem ldb_apply (x : Vec Ideal S128x128 .f32) (r l : Fin 128) : ldb x (ix2 r l) = x (ix2 r l) := by
  unfold ldb
  rw [View.ld_unit_zero (by funext a; fin_cases a <;> rfl : (![0, 0] : Fin 2 → ℕ) = fun _ => 0)]
  pointwise

theorem ldq_apply (x : Vec Ideal S128x1024 .f32) (o : ℕ) (h) (ho : o + 128 ≤ 1024) (r l : Fin 128) :
    ldq x o h (ix2 r l) = x (ix2 r ⟨o + l.val, by omega⟩) := by
  unfold ldq
  pointwise

/-- The blocks one grid point reads, as blocks of the projection, the sinks and the tables. -/
structure Blocks (T : Fin 4096 → Fin 5384 → EReal) (S : Fin 16 → EReal) (cs sn : Fin 4096 → Fin 32 → EReal) (n : Fin 32)
    (x0 : Vec Ideal S16 .f32) (x1 : Vec Ideal S128x1024 .f32) (x2 x3 x4 x5 x6 x7 x8 x9 : Vec Ideal S128x128 .f32) : Prop where
  h0 : ∀ h : Fin 16, x0 (ix1 h) = S h
  h1 : ∀ (r : Fin 128) (c : Fin 1024), x1 (ix2 r c) = T ⟨n.val * 128 + r.val, by omega⟩ ⟨c.val, by omega⟩
  h2 : ∀ r l : Fin 128, x2 (ix2 r l) = T ⟨n.val * 128 + r.val, by omega⟩ ⟨1024 + l.val, by omega⟩
  h3 : ∀ r l : Fin 128, x3 (ix2 r l) = T ⟨(n.val - 1) * 128 + r.val, by omega⟩ ⟨1024 + l.val, by omega⟩
  h4 : ∀ r l : Fin 128, x4 (ix2 r l) = T ⟨n.val * 128 + r.val, by omega⟩ ⟨1152 + l.val, by omega⟩
  h5 : ∀ r l : Fin 128, x5 (ix2 r l) = T ⟨(n.val - 1) * 128 + r.val, by omega⟩ ⟨1152 + l.val, by omega⟩
  h6 : ∀ r l : Fin 128, x6 (ix2 r l) = cs ⟨n.val * 128 + r.val, by omega⟩ ⟨l.val % 32, by omega⟩
  h7 : ∀ r l : Fin 128, x7 (ix2 r l) = if l.val % 64 < 32 then -sn ⟨n.val * 128 + r.val, by omega⟩ ⟨l.val % 32, by omega⟩
    else sn ⟨n.val * 128 + r.val, by omega⟩ ⟨l.val % 32, by omega⟩
  h8 : ∀ r l : Fin 128, x8 (ix2 r l) = cs ⟨(n.val - 1) * 128 + r.val, by omega⟩ ⟨l.val % 32, by omega⟩
  h9 : ∀ r l : Fin 128, x9 (ix2 r l) = if l.val % 64 < 32 then -sn ⟨(n.val - 1) * 128 + r.val, by omega⟩ ⟨l.val % 32, by omega⟩
    else sn ⟨(n.val - 1) * 128 + r.val, by omega⟩ ⟨l.val % 32, by omega⟩

/-- A turned row of a block is `rot` of the row's 64 lanes: the sine table carries the sign. -/
theorem rope_rot (x c s : FVec Ideal S128x128 .f32) (r : Fin 128) (cs sn : Fin 32 → EReal)
    (hc : ∀ l : Fin 128, c (ix2 r l) = cs ⟨l.val % 32, by omega⟩)
    (hs : ∀ l : Fin 128, s (ix2 r l) = if l.val % 64 < 32 then -sn ⟨l.val % 32, by omega⟩ else sn ⟨l.val % 32, by omega⟩)
    (o : ℕ) (ho : o = 0 ∨ o = 64) (d : Fin 64) :
    rope x c s (ix2 r ⟨o + d.val, by omega⟩) = Cert.Att.rot (fun d => x (ix2 r ⟨o + d.val, by omega⟩)) cs sn d := by
  rw [rope_apply, hc, hs]
  have e : ∀ p q : Fin 128, p.val = q.val → x (ix2 r p) = x (ix2 r q) := fun p q h => by rw [Fin.ext h]
  have ec : ∀ p q : Fin 32, p.val = q.val → cs p = cs q := fun p q h => by rw [Fin.ext h]
  have es : ∀ p q : Fin 32, p.val = q.val → sn p = sn q := fun p q h => by rw [Fin.ext h]
  unfold Cert.Att.rot
  have hm : (o + d.val) % 64 = d.val := by omega
  by_cases h : d.val < 32
  · rw [if_pos (show (o + d.val) % 64 < 32 by omega), if_pos (show (o + d.val) % 64 < 32 by omega), dif_pos h]
    rw [mul_neg, ← sub_eq_add_neg]
    rw [ec ⟨(o + d.val) % 32, by omega⟩ ⟨d.val, h⟩ (by dsimp only; omega), es ⟨(o + d.val) % 32, by omega⟩ ⟨d.val, h⟩ (by dsimp only; omega)]
    rw [e ⟨(o + d.val + 128 - 96) % 128, Nat.mod_lt _ (by decide)⟩ ⟨o + (d.val + 32), by omega⟩ (by dsimp only; omega)]
  · rw [if_neg (show ¬ (o + d.val) % 64 < 32 by omega), if_neg (show ¬ (o + d.val) % 64 < 32 by omega), dif_neg h]
    rw [ec ⟨(o + d.val) % 32, by omega⟩ ⟨d.val - 32, by omega⟩ (by dsimp only; omega),
      es ⟨(o + d.val) % 32, by omega⟩ ⟨d.val - 32, by omega⟩ (by dsimp only; omega)]
    rw [e ⟨(o + d.val + 128 - 32) % 128, Nat.mod_lt _ (by decide)⟩ ⟨o + (d.val - 32), by omega⟩ (by dsimp only; omega)]

section

variable {T : Fin 4096 → Fin 5384 → EReal} {S : Fin 16 → EReal} {cs sn : Fin 4096 → Fin 32 → EReal} {n : Fin 32}
  {x0 : Vec Ideal S16 .f32} {x1 : Vec Ideal S128x1024 .f32} {x2 x3 x4 x5 x6 x7 x8 x9 : Vec Ideal S128x128 .f32}

/-- The band of turned keys at a key that is not before the sequence's start. -/
theorem kb_apply (B : Blocks T S cs sn n x0 x1 x2 x3 x4 x5 x6 x7 x8 x9) (k : Fin 256) (hk : 128 ≤ k.val ∨ 0 < n.val) (o : ℕ) (ho : o = 0 ∨ o = 64) (d : Fin 64) :
    kb x2 x3 x6 x7 x8 x9 (ix2 k ⟨o + d.val, by omega⟩)
      = Cert.Att.rot (fun d => T (Cert.Att.keyPos n k) ⟨1024 + o + d.val, by omega⟩) (cs (Cert.Att.keyPos n k)) (sn (Cert.Att.keyPos n k)) d := by
  unfold kb
  rw [kband_apply]
  split_ifs with h
  · have e : (⟨(n.val - 1) * 128 + k.val, by omega⟩ : Fin 4096) = Cert.Att.keyPos n k := Fin.ext (by
      show (n.val - 1) * 128 + k.val = n.val * 128 + k.val - 128; omega)
    rw [rope_rot _ _ _ ⟨k.val, h⟩ (cs (Cert.Att.keyPos n k)) (sn (Cert.Att.keyPos n k)) (fun l => by rw [ldb_apply, B.h8, e])
      (fun l => by rw [ldb_apply, B.h9, e]) o ho d]
    refine congrArg (fun f => Cert.Att.rot f _ _ d) (funext fun d => ?_)
    rw [ldb_apply, B.h3, e]
    congr 1; apply Fin.ext; dsimp only; omega
  · have e : (⟨n.val * 128 + (k.val - 128), by omega⟩ : Fin 4096) = Cert.Att.keyPos n k := Fin.ext (by
      show n.val * 128 + (k.val - 128) = n.val * 128 + k.val - 128; omega)
    rw [rope_rot _ _ _ ⟨k.val - 128, by omega⟩ (cs (Cert.Att.keyPos n k)) (sn (Cert.Att.keyPos n k)) (fun l => by rw [ldb_apply, B.h6, e])
      (fun l => by rw [ldb_apply, B.h7, e]) o ho d]
    refine congrArg (fun f => Cert.Att.rot f _ _ d) (funext fun d => ?_)
    rw [ldb_apply, B.h2, e]
    congr 1; apply Fin.ext; dsimp only; omega

/-- The band of values at a key that is not before the sequence's start. -/
theorem vb_apply (B : Blocks T S cs sn n x0 x1 x2 x3 x4 x5 x6 x7 x8 x9) (k : Fin 256) (hk : 128 ≤ k.val ∨ 0 < n.val) (l : Fin 128) :
    vb x4 x5 (ix2 k l) = T (Cert.Att.keyPos n k) ⟨1152 + l.val, by omega⟩ := by
  unfold vb
  rw [vband_apply]
  split_ifs with h
  · have e : (⟨(n.val - 1) * 128 + k.val, by omega⟩ : Fin 4096) = Cert.Att.keyPos n k := Fin.ext (by
      show (n.val - 1) * 128 + k.val = n.val * 128 + k.val - 128; omega)
    rw [ldb_apply, B.h5, e]
  · have e : (⟨n.val * 128 + (k.val - 128), by omega⟩ : Fin 4096) = Cert.Att.keyPos n k := Fin.ext (by
      show n.val * 128 + (k.val - 128) = n.val * 128 + k.val - 128; omega)
    rw [ldb_apply, B.h4, e]

/-- The body's mask is visibility. -/
theorem valid_eq (n : Fin 32) (r : Fin 128) (k : Fin 256) :
    k0_pay16 (BitVec.ofNat 32 n.val) (ix2 r k) = if Cert.Att.Visible n r k then 1#1 else 0#1 := by
  rw [valid_apply]
  have hn : ∀ n : Fin 32, Scalar.cmpi .sgt (BitVec.ofNat 32 n.val) 0#32 = if 0 < n.val then 1#1 else 0#1 := by decide +kernel
  rw [hn]
  unfold Cert.Att.Visible
  by_cases h1 : k.val ≤ r.val + 128 ∧ r.val < k.val <;> by_cases h2 : 128 ≤ k.val <;> by_cases h3 : 0 < n.val <;>
    simp [h1, h2, h3]

/-- One pair of heads of the point. -/
theorem tile_eq (B : Blocks T S cs sn n x0 x1 x2 x3 x4 x5 x6 x7 x8 x9) (kd vd : FVec Ideal S256x128 .bf16) (p : ℕ) (hp : p < 8)
    (hk : ∀ r l, kd (ix2 r l) = kb x2 x3 x6 x7 x8 x9 (ix2 r ⟨64 * (p / 4) + l.val % 64, by omega⟩))
    (hv : ∀ r l, vd (ix2 r l) = vb x4 x5 (ix2 r ⟨64 * (p / 4) + l.val % 64, by omega⟩))
    (o : ℕ) (ho : o = 128 * p) (hq) (s0 s1 : Ideal .f32) (hs0 : s0 = S ⟨2 * p, by omega⟩) (hs1 : s1 = S ⟨2 * p + 1, by omega⟩)
    (nb : BitVec 32) (hn : nb = BitVec.ofNat 32 n.val)
    (r l : Fin 128) (h : Fin 16) (d : Fin 64) (hh : h.val = (o + l.val) / 64) (hd : d.val = (o + l.val) % 64) :
    pair kd vd (k0_pay16 nb) (rope (ldq x1 o hq) (ldb x6) (ldb x7)) s0 s1 (ix2 r l) = Cert.Att.head T S cs sn n r h d := by
  subst hn hs0 hs1
  have hb : 64 * (p / 4) = 0 ∨ 64 * (p / 4) = 64 := by omega
  rw [pair_apply kd vd _ _ (64 * (p / 4)) (by omega) hk hv]
  have hS : (if l.val < 64 then S ⟨2 * p, by omega⟩ else S ⟨2 * p + 1, by omega⟩) = S h := by
    split_ifs with h64
    · congr 1; apply Fin.ext; dsimp only; omega
    · congr 1; apply Fin.ext; dsimp only; omega
  rw [hS]
  unfold Cert.Att.head
  have hl : (fun k : Fin 256 => Scalar.select (k0_pay16 (BitVec.ofNat 32 n.val) (ix2 r k))
            ((∑ d : Fin 64, rope (ldq x1 o hq) (ldb x6) (ldb x7) (ix2 r ⟨64 * (l.val / 64) + d.val, by omega⟩)
              * kb x2 x3 x6 x7 x8 x9 (ix2 k ⟨64 * (p / 4) + d.val, by omega⟩))
              * Ideal.ofBits .f32 0x3E000000#32) (⊥ : EReal)) = Cert.Att.logit T cs sn n r h := by
    funext k
    rw [valid_eq]
    unfold Cert.Att.logit
    by_cases hV : Cert.Att.Visible n r k
    · rw [if_pos hV, if_pos hV]
      unfold Cert.Att.score
      refine (if_pos rfl : _).trans (congrArg (fun x : EReal => x * Ideal.ofBits .f32 0x3E000000#32) (Finset.sum_congr rfl fun d _ => ?_))
      rw [kb_apply B k hV.2 _ hb d,
        rope_rot _ _ _ r (cs (Cert.Att.queryPos n r)) (sn (Cert.Att.queryPos n r)) (fun l => by rw [ldb_apply, B.h6]; rfl)
          (fun l => by rw [ldb_apply, B.h7]; rfl) (64 * (l.val / 64)) (by omega) d]
      refine congrArg₂ (fun x y : EReal => x * y) ?_ ?_
      · refine congrArg (fun f => Cert.Att.rot f _ _ d) (funext fun d => ?_)
        rw [ldq_apply _ _ _ (by omega), B.h1]
        refine congrArg₂ T rfl (Fin.ext ?_)
        dsimp only; omega
      · refine congrArg (fun f => Cert.Att.rot f _ _ d) (funext fun d => ?_)
        refine congrArg₂ T rfl (Fin.ext ?_)
        dsimp only; omega
    · rw [if_neg hV, if_neg hV]; rfl
  rw [hl]
  refine Cert.Att.att_congr _ _ _ _ fun k hne => ?_
  have hV : Cert.Att.Visible n r k := by
    by_contra hV
    exact hne (if_neg hV)
  rw [vb_apply B k hV.2]
  unfold Cert.Att.value
  refine congrArg₂ T rfl (Fin.ext ?_)
  dsimp only; omega

/-- A sink as the body loads it. -/
theorem sink_eq (B : Blocks T S cs sn n x0 x1 x2 x3 x4 x5 x6 x7 x8 x9) (h : Fin 16) (hb) (i) :
    View.ld (Val := Elt Ideal) (e' := .f32) x0 (Rect.unit ![h.val] ![1] hb) i = S h := by
  rw [View.ld_apply, ← B.h0]
  refine congrArg x0 ?_
  funext a
  apply Fin.ext
  rw [Rect.idx_unit_val]
  fin_cases a
  have := (i 0).isLt
  show h.val + (i 0).val = h.val
  have : (i 0).val < 1 := this
  omega

/-- The block a point leaves is the block of attention. -/
theorem out_apply (B : Blocks T S cs sn n x0 x1 x2 x3 x4 x5 x6 x7 x8 x9) (c : Dev nD) (i : grid0.Coords) (hn : (i 1).val = n.val)
    (arg2 : Memref sig .tc .smem S16 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x1024 .bf16) (harg12 : arg12.IsWhole)
    (y : S128x1024.Idx) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 y
      = Cert.Att.head T S cs sn n ⟨(y 0).val, (y 0).isLt⟩ ⟨(y 1).val / 64, by have : (y 1).val < 1024 := (y 1).isLt; omega⟩ ⟨(y 1).val % 64, by omega⟩ := by
  rw [out_eq]
  canon_tiles x h
  · rw [eq_ix2 x]
    refine (tile_eq B _ _ 7 (by decide) (fun r l => (dup1_apply _ r l).trans (congrArg _ (congrArg (ix2 r) (Fin.ext (by dsimp only)))))
      (fun r l => (dup1_apply _ r l).trans (congrArg _ (congrArg (ix2 r) (Fin.ext (by dsimp only))))) 896 (by decide) _ _ _
      (sink_eq B 14 _ _) (sink_eq B 15 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega
  · rw [eq_ix2 x]
    refine (tile_eq B _ _ 6 (by decide) (fun r l => (dup1_apply _ r l).trans (congrArg _ (congrArg (ix2 r) (Fin.ext (by dsimp only)))))
      (fun r l => (dup1_apply _ r l).trans (congrArg _ (congrArg (ix2 r) (Fin.ext (by dsimp only))))) 768 (by decide) _ _ _
      (sink_eq B 12 _ _) (sink_eq B 13 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega
  · rw [eq_ix2 x]
    refine (tile_eq B _ _ 5 (by decide) (fun r l => (dup1_apply _ r l).trans (congrArg _ (congrArg (ix2 r) (Fin.ext (by dsimp only)))))
      (fun r l => (dup1_apply _ r l).trans (congrArg _ (congrArg (ix2 r) (Fin.ext (by dsimp only))))) 640 (by decide) _ _ _
      (sink_eq B 10 _ _) (sink_eq B 11 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega
  · rw [eq_ix2 x]
    refine (tile_eq B _ _ 4 (by decide) (fun r l => (dup1_apply _ r l).trans (congrArg _ (congrArg (ix2 r) (Fin.ext (by dsimp only)))))
      (fun r l => (dup1_apply _ r l).trans (congrArg _ (congrArg (ix2 r) (Fin.ext (by dsimp only))))) 512 (by decide) _ _ _
      (sink_eq B 8 _ _) (sink_eq B 9 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega
  · rw [eq_ix2 x]
    refine (tile_eq B _ _ 3 (by decide) (fun r l => (dup0_apply _ r l).trans (congrArg _ (congrArg (ix2 r) (Fin.ext (by dsimp only; omega)))))
      (fun r l => (dup0_apply _ r l).trans (congrArg _ (congrArg (ix2 r) (Fin.ext (by dsimp only; omega))))) 384 (by decide) _ _ _
      (sink_eq B 6 _ _) (sink_eq B 7 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega
  · rw [eq_ix2 x]
    refine (tile_eq B _ _ 2 (by decide) (fun r l => (dup0_apply _ r l).trans (congrArg _ (congrArg (ix2 r) (Fin.ext (by dsimp only; omega)))))
      (fun r l => (dup0_apply _ r l).trans (congrArg _ (congrArg (ix2 r) (Fin.ext (by dsimp only; omega))))) 256 (by decide) _ _ _
      (sink_eq B 4 _ _) (sink_eq B 5 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega
  · rw [eq_ix2 x]
    refine (tile_eq B _ _ 1 (by decide) (fun r l => (dup0_apply _ r l).trans (congrArg _ (congrArg (ix2 r) (Fin.ext (by dsimp only; omega)))))
      (fun r l => (dup0_apply _ r l).trans (congrArg _ (congrArg (ix2 r) (Fin.ext (by dsimp only; omega))))) 128 (by decide) _ _ _
      (sink_eq B 2 _ _) (sink_eq B 3 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega
  · rw [eq_ix2 x]
    refine (tile_eq B _ _ 0 (by decide) (fun r l => (dup0_apply _ r l).trans (congrArg _ (congrArg (ix2 r) (Fin.ext (by dsimp only; omega)))))
      (fun r l => (dup0_apply _ r l).trans (congrArg _ (congrArg (ix2 r) (Fin.ext (by dsimp only; omega))))) 0 (by decide) _ _ _
      (sink_eq B 0 _ _) (sink_eq B 1 _ _) _ (congrArg _ hn) (x 0) (x 1)
      ⟨(y 1).val / 64, by have : (y 1).val < 1024 := (y 1).isLt; omega⟩ ⟨(y 1).val % 64, by omega⟩ (by dsimp only; omega) (by dsimp only; omega)).trans ?_
    refine congrArg (fun r => Cert.Att.head T S cs sn n r _ _) (Fin.ext ?_)
    dsimp only; omega

end

end Cert.KernelIdeal.Att

end
-- ==== Proof.Att.Entry.lean ====
module

public import proofs.«01_k».proof.Proof.Tool.Columns
public import proofs.«01_k».proof.Proof.Gen.KernelIdeal.Value
public import proofs.«01_k».proof.Proof.Att.Block
public import Idealize.ShloMosaic.Lib.StableHlo.RunRead

@[expose] public section

/-!
# The arrays the attention call finds

The projection with its columns packed, and the tables of cosines and sines, at an index.
-/

set_option maxRecDepth 16384

noncomputable section

namespace Cert.KernelIdeal.Att

open Cert.Att (ang)
open Cert.KernelIdeal Cert.KernelIdeal.Gen Idealize.ShloMosaic Idealize.ShloMosaic.TcCoe Idealize.SL.Sem Idealize.ShloMosaic.Tactic

/-- A buffer that the operations from the `i`-th on do not write holds in the end what it holds before them. -/
theorem after_eq_upto {τ : Topo} {sig : RefSig} {Val : EltTy → Type} (ops : List (HloOp τ sig Val)) (i : ℕ) (W : List (Ref sig .tc))
    {r : Ref sig .tc} (hW : (ops.drop i).map HloOp.writes = W.map fun w => {Proc.devRef (τ := τ) .tc w}) (hr : r ∉ W)
    (V : Valuation τ sig Val) :
    StableHlo.after ops V (Proc.devRef .tc r) = StableHlo.upto ops V i (Proc.devRef .tc r) := by
  have h := StableHlo.after_append (ops.take i) (ops.drop i) V
  rw [List.take_append_drop] at h
  rw [h]
  exact StableHlo.after_unwritten W hW hr _

variable (m : (ℓ : Loc nD τ sig) → Buf (Elt Ideal) ℓ)

/-- The references written from the packed projection on. -/
def tail13 : List (Ref sig .tc) := [main_v14, main_v15, main_cst_0, main_v16, main_v17, main_cst_1, main_v18, main_v19, main_v20,
  main_v21, main_v22, main_v23, main_v24, main_v25, main_v26, main_v27, main_v28, main_v29, main_v30, main_v31, main_v32, main_v33]

theorem v13_eq (c : Dev nD) : V (F := Ideal) m c main_v13 = concatenate S16384x5632 1 [⟨S16384x1024, V (F := Ideal) m c main_v1⟩,
    ⟨S16384x512, V (F := Ideal) m c main_v2⟩, ⟨S16384x512, V (F := Ideal) m c main_v3⟩, ⟨S16384x512, V (F := Ideal) m c main_v4⟩,
    ⟨S16384x512, V (F := Ideal) m c main_v5⟩, ⟨S16384x1024, V (F := Ideal) m c main_v6⟩, ⟨S16384x512, V (F := Ideal) m c main_v7⟩,
    ⟨S16384x512, V (F := Ideal) m c main_v8⟩, ⟨S16384x128, V (F := Ideal) m c main_v9⟩, ⟨S16384x128, V (F := Ideal) m c main_v10⟩,
    ⟨S16384x8, V (F := Ideal) m c main_v11⟩, ⟨S16384x248, V (F := Ideal) m c main_v12⟩]
    concatenates_S16384x1024_S16384x512_S16384x512_S16384x512_S16384x512_S16384x1024_S16384x512_S16384x512_S16384x128_S16384x128_S16384x8_S16384x248_S16384x5632_d1 := by
  unfold V
  rw [StableHlo.after_last_write (i := 14) tail13 rfl rfl (by decide)]
  have e : ∀ r : Ref sig .tc, r ∉ main_v13 :: tail13 → StableHlo.after (hostOps0 (F := Ideal)) (fun b => m (c, b)) (Proc.devRef .tc r)
      = StableHlo.upto (hostOps0 (F := Ideal)) (fun b => m (c, b)) 14 (Proc.devRef .tc r) :=
    fun r hr => after_eq_upto _ 14 (main_v13 :: tail13) rfl hr _
  rw [StableHlo.nary_result]
  rw [e main_v1 (by decide), e main_v2 (by decide), e main_v3 (by decide), e main_v4 (by decide), e main_v5 (by decide), e main_v6 (by decide),
    e main_v7 (by decide), e main_v8 (by decide), e main_v9 (by decide), e main_v10 (by decide), e main_v11 (by decide), e main_v12 (by decide)]
  rfl

theorem v33_eq (c : Dev nD) : V (F := Ideal) m c main_v33 = concatenate S4096x128 1 [⟨S4096x32, V (F := Ideal) m c main_v31⟩,
    ⟨S4096x32, V (F := Ideal) m c main_v27⟩, ⟨S4096x32, V (F := Ideal) m c main_v32⟩, ⟨S4096x32, V (F := Ideal) m c main_v27⟩]
    concatenates_S4096x32_S4096x32_S4096x32_S4096x32_S4096x128_d1 := by
  unfold V
  rw [StableHlo.after_last_write (i := 36) [] rfl rfl (by decide)]
  have e : ∀ r : Ref sig .tc, r ∉ [main_v33] → StableHlo.after (hostOps0 (F := Ideal)) (fun b => m (c, b)) (Proc.devRef .tc r)
      = StableHlo.upto (hostOps0 (F := Ideal)) (fun b => m (c, b)) 36 (Proc.devRef .tc r) :=
    fun r hr => after_eq_upto _ 36 [main_v33] rfl hr _
  rw [StableHlo.nary_result]
  rw [e main_v27 (by decide), e main_v31 (by decide), e main_v32 (by decide)]
  rfl

theorem v27_apply (c : Dev nD) (s : Fin 4096) (d : Fin 32) : V (F := Ideal) m c main_v27 (ix2 s d) = Ideal.sin (ang s d) := by
  entry_read
  pointwise [ang]

theorem v31_apply (c : Dev nD) (s : Fin 4096) (d : Fin 32) : V (F := Ideal) m c main_v31 (ix2 s d) = -Ideal.sin (ang s d) := by
  entry_read
  pointwise [ang]

theorem v32_apply (c : Dev nD) (s : Fin 4096) (d : Fin 32) : V (F := Ideal) m c main_v32 (ix2 s d) = -Ideal.sin (ang s d) := by
  entry_read
  pointwise [ang]

/-- The cosine table at an index. -/
theorem v30_apply (c : Dev nD) (s : Fin 4096) (l : Fin 128) :
    V (F := Ideal) m c main_v30 (ix2 s l) = Ideal.cos (ang s ⟨l.val % 32, by omega⟩) := by
  entry_read
  pointwise [ang]

/-- The sine table at an index. -/
theorem v33_apply (c : Dev nD) (s : Fin 4096) (l : Fin 128) :
    V (F := Ideal) m c main_v33 (ix2 s l) = if l.val % 64 < 32 then -Ideal.sin (ang s ⟨l.val % 32, by omega⟩)
      else Ideal.sin (ang s ⟨l.val % 32, by omega⟩) := by
  rw [v33_eq]
  have hl := l.isLt
  have key : ∀ (k : ℕ) (hk : k < 4) (h : l.val / 32 = k), concatenate S4096x128 1 [⟨S4096x32, V (F := Ideal) m c main_v31⟩,
    ⟨S4096x32, V (F := Ideal) m c main_v27⟩, ⟨S4096x32, V (F := Ideal) m c main_v32⟩, ⟨S4096x32, V (F := Ideal) m c main_v27⟩]
    concatenates_S4096x32_S4096x32_S4096x32_S4096x32_S4096x128_d1 (ix2 s l) = (![V (F := Ideal) m c main_v31, V (F := Ideal) m c main_v27, V (F := Ideal) m c main_v32, V (F := Ideal) m c main_v27] : Fin 4 → S4096x32.Idx → EReal) ⟨k, hk⟩ (ix2 s ⟨l.val % 32, by omega⟩) := by
    intro k hk h
    interval_cases k
    · exact Columns.concat_apply _ _ s l 0 (by show 0 < 4; decide) _ rfl 0 rfl _ (by show 0 + l.val % 32 = l.val; omega)
    · exact Columns.concat_apply _ _ s l 1 (by show 1 < 4; decide) _ rfl 32 rfl _ (by show 32 + l.val % 32 = l.val; omega)
    · exact Columns.concat_apply _ _ s l 2 (by show 2 < 4; decide) _ rfl 64 rfl _ (by show 64 + l.val % 32 = l.val; omega)
    · exact Columns.concat_apply _ _ s l 3 (by show 3 < 4; decide) _ rfl 96 rfl _ (by show 96 + l.val % 32 = l.val; omega)
  rw [key (l.val / 32) (by omega) rfl]
  have h4 : l.val / 32 = 0 ∨ l.val / 32 = 1 ∨ l.val / 32 = 2 ∨ l.val / 32 = 3 := by omega
  rcases h4 with h | h | h | h
  · rw [if_pos (by omega)]; simp only [h]; exact v31_apply m c s _
  · rw [if_neg (by omega)]; simp only [h]; exact v27_apply m c s _
  · rw [if_pos (by omega)]; simp only [h]; exact v32_apply m c s _
  · rw [if_neg (by omega)]; simp only [h]; exact v27_apply m c s _

/-- The projection's argument by sequence, position and column. -/
abbrev argT (c : Dev nD) (b : Fin 4) (s : Fin 4096) (l : Fin 5384) : EReal := m ((c : Thread nD τ).loc main_arg0) (ix3 b s l)

theorem v1_apply (c : Dev nD) (i : Fin 16384) (l : Fin 1024) :
    V (F := Ideal) m c main_v1 (ix2 i l) = argT m c ⟨i.val / 4096, by omega⟩ ⟨i.val % 4096, by omega⟩ ⟨l.val, by omega⟩ := by
  entry_read
  pointwise [argT]

theorem v9_apply (c : Dev nD) (i : Fin 16384) (l : Fin 128) :
    V (F := Ideal) m c main_v9 (ix2 i l) = argT m c ⟨i.val / 4096, by omega⟩ ⟨i.val % 4096, by omega⟩ ⟨1024 + l.val, by omega⟩ := by
  entry_read
  pointwise [argT]

theorem v10_apply (c : Dev nD) (i : Fin 16384) (l : Fin 128) :
    V (F := Ideal) m c main_v10 (ix2 i l) = argT m c ⟨i.val / 4096, by omega⟩ ⟨i.val % 4096, by omega⟩ ⟨1152 + l.val, by omega⟩ := by
  entry_read
  pointwise [argT]

/-- The packed projection's query columns. -/
theorem v13_q (c : Dev nD) (i : Fin 16384) (l : Fin 1024) :
    V (F := Ideal) m c main_v13 (ix2 i (⟨l.val, by omega⟩ : Fin 5632)) = argT m c ⟨i.val / 4096, by omega⟩ ⟨i.val % 4096, by omega⟩ ⟨l.val, by omega⟩ := by
  rw [v13_eq, ← v1_apply]
  exact Columns.concat_apply _ _ i _ 0 (by show 0 < 12; decide) _ rfl 0 rfl l (Nat.zero_add _)

/-- The packed projection's key columns. -/
theorem v13_k (c : Dev nD) (i : Fin 16384) (l : Fin 128) :
    V (F := Ideal) m c main_v13 (ix2 i (⟨5120 + l.val, by omega⟩ : Fin 5632)) = argT m c ⟨i.val / 4096, by omega⟩ ⟨i.val % 4096, by omega⟩ ⟨1024 + l.val, by omega⟩ := by
  rw [v13_eq, ← v9_apply]
  exact Columns.concat_apply _ _ i _ 8 (by show 8 < 12; decide) _ rfl 5120 rfl l rfl

/-- The packed projection's value columns. -/
theorem v13_v (c : Dev nD) (i : Fin 16384) (l : Fin 128) :
    V (F := Ideal) m c main_v13 (ix2 i (⟨5248 + l.val, by omega⟩ : Fin 5632)) = argT m c ⟨i.val / 4096, by omega⟩ ⟨i.val % 4096, by omega⟩ ⟨1152 + l.val, by omega⟩ := by
  rw [v13_eq, ← v10_apply]
  exact Columns.concat_apply _ _ i _ 9 (by show 9 < 12; decide) _ rfl 5248 rfl l rfl

end Cert.KernelIdeal.Att

end
-- ==== Proof.Att.Final.lean ====
module

public import proofs.«01_k».proof.Proof.Att.Entry

@[expose] public section

/-!
# What the attention call leaves

Every grid point's blocks are blocks of the arguments, so the output array is attention at every index.
-/

set_option maxRecDepth 16384

noncomputable section

namespace Cert.KernelIdeal.Att

open Cert.Att (ang cosT sinT res)
open Cert.KernelIdeal Cert.KernelIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- Where every window's block stands at a point. -/
theorem idx : ∀ t : Fin cfg0.N, win0_0.index t = ![0] ∧ win0_1.index t = ![t.val, 0] ∧ win0_2.index t = ![t.val, 40]
    ∧ win0_3.index t = ![t.val / 32 * 32 + (t.val % 32 - 1), 40] ∧ win0_4.index t = ![t.val, 41]
    ∧ win0_5.index t = ![t.val / 32 * 32 + (t.val % 32 - 1), 41] ∧ win0_6.index t = ![t.val % 32, 0]
    ∧ win0_7.index t = ![t.val % 32, 0] ∧ win0_8.index t = ![t.val % 32 - 1, 0] ∧ win0_9.index t = ![t.val % 32 - 1, 0]
    ∧ win0_10.index t = ![t.val, 0] ∧ (grid0.coords t 1).val = t.val % 32 := by
  decide +kernel

theorem t_lt (t : Fin cfg0.N) : t.val < 128 := t.isLt

/-- The sequence and the block of a point. -/
def seqOf (t : Fin cfg0.N) : Fin 4 := ⟨t.val / 32, by have := t_lt t; omega⟩
def blkOf (t : Fin cfg0.N) : Fin 32 := ⟨t.val % 32, by omega⟩

theorem blk0 (c : Dev nD) (t : Fin cfg0.N) (h : Fin 16) : iblk m c 0 t (ix1 h) = V (F := Ideal) m c main_arg1 (ix1 h) := by
  have := t_lt t
  blk_ext [iblk, idx t]

theorem blk1 (c : Dev nD) (t : Fin cfg0.N) (r : Fin 128) (l : Fin 1024) :
    X0_1 m c t (ix2 r l) = V (F := Ideal) m c main_v13 (ix2 (⟨t.val * 128 + r.val, by have := t_lt t; omega⟩ : Fin 16384) (⟨l.val, by omega⟩ : Fin 5632)) := by
  have := t_lt t
  unfold X0_1 Pipeline.Window.fill
  rw [dif_pos (moved0_1 t _)]
  blk_ext [iblk, idx t]

theorem blk2 (c : Dev nD) (t : Fin cfg0.N) (r l : Fin 128) :
    iblk m c 2 t (ix2 r l) = V (F := Ideal) m c main_v13 (ix2 (⟨t.val * 128 + r.val, by have := t_lt t; omega⟩ : Fin 16384) (⟨5120 + l.val, by omega⟩ : Fin 5632)) := by
  have := t_lt t
  blk_ext [iblk, idx t]

theorem blk3 (c : Dev nD) (t : Fin cfg0.N) (r l : Fin 128) :
    iblk m c 3 t (ix2 r l) = V (F := Ideal) m c main_v13 (ix2 (⟨(t.val / 32 * 32 + (t.val % 32 - 1)) * 128 + r.val, by have := t_lt t; omega⟩ : Fin 16384) (⟨5120 + l.val, by omega⟩ : Fin 5632)) := by
  have := t_lt t
  blk_ext [iblk, idx t]

theorem blk4 (c : Dev nD) (t : Fin cfg0.N) (r l : Fin 128) :
    iblk m c 4 t (ix2 r l) = V (F := Ideal) m c main_v13 (ix2 (⟨t.val * 128 + r.val, by have := t_lt t; omega⟩ : Fin 16384) (⟨5248 + l.val, by omega⟩ : Fin 5632)) := by
  have := t_lt t
  blk_ext [iblk, idx t]

theorem blk5 (c : Dev nD) (t : Fin cfg0.N) (r l : Fin 128) :
    iblk m c 5 t (ix2 r l) = V (F := Ideal) m c main_v13 (ix2 (⟨(t.val / 32 * 32 + (t.val % 32 - 1)) * 128 + r.val, by have := t_lt t; omega⟩ : Fin 16384) (⟨5248 + l.val, by omega⟩ : Fin 5632)) := by
  have := t_lt t
  blk_ext [iblk, idx t]

theorem blk6 (c : Dev nD) (t : Fin cfg0.N) (r l : Fin 128) :
    iblk m c 6 t (ix2 r l) = V (F := Ideal) m c main_v30 (ix2 (⟨t.val % 32 * 128 + r.val, by omega⟩ : Fin 4096) l) := by
  have := t_lt t
  blk_ext [iblk, idx t]

theorem blk7 (c : Dev nD) (t : Fin cfg0.N) (r l : Fin 128) :
    iblk m c 7 t (ix2 r l) = V (F := Ideal) m c main_v33 (ix2 (⟨t.val % 32 * 128 + r.val, by omega⟩ : Fin 4096) l) := by
  have := t_lt t
  blk_ext [iblk, idx t]

theorem blk8 (c : Dev nD) (t : Fin cfg0.N) (r l : Fin 128) :
    iblk m c 8 t (ix2 r l) = V (F := Ideal) m c main_v30 (ix2 (⟨(t.val % 32 - 1) * 128 + r.val, by omega⟩ : Fin 4096) l) := by
  have := t_lt t
  blk_ext [iblk, idx t]

theorem blk9 (c : Dev nD) (t : Fin cfg0.N) (r l : Fin 128) :
    iblk m c 9 t (ix2 r l) = V (F := Ideal) m c main_v33 (ix2 (⟨(t.val % 32 - 1) * 128 + r.val, by omega⟩ : Fin 4096) l) := by
  have := t_lt t
  blk_ext [iblk, idx t]

/-- The sinks' argument by head. -/
abbrev argS (c : Dev nD) (h : Fin 16) : EReal := m ((c : Thread nD τ).loc main_arg1) (ix1 h)

theorem argT_congr (c : Dev nD) {b b' : Fin 4} {s s' : Fin 4096} {l l' : Fin 5384} (hb : b.val = b'.val) (hs : s.val = s'.val) (hl : l.val = l'.val) :
    argT m c b s l = argT m c b' s' l' := by
  rw [Fin.ext hb, Fin.ext hs, Fin.ext hl]

/-- The blocks of a point are blocks of the arguments. -/
theorem blocks (c : Dev nD) (t : Fin cfg0.N) :
    Blocks (argT m c (seqOf t)) (argS m c) cosT sinT (blkOf t) (iblk m c 0 t) (X0_1 m c t) (iblk m c 2 t) (iblk m c 3 t) (iblk m c 4 t)
      (iblk m c 5 t) (iblk m c 6 t) (iblk m c 7 t) (iblk m c 8 t) (iblk m c 9 t) := by
  have ht := t_lt t
  constructor
  · intro h; rw [blk0, V_main_arg1]
  · intro r l; rw [blk1, v13_q]; apply argT_congr <;> simp only [seqOf, blkOf] <;> omega
  · intro r l; rw [blk2, v13_k]; apply argT_congr <;> simp only [seqOf, blkOf] <;> omega
  · intro r l; rw [blk3, v13_k]; apply argT_congr <;> simp only [seqOf, blkOf] <;> omega
  · intro r l; rw [blk4, v13_v]; apply argT_congr <;> simp only [seqOf, blkOf] <;> omega
  · intro r l; rw [blk5, v13_v]; apply argT_congr <;> simp only [seqOf, blkOf] <;> omega
  · intro r l; rw [blk6, v30_apply]; rfl
  · intro r l; rw [blk7, v33_apply]; rfl
  · intro r l; rw [blk8, v30_apply]; rfl
  · intro r l; rw [blk9, v33_apply]; rfl

/-- The output array. -/
def G (c : Dev nD) : S16384x1024.Idx → EReal := fun i => res (argT m c) (argS m c) (i 0) (i 1)

theorem final (c : Dev nD) : (dats m 0 c).arrAt 10 cfg0.N = G m c := by
  refine (dats m 0 c).arrAt_eq_of_covers 10 _ (by decide +kernel) fun t hf y => ?_
  have ht := t_lt t
  rw [after0_10]
  unfold outsAt0
  refine (out_apply (blocks m c t) c (grid0.coords t) (idx t).2.2.2.2.2.2.2.2.2.2.2 ..).trans ?_
  have h0 : ((cfg0.win 10).xinj (cfg0.grid.coords t) y 0).val = (y 0).val := rfl
  have h1 : ((cfg0.win 10).xinj (cfg0.grid.coords t) y 1).val = (y 1).val := rfl
  have l0 : (y 0).val < 128 := (y 0).isLt
  have l1 : (y 1).val < 1024 := (y 1).isLt
  have e0 : ((((cfg0.win 10).blk t).view.emb y) 0 : ℕ) = t.val * 128 + (y 0).val := by blk_simp [idx t]
  have e1 : ((((cfg0.win 10).blk t).view.emb y) 1 : ℕ) = (y 1).val := by blk_simp [idx t]
  unfold G res
  have hd : ∀ {b b' : Fin 4} {n n' : Fin 32} {r r' : Fin 128} {h h' : Fin 16} {d d' : Fin 64}, b.val = b'.val → n.val = n'.val → r.val = r'.val →
      h.val = h'.val → d.val = d'.val →
      Cert.Att.head (argT m c b) (argS m c) cosT sinT n r h d = Cert.Att.head (argT m c b') (argS m c) cosT sinT n' r' h' d' := by
    intro b b' n n' r r' h h' d d' hb hn hr hh hd
    rw [Fin.ext hb, Fin.ext hn, Fin.ext hr, Fin.ext hh, Fin.ext hd]
  refine hd ?_ ?_ ?_ ?_ ?_
  · show t.val / 32 = _ / 4096; rw [e0]; omega
  · show t.val % 32 = _ % 4096 / 128; rw [e0]; omega
  · show (y 0).val = _ % 128; rw [e0]; omega
  · show (y 1).val / 64 = _ / 64; rw [e1]
  · show (y 1).val % 64 = _ % 64; rw [e1]

/-- The whole run: the output array is attention, the arguments are as they were. -/
theorem run (ρ : Dev nD → PrngReg) : θ_run defs (onTc (τ := τ) (main (F := Ideal))) ⟨m, fun _ => 0, ρ⟩ fun r => ∀ c : Dev nD,
      r.2.mem ((c : Thread nD τ).loc main_v34) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Att

end
-- ==== Proof.Att.RefRope.lean ====
module

public import proofs.«01_k».proof.Proof.Gen.ReferenceIdeal.Read
public import proofs.«01_k».proof.Proof.Att.Spec
public import Idealize.ShloMosaic.Lib.ValueIdxRank6

@[expose] public section

/-!
# The reference's turned queries and keys, and its bands, at an index
-/

set_option maxRecDepth 16384

noncomputable section

namespace Cert.ReferenceIdeal.Att

open Cert.Att (ang cosT sinT rot)
open Cert.ReferenceIdeal Cert.ReferenceIdeal.Gen Cert.ReferenceIdeal.Read Idealize.ShloMosaic Idealize.ShloMosaic.TcCoe Idealize.SL.Sem

variable (x0 : (⟨S4x4096x5384, .f32⟩ : BufTy).Contents (Elt Ideal)) (x1 : (⟨S16, .f32⟩ : BufTy).Contents (Elt Ideal))

theorem v25_apply (s : Fin 4096) (d : Fin 32) : val_main_v25 (F := Ideal) (ix2 s d) = ang s d := by
  pointwise [val_main_v25, val_main_v23, val_main_v24, val_main_v21, val_main_v22, val_main_v20, val_main_v12, val_main_v19, val_main_v18, val_main_cst_0, val_main_v17, val_main_v16, val_main_cst, val_main_v15, val_main_v14, ang]

theorem v55_apply (s : Fin 4096) (d : Fin 32) : val_main_v55 (F := Ideal) (ix2 s d) = ang s d := by
  pointwise [val_main_v55, val_main_v53, val_main_v54, val_main_v51, val_main_v52, val_main_v50, val_main_v12, val_main_v49, val_main_v48, val_main_cst_2, val_main_v47, val_main_v46, val_main_cst_1, val_main_v45, val_main_v44, ang]

/-- The turned queries. -/
theorem v42_apply (b : Fin 4) (s : Fin 4096) (h : Fin 16) (d : Fin 64) :
    val_main_v42 (F := Ideal) x0 (ix4 b s h d)
      = rot (fun d => x0 (ix3 b s ⟨64 * h.val + d.val, by omega⟩)) (cosT s) (sinT s) d := by
  unfold rot cosT sinT
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v13, val_main_v0, v25_apply]
  have e : ∀ p q : Fin 5384, p.val = q.val → x0 (ix3 b s p) = x0 (ix3 b s q) := fun p q h => by rw [Fin.ext h]
  by_cases h32 : d.val < 32
  · simp only [dif_pos h32]
    rw [e ⟨h.val * 64 + d.val, by omega⟩ ⟨64 * h.val + d.val, by omega⟩ (by dsimp only; omega),
      e ⟨h.val * 64 + (32 + d.val), by omega⟩ ⟨64 * h.val + (d.val + 32), by omega⟩ (by dsimp only; omega)]
  · simp only [dif_neg h32]
    rw [e ⟨h.val * 64 + (32 + (d.val - 32)), by omega⟩ ⟨64 * h.val + d.val, by omega⟩ (by dsimp only; omega),
      e ⟨h.val * 64 + (d.val - 32), by omega⟩ ⟨64 * h.val + (d.val - 32), by omega⟩ (by dsimp only; omega)]

/-- The turned keys. -/
theorem v72_apply (b : Fin 4) (s : Fin 4096) (h : Fin 2) (d : Fin 64) :
    val_main_v72 (F := Ideal) x0 (ix4 b s h d)
      = rot (fun d => x0 (ix3 b s ⟨1024 + 64 * h.val + d.val, by omega⟩)) (cosT s) (sinT s) d := by
  unfold rot cosT sinT
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v43, val_main_v1, v55_apply]
  have e : ∀ p q : Fin 5384, p.val = q.val → x0 (ix3 b s p) = x0 (ix3 b s q) := fun p q h => by rw [Fin.ext h]
  by_cases h32 : d.val < 32
  · simp only [dif_pos h32]
    rw [e ⟨1024 + (h.val * 64 + d.val), by omega⟩ ⟨1024 + 64 * h.val + d.val, by omega⟩ (by dsimp only; omega),
      e ⟨1024 + (h.val * 64 + (32 + d.val)), by omega⟩ ⟨1024 + 64 * h.val + (d.val + 32), by omega⟩ (by dsimp only; omega)]
  · simp only [dif_neg h32]
    rw [e ⟨1024 + (h.val * 64 + (32 + (d.val - 32))), by omega⟩ ⟨1024 + 64 * h.val + d.val, by omega⟩ (by dsimp only; omega),
      e ⟨1024 + (h.val * 64 + (d.val - 32)), by omega⟩ ⟨1024 + 64 * h.val + (d.val - 32), by omega⟩ (by dsimp only; omega)]

theorem v74_apply (b : Fin 4) (n : Fin 32) (r : Fin 128) (g : Fin 2) (j : Fin 8) (d : Fin 64) :
    val_main_v74 (F := Ideal) x0 (ix6 b n r g j d) = val_main_v42 (F := Ideal) x0 (ix4 b (Cert.Att.queryPos n r) ⟨8 * g.val + j.val, by omega⟩ d) := by
  pointwise [val_main_v74]
  refine congrArg (val_main_v42 (F := Ideal) x0) ?_
  congr 1
  apply Fin.ext; dsimp only; omega

/-- The band of keys at a key that is not before the sequence's start. -/
theorem v78_apply (b : Fin 4) (n : Fin 32) (k : Fin 256) (g : Fin 2) (d : Fin 64) (hk : 128 ≤ k.val ∨ 0 < n.val) :
    val_main_v78 (F := Ideal) x0 (ix5 b n k g d) = val_main_v72 (F := Ideal) x0 (ix4 b (Cert.Att.keyPos n k) g d) := by
  pointwise [val_main_v78, val_main_v77, val_main_v75, val_main_v76]
  by_cases h : k.val < 128
  · rw [dif_pos h, dif_pos ⟨⟨by omega, by omega⟩, h⟩]
    refine congrArg (val_main_v72 (F := Ideal) x0) ?_
    congr 1
    apply Fin.ext; show (n.val - 1) * 128 + k.val = n.val * 128 + k.val - 128; omega
  · rw [dif_neg h]
    refine congrArg (val_main_v72 (F := Ideal) x0) ?_
    congr 1
    apply Fin.ext; show n.val * 128 + (k.val - 128) = n.val * 128 + k.val - 128; omega

/-- The band of values at a key that is not before the sequence's start. -/
theorem v82_apply (b : Fin 4) (n : Fin 32) (k : Fin 256) (g : Fin 2) (d : Fin 64) (hk : 128 ≤ k.val ∨ 0 < n.val) :
    val_main_v82 (F := Ideal) x0 (ix5 b n k g d) = x0 (ix3 b (Cert.Att.keyPos n k) ⟨1152 + 64 * g.val + d.val, by omega⟩) := by
  pointwise [val_main_v82, val_main_v81, val_main_v80, val_main_v79, val_main_v73, val_main_v2]
  by_cases h : k.val < 128
  · rw [dif_pos h, dif_pos ⟨⟨by omega, by omega⟩, h⟩]
    refine congrArg x0 ?_
    congr 1
    · apply Fin.ext; show (n.val - 1) * 128 + k.val = n.val * 128 + k.val - 128; omega
    · apply Fin.ext; dsimp only; omega
  · rw [dif_neg h]
    refine congrArg x0 ?_
    congr 1
    · apply Fin.ext; show n.val * 128 + (k.val - 128) = n.val * 128 + k.val - 128; omega
    · apply Fin.ext; dsimp only; omega

end Cert.ReferenceIdeal.Att

end
-- ==== Proof.Att.RefHead.lean ====
module

public import proofs.«01_k».proof.Proof.Att.RefRope
public import proofs.«01_k».proof.Proof.Att.Soft

@[expose] public section

/-!
# The reference's logits and outputs at an index
-/

set_option maxRecDepth 16384

noncomputable section

namespace Cert.ReferenceIdeal.Att

open Cert.Att (ang cosT sinT rot)
open Cert.ReferenceIdeal Cert.ReferenceIdeal.Gen Cert.ReferenceIdeal.Read Idealize.ShloMosaic Idealize.ShloMosaic.TcCoe Idealize.SL.Sem

variable (x0 : (⟨S4x4096x5384, .f32⟩ : BufTy).Contents (Elt Ideal)) (x1 : (⟨S16, .f32⟩ : BufTy).Contents (Elt Ideal))

/-- The mask is visibility. -/
theorem v116_apply (n : Fin 32) (r : Fin 128) (k : Fin 256) :
    val_main_v116 (F := Ideal) (ix3 n r k) = if Cert.Att.Visible n r k then 1#1 else 0#1 := by
  have key : ∀ r : Fin 128, ∀ k : Fin 256,
    IntOp.andi (IntOp.cmpi .sge (IntOp.subi (IntOp.addi (BitVec.ofNat 32 r.val) 128#32) (BitVec.ofNat 32 k.val)) 0#32)
        (IntOp.cmpi .slt (IntOp.subi (IntOp.addi (BitVec.ofNat 32 r.val) 128#32) (BitVec.ofNat 32 k.val)) 128#32)
     = if k.val ≤ r.val + 128 ∧ r.val < k.val then 1#1 else 0#1 := by decide +kernel
  have key2 : ∀ n : Fin 32, ∀ k : Fin 256,
    IntOp.cmpi .sge (IntOp.addi (IntOp.subi (IntOp.muli (BitVec.ofNat 32 n.val) 128#32) 128#32) (BitVec.ofNat 32 k.val)) 0#32
     = if 128 ≤ k.val ∨ 0 < n.val then 1#1 else 0#1 := by decide +kernel
  pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_c_5, val_main_c_6, val_main_c_7, val_main_c_8, val_main_c_9, val_main_c_10]
  rw [key, key2]
  by_cases h1 : k.val ≤ r.val + 128 ∧ r.val < k.val <;> by_cases h2 : 128 ≤ k.val ∨ 0 < n.val
  · rw [if_pos h1, if_pos h2, if_pos (show Cert.Att.Visible n r k from ⟨h1, h2⟩)]; rfl
  · rw [if_pos h1, if_neg h2, if_neg (fun h : Cert.Att.Visible n r k => h2 h.2)]; rfl
  · rw [if_neg h1, if_pos h2, if_neg (fun h : Cert.Att.Visible n r k => h1 h.1)]; rfl
  · rw [if_neg h1, if_neg h2, if_neg (fun h : Cert.Att.Visible n r k => h1 h.1)]; rfl

/-- The scaled product at an index. -/
theorem v86_apply (b : Fin 4) (n : Fin 32) (g : Fin 2) (j : Fin 8) (r : Fin 128) (k : Fin 256) :
    val_main_v86 (F := Ideal) x0 (ix6 b n g j r k)
      = (∑ d : Fin 64, val_main_v78 (F := Ideal) x0 (ix5 b n k g d) * val_main_v74 (F := Ideal) x0 (ix6 b n r g j d)) * Ideal.ofBits .f32 0x3E000000#32 := by
  pointwise [val_main_v86, val_main_v85, val_main_cst_4, val_main_v84, val_main_v83]

/-- The output at an index, from the weights. -/
theorem v137_apply (row : Fin 16384) (col : Fin 1024) :
    val_main_v137 (F := Ideal) x0 x1 (ix2 row col)
      = ∑ k : Fin 256, val_main_v82 (F := Ideal) x0 (ix5 ⟨row.val / 4096, by omega⟩ ⟨row.val / 128 % 32, by omega⟩ k ⟨col.val / 512, by omega⟩ ⟨col.val % 64, by omega⟩)
          * val_main_v133 (F := Ideal) x0 x1 (ix6 ⟨row.val / 4096, by omega⟩ ⟨row.val / 128 % 32, by omega⟩ ⟨col.val / 512, by omega⟩ ⟨col.val / 64 % 8, by omega⟩ ⟨row.val % 128, by omega⟩ k) := by
  pointwise [val_main_v137, val_main_v136, val_main_v135, val_main_v134]

/-- The logit before the sink is joined: minus infinity where the key is not visible. -/
theorem v118_apply (b : Fin 4) (n : Fin 32) (g : Fin 2) (j : Fin 8) (r : Fin 128) (k : Fin 256) :
    val_main_v118 (F := Ideal) x0 (ix6 b n g j r k)
      = if Cert.Att.Visible n r k then val_main_v86 (F := Ideal) x0 (ix6 b n g j r k) else ⊥ := by
  pointwise [val_main_v118, val_main_call2_v1, val_main_call2_v2, val_main_call2_v0, val_main_cst_11, val_main_v117, v116_apply]
  by_cases h : Cert.Att.Visible n r k
  · rw [if_pos h, if_pos h]; rfl
  · rw [if_neg h, if_neg h]
    show Ideal.ofBits .f32 4286578688#32 = ⊥
    simp [Ideal.ofBits, Ideal.ieee]

/-- The logits with the sink as the last. -/
theorem v121_apply (b : Fin 4) (n : Fin 32) (g : Fin 2) (j : Fin 8) (r : Fin 128) (k : Fin 257) :
    val_main_v121 (F := Ideal) x0 x1 (ix6 b n g j r k)
      = if h : k.val < 256 then val_main_v118 (F := Ideal) x0 (ix6 b n g j r ⟨k.val, h⟩) else x1 (ix1 ⟨g.val * 8 + j.val, by omega⟩) := by
  pointwise [val_main_v121, val_main_v120, val_main_v119]

/-- The greatest of a row of logits. -/
theorem v122_apply (b : Fin 4) (n : Fin 32) (g : Fin 2) (j : Fin 8) (r : Fin 128) :
    val_main_v122 (F := Ideal) x0 x1 (ix5 b n g j r)
      = Finset.univ.fold max ⊥ fun k : Fin 257 => val_main_v121 (F := Ideal) x0 x1 (ix6 b n g j r k) := by
  unfold val_main_v122
  generalize val_main_v121 (F := Ideal) x0 x1 = y
  have h : S4x32x2x8x128x257.Reduces [5] S4x32x2x8x128 := by decide
  have hb : val_main_cst_12 (F := Ideal) (Shape.Idx.first h_S_) = (⊥ : EReal) := by
    show Ideal.ofBits .f32 0xFF800000#32 = ⊥
    simp [Ideal.ofBits, Ideal.ieee]
  refine (Host.reduce_eq_fold_single (FloatOps.maximumf (F := Ideal) (φ := .f32)) y _ _ h h_S_ _).trans ?_
  rw [hb]
  refine congrArg (fun f => (Finset.univ : Finset (Fin 257)).fold max (⊥ : EReal) f) (funext fun k => ?_)
  show y (h.lift (ix5 b n g j r) k) = _
  congr 1
  funext a
  fin_cases a <;> rfl

/-- The sum of a row of weights. -/
theorem v129_apply (b : Fin 4) (n : Fin 32) (g : Fin 2) (j : Fin 8) (r : Fin 128) :
    val_main_v129 (F := Ideal) x0 x1 (ix5 b n g j r)
      = ∑ k : Fin 257, val_main_v128 (F := Ideal) x0 x1 (ix6 b n g j r k) := by
  rw [val_main_v129_apply]
  generalize val_main_v128 (F := Ideal) x0 x1 = y
  have hb : val_main_cst_14 (F := Ideal) (Shape.Idx.first h_S_) = (0 : EReal) := by
    show Ideal.ofBits .f32 0#32 = 0
    simp [Ideal.ofBits, Ideal.ieee]
  rw [hb, zero_add]
  refine Finset.sum_congr rfl fun k _ => congrArg y ?_
  funext a
  fin_cases a <;> rfl

/-- The maximum is joined once more with minus infinity. -/
theorem v124_apply (b : Fin 4) (n : Fin 32) (g : Fin 2) (j : Fin 8) (r : Fin 128) :
    val_main_v124 (F := Ideal) x0 x1 (ix5 b n g j r) = val_main_v122 (F := Ideal) x0 x1 (ix5 b n g j r) := by
  have hb : val_main_v123 (F := Ideal) (ix5 b n g j r) = (⊥ : EReal) := by
    show Ideal.ofBits .f32 0xFF800000#32 = ⊥
    simp [Ideal.ofBits, Ideal.ieee]
  rw [val_main_v124_apply, hb]
  exact max_eq_right bot_le

theorem v128_apply (b : Fin 4) (n : Fin 32) (g : Fin 2) (j : Fin 8) (r : Fin 128) (k : Fin 257) :
    val_main_v128 (F := Ideal) x0 x1 (ix6 b n g j r k)
      = Ideal.exp (val_main_v121 (F := Ideal) x0 x1 (ix6 b n g j r k) - val_main_v122 (F := Ideal) x0 x1 (ix5 b n g j r)) := by
  rw [val_main_v128_apply, val_main_v127_apply, val_main_v126_apply, val_main_v125_apply, ← v124_apply]
  have e : idx_main_v125 (idx_main_v126 (ix6 b n g j r k)) = ix5 b n g j r := by
    funext a
    fin_cases a <;> rfl
  rw [e]
  rfl

theorem v133_apply (b : Fin 4) (n : Fin 32) (g : Fin 2) (j : Fin 8) (r : Fin 128) (k : Fin 256) :
    val_main_v133 (F := Ideal) x0 x1 (ix6 b n g j r k)
      = Ideal.div (val_main_v128 (F := Ideal) x0 x1 (ix6 b n g j r ⟨k.val, by omega⟩)) (val_main_v129 (F := Ideal) x0 x1 (ix5 b n g j r)) := by
  pointwise [val_main_v133, val_main_v132, val_main_v131, val_main_v130]

end Cert.ReferenceIdeal.Att

end
-- ==== Proof.Att.Finite.lean ====
module

public import proofs.«01_k».proof.Proof.Att.Spec
public import proofs.«01_k».proof.Pre_finite
public import Idealize.ShloMosaic.Lib.ReduceAll

@[expose] public section

/-!
# Finite queries, keys and sinks

What the precondition says of the arguments, and that then the logits and the sinks are real numbers.
-/

set_option maxRecDepth 16384

noncomputable section

namespace Cert.Att

open Idealize.ShloMosaic

/-- An extended real that is a real number. -/
def IsReal (x : EReal) : Prop := ∃ r : ℝ, x = (r : EReal)

namespace IsReal

variable {x y : EReal}

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

theorem neg (hx : IsReal x) : IsReal (-x) := by
  obtain ⟨a, rfl⟩ := hx; exact ⟨-a, (EReal.coe_neg a).symm⟩

theorem sum {n : ℕ} {f : Fin n → EReal} (h : ∀ k, IsReal (f k)) : IsReal (∑ k, f k) := by
  classical
  induction (Finset.univ : Finset (Fin n)) using Finset.induction_on with
  | empty => exact ⟨0, by simp⟩
  | insert a t ha ih => rw [Finset.sum_insert ha]; exact (h a).add ih

theorem cos (hx : IsReal x) : IsReal (Ideal.cos x) := by obtain ⟨a, rfl⟩ := hx; exact ⟨_, rfl⟩

theorem sin (hx : IsReal x) : IsReal (Ideal.sin x) := by obtain ⟨a, rfl⟩ := hx; exact ⟨_, rfl⟩

theorem pow (hx : IsReal x) (hy : IsReal y) : IsReal (Ideal.pow x y) := by
  obtain ⟨a, rfl⟩ := hx; obtain ⟨b, rfl⟩ := hy; exact ⟨_, rfl⟩

theorem div (hx : IsReal x) (hy : IsReal y) (h : y ≠ 0) : IsReal (Ideal.div x y) := by
  obtain ⟨a, rfl⟩ := hx; obtain ⟨b, rfl⟩ := hy
  refine ⟨a * b⁻¹, ?_⟩
  simp only [Ideal.div, if_neg h]
  rw [EReal.coe_mul, EReal.coe_inv]

theorem ne_top (hx : IsReal x) : x ≠ ⊤ := by obtain ⟨a, rfl⟩ := hx; exact EReal.coe_ne_top a

theorem ne_bot (hx : IsReal x) : x ≠ ⊥ := by obtain ⟨a, rfl⟩ := hx; exact EReal.coe_ne_bot a

/-- Below infinity in absolute value. -/
theorem of_abs_lt (h : max x (-x) < ⊤) : IsReal x := by
  induction x with
  | bot => simp at h
  | top => simp at h
  | coe r => exact ⟨r, rfl⟩

end IsReal

theorem ang_real (s : Fin 4096) (d : Fin 32) : IsReal (ang s d) := by
  unfold ang
  have h1 : IsReal (Ideal.ofBits FTy.f32 1176256512#32) := ⟨10000, by
    simp [Ideal.ofBits, Ideal.ieee]
    rw [← EReal.coe_mul]
    norm_num⟩
  have h2 : Ideal.ofBits FTy.f32 1107296256#32 = ((32 : ℝ) : EReal) := by
    simp [Ideal.ofBits, Ideal.ieee]
    rw [← EReal.coe_mul]
    norm_num
  refine IsReal.mul ⟨_, rfl⟩ (h1.pow (IsReal.div (IsReal.neg ⟨_, rfl⟩) ⟨32, h2⟩ ?_))
  rw [h2]
  exact_mod_cast (by norm_num : (32 : ℝ) ≠ 0)

theorem rot_real (x : Fin 64 → EReal) (cs sn : Fin 32 → EReal) (hx : ∀ d, IsReal (x d)) (hc : ∀ d, IsReal (cs d))
    (hs : ∀ d, IsReal (sn d)) (d : Fin 64) : IsReal (rot x cs sn d) := by
  unfold rot
  split
  · exact ((hx _).mul (hc _)).sub ((hx _).mul (hs _))
  · exact ((hx _).mul (hc _)).add ((hx _).mul (hs _))

/-- The logits of finite queries and keys are not plus infinity. -/
theorem logit_ne_top (T : Fin 4096 → Fin 5384 → EReal) (hT : ∀ s, ∀ l : Fin 5384, l.val < 1152 → IsReal (T s l)) (n : Fin 32)
    (r : Fin 128) (h : Fin 16) (k : Fin 256) : logit T cosT sinT n r h k ≠ ⊤ := by
  unfold logit
  split
  · have h1 : IsReal (Ideal.ofBits FTy.f32 0x3E000000#32) := ⟨1 / 8, by
      simp [Ideal.ofBits, Ideal.ieee]
      rw [← EReal.coe_mul]
      norm_num⟩
    refine IsReal.ne_top ((IsReal.sum fun d => IsReal.mul ?_ ?_).mul h1)
    · exact rot_real _ _ _ (fun d => hT _ _ (by dsimp only; omega)) (fun _ => (ang_real _ _).cos) (fun _ => (ang_real _ _).sin) d
    · exact rot_real _ _ _ (fun d => hT _ _ (by dsimp only; omega)) (fun _ => (ang_real _ _).cos) (fun _ => (ang_real _ _).sin) d
  · exact bot_ne_top

/-- The shape facts of the precondition. -/
instance preFacts : Cert.Pre_finite.Facts where
  slices_S4x4096x5384_S4x4096x1152_0_0_0 := by decide
  bcast_S_S4x4096x1152 := by decide
  reducesTo_S4x4096x1152_S_d0_1_2 := by decide
  h_S_ := by decide
  bcast_S_S16 := by decide
  reducesTo_S16_S_d0 := by decide

/-- The precondition, read at the arguments' elements. -/
theorem finite_read (x0 : FVec Ideal Cert.Pre_finite.S4x4096x5384 .f32) (x1 : FVec Ideal Cert.Pre_finite.S16 .f32)
    (h : Cert.Pre_finite.fn (F := Ideal) x0 x1 = fun _ => 1#1) :
    (∀ b s, ∀ l : Fin 5384, l.val < 1152 → IsReal (x0 (ix3 b s l))) ∧ ∀ j, IsReal (x1 (ix1 j)) := by
  have h0 := congrFun h ix0
  dsimp only [Cert.Pre_finite.fn] at h0
  obtain ⟨ha, hb⟩ := IntOp.andi_eq_one.1 h0
  have hinf : Ideal.ofBits .f32 0x7F800000#32 = (⊤ : EReal) := by simp [Ideal.ofBits, Ideal.ieee]
  haveI : Subsingleton Cert.Pre_finite.S_.Idx := ⟨fun a b => funext fun i => i.elim0⟩
  constructor
  · intro b s l hl
    have e := Host.reduce_andi_all _ _ _ _ _ ha (ix3 b s (⟨l.val, hl⟩ : Fin 1152))
    have e' : Ideal.cmp .olt (max (x0 (ix3 b s l)) (-(x0 (ix3 b s l)))) (Ideal.ofBits .f32 0x7F800000#32) = 1 := by
      refine Eq.trans (Eq.symm ?_) e
      pointwise
      rfl
    exact .of_abs_lt (hinf ▸ (Ideal.cmp_olt_eq_one _ _).1 e')
  · intro j
    have e := Host.reduce_andi_all _ _ _ _ _ hb (ix1 j)
    have e' : Ideal.cmp .olt (max (x1 (ix1 j)) (-(x1 (ix1 j)))) (Ideal.ofBits .f32 0x7F800000#32) = 1 := by
      exact e
    exact .of_abs_lt (hinf ▸ (Ideal.cmp_olt_eq_one _ _).1 e')

end Cert.Att

end
-- ==== Proof.Att.RefFinal.lean ====
module

public import proofs.«01_k».proof.Proof.Att.RefHead
public import proofs.«01_k».proof.Proof.Att.Finite

@[expose] public section

/-!
# The reference is attention

At finite queries, keys and sinks the reference's result is `res`, the array the kernel leaves.
-/

set_option maxRecDepth 16384

noncomputable section

namespace Cert.Att

open Idealize.ShloMosaic

variable (lg : Fin 256 → EReal) (s : EReal) (y : Fin 257 → EReal)
  (hl : ∀ k : Fin 256, y ⟨k.val, by omega⟩ = lg k) (hs : y ⟨256, by omega⟩ = s)

include hl hs

/-- The maximum of the logits with the sink as the last. -/
theorem top_last : Finset.univ.fold max ⊥ y = top lg s := by
  have e : ∀ z : Fin 257 → EReal, Finset.univ.fold max ⊥ z = max (z (Fin.last 256)) (Finset.univ.fold max ⊥ fun k : Fin 256 => z k.castSucc) := by
    intro z
    rw [Fin.univ_castSuccEmb, Finset.fold_cons, Finset.fold_map]
    rfl
  rw [e, max_comm]
  unfold top
  have e1 : (fun k : Fin 256 => y k.castSucc) = lg := funext fun k => hl k
  have e2 : y (Fin.last 256) = s := hs
  rw [e1, e2]

/-- The sum of the weights with the sink's as the last. -/
theorem sum_last (t : EReal) : ∑ k, Ideal.exp (y k - t) = ∑ k, Ideal.exp (lg k - t) + Ideal.exp (s - t) := by
  rw [Fin.sum_univ_castSucc]
  have e1 : ∀ k : Fin 256, y k.castSucc = lg k := fun k => hl k
  have e2 : y (Fin.last 256) = s := hs
  rw [e2]
  simp only [e1]

end Cert.Att

namespace Cert.ReferenceIdeal.Att

open Cert.Att (ang cosT sinT rot IsReal logit value score top att attRef res head)
open Cert.ReferenceIdeal Cert.ReferenceIdeal.Gen Cert.ReferenceIdeal.Read Idealize.ShloMosaic Idealize.ShloMosaic.TcCoe Idealize.SL.Sem

variable (x0 : (⟨S4x4096x5384, .f32⟩ : BufTy).Contents (Elt Ideal)) (x1 : (⟨S16, .f32⟩ : BufTy).Contents (Elt Ideal))

/-- The reference's logits. -/
theorem v118_eq (b : Fin 4) (n : Fin 32) (g : Fin 2) (j : Fin 8) (r : Fin 128) (k : Fin 256) :
    val_main_v118 (F := Ideal) x0 (ix6 b n g j r k)
      = logit (fun s l => x0 (ix3 b s l)) cosT sinT n r ⟨8 * g.val + j.val, by omega⟩ k := by
  rw [v118_apply]
  unfold logit
  by_cases h : Cert.Att.Visible n r k
  · rw [if_pos h, if_pos h, v86_apply]
    unfold score
    refine congrArg (· * _) (Finset.sum_congr rfl fun d _ => ?_)
    rw [v78_apply x0 b n k g d h.2, v74_apply, v42_apply, v72_apply, mul_comm]
    have e : (8 * g.val + j.val) / 8 = g.val := by omega
    simp only [e]
  · rw [if_neg h, if_neg h]

variable (b : Fin 4) (n : Fin 32) (g : Fin 2) (j : Fin 8) (r : Fin 128)

theorem v121_lg (k : Fin 256) : val_main_v121 (F := Ideal) x0 x1 (ix6 b n g j r (⟨k.val, by omega⟩ : Fin 257))
    = logit (fun s l => x0 (ix3 b s l)) cosT sinT n r ⟨8 * g.val + j.val, by omega⟩ k := by
  rw [v121_apply, dif_pos k.isLt, v118_eq]

theorem v121_sink : val_main_v121 (F := Ideal) x0 x1 (ix6 b n g j r (⟨256, by omega⟩ : Fin 257)) = x1 (ix1 ⟨8 * g.val + j.val, by omega⟩) := by
  rw [v121_apply, dif_neg (by dsimp only; omega)]
  refine congrArg x1 (congrArg ix1 (Fin.ext ?_))
  dsimp only; omega

/-- The reference's weights. -/
theorem v133_eq (k : Fin 256) :
    val_main_v133 (F := Ideal) x0 x1 (ix6 b n g j r k)
      = Ideal.div (Ideal.exp (logit (fun s l => x0 (ix3 b s l)) cosT sinT n r ⟨8 * g.val + j.val, by omega⟩ k
            - top (logit (fun s l => x0 (ix3 b s l)) cosT sinT n r ⟨8 * g.val + j.val, by omega⟩) (x1 (ix1 ⟨8 * g.val + j.val, by omega⟩))))
          (∑ k, Ideal.exp (logit (fun s l => x0 (ix3 b s l)) cosT sinT n r ⟨8 * g.val + j.val, by omega⟩ k
              - top (logit (fun s l => x0 (ix3 b s l)) cosT sinT n r ⟨8 * g.val + j.val, by omega⟩) (x1 (ix1 ⟨8 * g.val + j.val, by omega⟩)))
            + Ideal.exp (x1 (ix1 ⟨8 * g.val + j.val, by omega⟩)
              - top (logit (fun s l => x0 (ix3 b s l)) cosT sinT n r ⟨8 * g.val + j.val, by omega⟩) (x1 (ix1 ⟨8 * g.val + j.val, by omega⟩)))) := by
  have hl := v121_lg x0 x1 b n g j r
  have hs := v121_sink x0 x1 b n g j r
  have ht := Cert.Att.top_last _ _ (fun k : Fin 257 => val_main_v121 (F := Ideal) x0 x1 (ix6 b n g j r k)) hl hs
  rw [v133_apply, v129_apply, v128_apply, v122_apply, hl, ht]
  congr 1
  rw [← Cert.Att.sum_last _ _ (fun k : Fin 257 => val_main_v121 (F := Ideal) x0 x1 (ix6 b n g j r k)) hl hs]
  refine Finset.sum_congr rfl fun k _ => ?_
  rw [v128_apply, v122_apply, ht]

/-- A row of the reference, the weights applied to the values. -/
theorem row_eq (d : Fin 64) (hT : ∀ b s, ∀ l : Fin 5384, l.val < 1152 → IsReal (x0 (ix3 b s l))) (hS : ∀ h, IsReal (x1 (ix1 h))) :
    ∑ k : Fin 256, val_main_v82 (F := Ideal) x0 (ix5 b n k g d) * val_main_v133 (F := Ideal) x0 x1 (ix6 b n g j r k)
      = head (fun s l => x0 (ix3 b s l)) (fun h => x1 (ix1 h)) cosT sinT n r ⟨8 * g.val + j.val, by omega⟩ d := by
  unfold head
  obtain ⟨h0, h1⟩ := Cert.Att.top_real (logit (fun s l => x0 (ix3 b s l)) cosT sinT n r ⟨8 * g.val + j.val, by omega⟩)
    (x1 (ix1 ⟨8 * g.val + j.val, by omega⟩)) (hS _).ne_bot (hS _).ne_top
    (Cert.Att.logit_ne_top _ (hT b) n r _)
  have hd := Cert.Att.one_le_denom _ _ h0 h1
  rw [← Cert.Att.attRef_eq _ _ _ h0 h1]
  unfold attRef
  refine Finset.sum_congr rfl fun k _ => ?_
  rw [mul_comm, v133_eq]
  by_cases h : Cert.Att.Visible n r k
  · rw [v82_apply x0 b n k g d h.2]
    unfold value
    have e : (8 * g.val + j.val) / 8 = g.val := by omega
    simp only [e]
  · have e : logit (fun s l => x0 (ix3 b s l)) cosT sinT n r ⟨8 * g.val + j.val, by omega⟩ k = ⊥ := by
      unfold logit; rw [if_neg h]
    have hd0 : ∀ D : EReal, 1 ≤ D → Ideal.div 0 D = 0 := fun D hD => by
      have : D ≠ 0 := fun h => by rw [h] at hD; exact absurd hD (by norm_num)
      simp only [Ideal.div, if_neg this, zero_mul]
    rw [e, Cert.Att.exp_masked, hd0 _ hd, zero_mul, zero_mul]

/-- The reference's result. -/
theorem result (hT : ∀ b s, ∀ l : Fin 5384, l.val < 1152 → IsReal (x0 (ix3 b s l))) (hS : ∀ h, IsReal (x1 (ix1 h)))
    (row : Fin 16384) (col : Fin 1024) :
    val_main_v137 (F := Ideal) x0 x1 (ix2 row col) = res (fun b s l => x0 (ix3 b s l)) (fun h => x1 (ix1 h)) row col := by
  rw [v137_apply, row_eq x0 x1 _ _ _ _ _ _ hT hS]
  unfold res
  have e1 : row.val / 128 % 32 = row.val % 4096 / 128 := by omega
  have e2 : 8 * (col.val / 512) + col.val / 64 % 8 = col.val / 64 := by omega
  simp only [e1, e2]

end Cert.ReferenceIdeal.Att

end
-- ==== Proof.Att.Claims.lean ====
module

public import proofs.«01_k».proof.Defs
public import proofs.«01_k».proof.Proof.Att.Final
public import proofs.«01_k».proof.Proof.Att.RefFinal
public import proofs.«01_k».proof.Proof.Gen.Kernel.Frame
public import proofs.«01_k».proof.Proof.Gen.KernelIdeal.Frame
public import proofs.«01_k».proof.Proof.Gen.ReferenceIdeal.Run

@[expose] public section

/-!
# The claims about the attention call
-/

noncomputable section

namespace Cert.Att

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_finite : Cert.quiescent_KernelIdeal_pre_finite := fun m ρ _ => Cert.KernelIdeal.Gen.frame m ρ

/-- The reference is straight-line and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- Both programs end with attention of the arguments. -/
theorem algebraic : Cert.algebraic_KernelIdeal_ReferenceIdeal_pre_finite := fun m ρ m' ρ' hpre hag =>
  ⟨fun c => Cert.KernelIdeal.Att.G m c, Cert.KernelIdeal.Att.run m ρ,
    (θ_run Cert.ReferenceIdeal.defs _ _).mono (fun _ h c => ⟨(h c).1.trans (by
      obtain ⟨hT, hS⟩ := finite_read _ _ (hpre c)
      rw [Cert.ReferenceIdeal.Read.val_main_v137_eq, (hag c).1, (hag c).2]
      funext i
      rw [eq_ix2 i]
      exact Cert.ReferenceIdeal.Att.result _ _ hT hS _ _), (h c).2⟩)
    (Cert.ReferenceIdeal.Value.run (F := Ideal) m' ρ')⟩

end Cert.Att

end
-- ==== Proof.Norm.Spec.lean ====
module

public import Idealize.ShloMosaic.PureOps.Ideal

@[expose] public section

/-!
# Root-mean-square normalisation

A row of the normalised array, on extended reals: the element times the reciprocal root of the row's mean square,
with `1e-6` added, times the gain. The two constants stay the words the programs print.
-/

noncomputable section

namespace Cert.Norm

open Idealize.ShloMosaic

/-- A row's scale: the reciprocal root of its mean square plus `1e-6`. -/
def rmsScale (x : Fin 2048 → EReal) : EReal :=
  Ideal.rsqrt (Ideal.div (∑ k, x k * x k) (Ideal.ofBits .f32 0x45000000#32) + Ideal.ofBits .f32 0x358637BD#32)

/-- The normalised row, with the gain. -/
def rms (x g : Fin 2048 → EReal) (d : Fin 2048) : EReal := x d * rmsScale x * g d

theorem rms_congr {x x' g g' : Fin 2048 → EReal} {d d' : Fin 2048} (hx : ∀ k, x k = x' k) (hg : ∀ k, g k = g' k) (hd : d.val = d'.val) :
    rms x g d = rms x' g' d' := by
  rw [funext hx, funext hg, Fin.ext hd]

/-- The normalised row times a column of weights. -/
def proj (x g w : Fin 2048 → EReal) : EReal := ∑ k, rms x g k * w k

theorem proj_congr {x x' g g' w w' : Fin 2048 → EReal} (hx : ∀ k, x k = x' k) (hg : ∀ k, g k = g' k) (hw : ∀ k, w k = w' k) :
    proj x g w = proj x' g' w' := by
  rw [funext hx, funext hg, funext hw]

end Cert.Norm

end
-- ==== Proof.In.Block.lean ====
module

public import proofs.«01_k».proof.Proof.Gen.Kernel2Ideal.Frame
public import proofs.«01_k».proof.Proof.Norm.Spec
public import Idealize.ShloMosaic.Lib.Pointwise
public import Idealize.ShloMosaic.Lib.Pipeline.ValueKit
public import Idealize.ShloMosaic.Lib.StableHlo.RunRead

@[expose] public section

/-!
# One point of the input projection

A point multiplies 1024 normalised rows by 1408 columns of weights. The first point of a row block normalises the
rows and keeps them; the three after it use the rows kept.
-/

set_option maxRecDepth 16384

noncomputable section

namespace Cert.Kernel2Ideal.In

open Cert.Norm (rmsScale rms proj)
open Cert.Kernel2Ideal Cert.Kernel2Ideal.Gen Idealize.ShloMosaic Idealize.ShloMosaic.TcCoe Idealize.SL.Sem Idealize.ShloMosaic.Tactic

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x1408 .bf16) (harg4 : arg4.IsWhole) (arg5 : Memref sig .tc .vmem S1024x1408 .f32) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S2048x1408 .bf16) (xs : Vec Ideal S1024x2048 .bf16)

/-- At the first column block of a row block: the rows normalised now, times the weights. -/
theorem outA (hc0 : cond0_0 i) : out0_A_3 c i arg2 harg2 arg3 harg3 arg4 harg4 arg5 harg5 arg6 harg6 hc0 x0 x1 x2 = k0_pay2 (k0_pay1 x0 x1) x2 := by
  frame_out

/-- The rows kept then. -/
theorem keptA (hc0 : cond0_0 i) : sout0_A_0 c i arg2 harg2 arg3 harg3 arg4 harg4 arg5 harg5 arg6 harg6 hc0 x0 x1 x2 = k0_pay1 x0 x1 := by
  frame_out

/-- At the other column blocks: the rows kept before, times the weights. -/
theorem outB (hc0 : ¬cond0_0 i) : out0_B_3 c i arg2 harg2 arg3 harg3 arg4 harg4 arg5 harg5 arg6 harg6 hc0 x0 x1 x2 xs = k0_pay2 xs x2 := by
  frame_out

/-- Element by element: the row normalised, times the column of weights. -/
theorem pay_apply (r : Fin 1024) (j : Fin 1408) : k0_pay2 (k0_pay1 x0 x1) x2 (ix2 r j)
    = proj (fun k => x0 (ix2 r k)) (fun k => x1 (ix2 0 k)) (fun k => x2 (ix2 k j)) := by
  pointwise [k0_pay1, k0_pay2, proj, rms, rmsScale]
end

end Cert.Kernel2Ideal.In

end
-- ==== Proof.In.Entry.lean ====
module

public import proofs.«01_k».proof.Proof.In.Block
public import proofs.«01_k».proof.Proof.Tool.Columns
public import Idealize.ShloMosaic.Lib.StableHlo.RunRead

@[expose] public section

/-!
# The arrays the input projection's call finds

The rows of the input, the gain, and the weights with their columns packed, at an index.
-/

set_option maxRecDepth 16384

noncomputable section

namespace Cert.Kernel2Ideal.In

open Cert.Kernel2Ideal Cert.Kernel2Ideal.Gen Idealize.ShloMosaic Idealize.ShloMosaic.TcCoe Idealize.SL.Sem Idealize.ShloMosaic.Tactic

/-- A buffer that the operations from the `i`-th on do not write holds in the end what it holds before them. -/
theorem after_eq_upto {τ : Topo} {sig : RefSig} {Val : EltTy → Type} (ops : List (HloOp τ sig Val)) (i : ℕ) (W : List (Ref sig .tc))
    {r : Ref sig .tc} (hW : (ops.drop i).map HloOp.writes = W.map fun w => {Proc.devRef (τ := τ) .tc w}) (hr : r ∉ W)
    (V : Valuation τ sig Val) :
    StableHlo.after ops V (Proc.devRef .tc r) = StableHlo.upto ops V i (Proc.devRef .tc r) := by
  have h := StableHlo.after_append (ops.take i) (ops.drop i) V
  rw [List.take_append_drop] at h
  rw [h]
  exact StableHlo.after_unwritten W hW hr _

variable (m : (ℓ : Loc nD τ sig) → Buf (Elt Ideal) ℓ)

/-- The arguments by index. -/
abbrev argX (c : Dev nD) (b : Fin 4) (s : Fin 4096) (k : Fin 2048) : EReal := m ((c : Thread nD τ).loc main_arg0) (ix3 b s k)
abbrev argG (c : Dev nD) (k : Fin 2048) : EReal := m ((c : Thread nD τ).loc main_arg1) (ix1 k)
abbrev argW (c : Dev nD) (k : Fin 2048) (l : Fin 5384) : EReal := m ((c : Thread nD τ).loc main_arg2) (ix2 k l)

theorem argX_congr (c : Dev nD) {b b' : Fin 4} {s s' : Fin 4096} (k : Fin 2048) (hb : b.val = b'.val) (hs : s.val = s'.val) :
    argX m c b s k = argX m c b' s' k := by
  rw [Fin.ext hb, Fin.ext hs]

/-- The contents the call finds are those after the operations before it. -/
theorem V_eq (c : Dev nD) (r : Ref sig .tc) : V (F := Ideal) m c r = StableHlo.after (hostOps0 (F := Ideal)) (fun b => m (c, b)) (Proc.devRef .tc r) := by
  simp only [V, V0, List.flatten_cons, List.flatten_nil, List.append_nil]

theorem v24_apply (c : Dev nD) (i : Fin 16384) (k : Fin 2048) :
    V (F := Ideal) m c main_v24 (ix2 i k) = argX m c ⟨i.val / 4096, by omega⟩ ⟨i.val % 4096, by omega⟩ k := by
  rw [V_eq]
  entry_read
  pointwise [argX]

theorem v25_apply (c : Dev nD) (k : Fin 2048) : V (F := Ideal) m c main_v25 (ix2 0 k) = argG m c k := by
  rw [V_eq]
  entry_read
  pointwise [argG]

/-- The packed weights, piece by piece. -/
theorem v23_eq (c : Dev nD) : V (F := Ideal) m c main_v23 = concatenate S2048x5632 1 [⟨S2048x1024, V (F := Ideal) m c main_v1⟩,
    ⟨S2048x512, V (F := Ideal) m c main_v3⟩,
    ⟨S2048x512, V (F := Ideal) m c main_v5⟩,
    ⟨S2048x512, V (F := Ideal) m c main_v7⟩,
    ⟨S2048x512, V (F := Ideal) m c main_v9⟩,
    ⟨S2048x1024, V (F := Ideal) m c main_v11⟩,
    ⟨S2048x512, V (F := Ideal) m c main_v13⟩,
    ⟨S2048x512, V (F := Ideal) m c main_v15⟩,
    ⟨S2048x128, V (F := Ideal) m c main_v17⟩,
    ⟨S2048x128, V (F := Ideal) m c main_v19⟩,
    ⟨S2048x8, V (F := Ideal) m c main_v21⟩,
    ⟨S2048x248, V (F := Ideal) m c main_v22⟩]
    concatenates_S2048x1024_S2048x512_S2048x512_S2048x512_S2048x512_S2048x1024_S2048x512_S2048x512_S2048x128_S2048x128_S2048x8_S2048x248_S2048x5632_d1 := by
  rw [V_eq m c main_v23, V_eq m c main_v1, V_eq m c main_v3, V_eq m c main_v5, V_eq m c main_v7, V_eq m c main_v9, V_eq m c main_v11, V_eq m c main_v13, V_eq m c main_v15, V_eq m c main_v17, V_eq m c main_v19, V_eq m c main_v21, V_eq m c main_v22]
  rw [StableHlo.after_last_write (i := 24) [main_v24, main_v25] rfl rfl (by decide)]
  have e : ∀ r : Ref sig .tc, r ∉ [main_v23, main_v24, main_v25] → StableHlo.after (hostOps0 (F := Ideal)) (fun b => m (c, b)) (Proc.devRef .tc r)
      = StableHlo.upto (hostOps0 (F := Ideal)) (fun b => m (c, b)) 24 (Proc.devRef .tc r) :=
    fun r hr => after_eq_upto _ 24 [main_v23, main_v24, main_v25] rfl hr _
  rw [StableHlo.nary_result]
  rw [e main_v1 (by decide), e main_v3 (by decide), e main_v5 (by decide), e main_v7 (by decide), e main_v9 (by decide), e main_v11 (by decide), e main_v13 (by decide), e main_v15 (by decide), e main_v17 (by decide), e main_v19 (by decide), e main_v21 (by decide), e main_v22 (by decide)]
  rfl

/-- The pieces of the packed weights are column ranges of the weights. -/
theorem slices_apply (c : Dev nD) (k : Fin 2048) :
    (∀ l : Fin 1024, V (F := Ideal) m c main_v1 (ix2 k l) = argW m c k ⟨0 + l.val, by omega⟩) ∧
    (∀ l : Fin 512, V (F := Ideal) m c main_v3 (ix2 k l) = argW m c k ⟨1280 + l.val, by omega⟩) ∧
    (∀ l : Fin 512, V (F := Ideal) m c main_v5 (ix2 k l) = argW m c k ⟨1792 + l.val, by omega⟩) ∧
    (∀ l : Fin 512, V (F := Ideal) m c main_v7 (ix2 k l) = argW m c k ⟨2304 + l.val, by omega⟩) ∧
    (∀ l : Fin 512, V (F := Ideal) m c main_v9 (ix2 k l) = argW m c k ⟨2816 + l.val, by omega⟩) ∧
    (∀ l : Fin 1024, V (F := Ideal) m c main_v11 (ix2 k l) = argW m c k ⟨3328 + l.val, by omega⟩) ∧
    (∀ l : Fin 512, V (F := Ideal) m c main_v13 (ix2 k l) = argW m c k ⟨4352 + l.val, by omega⟩) ∧
    (∀ l : Fin 512, V (F := Ideal) m c main_v15 (ix2 k l) = argW m c k ⟨4864 + l.val, by omega⟩) ∧
    (∀ l : Fin 128, V (F := Ideal) m c main_v17 (ix2 k l) = argW m c k ⟨1024 + l.val, by omega⟩) ∧
    (∀ l : Fin 128, V (F := Ideal) m c main_v19 (ix2 k l) = argW m c k ⟨1152 + l.val, by omega⟩) ∧
    (∀ l : Fin 8, V (F := Ideal) m c main_v21 (ix2 k l) = argW m c k ⟨5376 + l.val, by omega⟩) := by
  refine ⟨?_, ?_, ?_, ?_, ?_, ?_, ?_, ?_, ?_, ?_, ?_⟩ <;>
  · intro l
    rw [V_eq]
    entry_read
    pointwise [argW]

/-- The packed column of a column of the weights. -/
def packed (l : Fin 5384) : Fin 5632 :=
  if l.val < 1024 then ⟨l.val, by omega⟩ else if h : l.val < 1280 then ⟨l.val + 4096, by omega⟩
  else if h : l.val < 5376 then ⟨l.val - 256, by omega⟩ else ⟨l.val, by omega⟩

/-- The ranges of the weights' columns that are packed as one piece. -/
theorem col_cases (l : ℕ) (hl : l < 5384) :
    (0 ≤ l ∧ l < 1024) ∨ (1024 ≤ l ∧ l < 1152) ∨ (1152 ≤ l ∧ l < 1280) ∨ (1280 ≤ l ∧ l < 1792) ∨ (1792 ≤ l ∧ l < 2304) ∨
    (2304 ≤ l ∧ l < 2816) ∨ (2816 ≤ l ∧ l < 3328) ∨ (3328 ≤ l ∧ l < 4352) ∨ (4352 ≤ l ∧ l < 4864) ∨ (4864 ≤ l ∧ l < 5376) ∨
    (5376 ≤ l ∧ l < 5384) := by omega

theorem packed_val (l : Fin 5384) : (packed l).val = if l.val < 1024 then l.val else if l.val < 1280 then l.val + 4096
    else if l.val < 5376 then l.val - 256 else l.val := by
  unfold packed; split_ifs <;> rfl

set_option maxHeartbeats 800000 in
/-- The packed weights at the packed column are the weights at the column. -/
theorem v23_packed (c : Dev nD) (k : Fin 2048) (l : Fin 5384) :
    V (F := Ideal) m c main_v23 (ix2 k (packed l)) = argW m c k l := by
  have key : ∀ (o w : ℕ) (x : Fin w) (ho : o + w ≤ 5384) (A : (⟨2, ![2048, w]⟩ : Shape).Idx → EReal)
      (hA : ∀ y : Fin w, A (ix2 k y) = argW m c k ⟨o + y.val, by omega⟩) (e : o + x.val = l.val)
      (h : V (F := Ideal) m c main_v23 (ix2 k (packed l)) = A (ix2 k x)),
      V (F := Ideal) m c main_v23 (ix2 k (packed l)) = argW m c k l :=
    fun o w x ho A hA e h => h.trans ((hA x).trans (congrArg (argW m c k) (Fin.ext e)))
  have hp := packed_val l
  have hl := l.isLt
  obtain ⟨h0, h1, h2, h3, h4, h5, h6, h7, h8, h9, h10⟩ := slices_apply m c k
  rcases col_cases l.val l.isLt with h | h | h | h | h | h | h | h | h | h | h
  · exact key 0 1024 ⟨l.val - 0, by omega⟩ (by omega) _ h0 (by show 0 + (l.val - 0) = l.val; omega) ((congrFun (v23_eq m c) _).trans (Columns.concat_apply _ _ k (packed l) 0 (by show 0 < 12; decide) _ rfl 0 rfl _ (by rw [hp]; show 0 + (l.val - 0) = _; split_ifs <;> omega)))
  · exact key 1024 128 ⟨l.val - 1024, by omega⟩ (by omega) _ h8 (by show 1024 + (l.val - 1024) = l.val; omega) ((congrFun (v23_eq m c) _).trans (Columns.concat_apply _ _ k (packed l) 8 (by show 8 < 12; decide) _ rfl 5120 rfl _ (by rw [hp]; show 5120 + (l.val - 1024) = _; split_ifs <;> omega)))
  · exact key 1152 128 ⟨l.val - 1152, by omega⟩ (by omega) _ h9 (by show 1152 + (l.val - 1152) = l.val; omega) ((congrFun (v23_eq m c) _).trans (Columns.concat_apply _ _ k (packed l) 9 (by show 9 < 12; decide) _ rfl 5248 rfl _ (by rw [hp]; show 5248 + (l.val - 1152) = _; split_ifs <;> omega)))
  · exact key 1280 512 ⟨l.val - 1280, by omega⟩ (by omega) _ h1 (by show 1280 + (l.val - 1280) = l.val; omega) ((congrFun (v23_eq m c) _).trans (Columns.concat_apply _ _ k (packed l) 1 (by show 1 < 12; decide) _ rfl 1024 rfl _ (by rw [hp]; show 1024 + (l.val - 1280) = _; split_ifs <;> omega)))
  · exact key 1792 512 ⟨l.val - 1792, by omega⟩ (by omega) _ h2 (by show 1792 + (l.val - 1792) = l.val; omega) ((congrFun (v23_eq m c) _).trans (Columns.concat_apply _ _ k (packed l) 2 (by show 2 < 12; decide) _ rfl 1536 rfl _ (by rw [hp]; show 1536 + (l.val - 1792) = _; split_ifs <;> omega)))
  · exact key 2304 512 ⟨l.val - 2304, by omega⟩ (by omega) _ h3 (by show 2304 + (l.val - 2304) = l.val; omega) ((congrFun (v23_eq m c) _).trans (Columns.concat_apply _ _ k (packed l) 3 (by show 3 < 12; decide) _ rfl 2048 rfl _ (by rw [hp]; show 2048 + (l.val - 2304) = _; split_ifs <;> omega)))
  · exact key 2816 512 ⟨l.val - 2816, by omega⟩ (by omega) _ h4 (by show 2816 + (l.val - 2816) = l.val; omega) ((congrFun (v23_eq m c) _).trans (Columns.concat_apply _ _ k (packed l) 4 (by show 4 < 12; decide) _ rfl 2560 rfl _ (by rw [hp]; show 2560 + (l.val - 2816) = _; split_ifs <;> omega)))
  · exact key 3328 1024 ⟨l.val - 3328, by omega⟩ (by omega) _ h5 (by show 3328 + (l.val - 3328) = l.val; omega) ((congrFun (v23_eq m c) _).trans (Columns.concat_apply _ _ k (packed l) 5 (by show 5 < 12; decide) _ rfl 3072 rfl _ (by rw [hp]; show 3072 + (l.val - 3328) = _; split_ifs <;> omega)))
  · exact key 4352 512 ⟨l.val - 4352, by omega⟩ (by omega) _ h6 (by show 4352 + (l.val - 4352) = l.val; omega) ((congrFun (v23_eq m c) _).trans (Columns.concat_apply _ _ k (packed l) 6 (by show 6 < 12; decide) _ rfl 4096 rfl _ (by rw [hp]; show 4096 + (l.val - 4352) = _; split_ifs <;> omega)))
  · exact key 4864 512 ⟨l.val - 4864, by omega⟩ (by omega) _ h7 (by show 4864 + (l.val - 4864) = l.val; omega) ((congrFun (v23_eq m c) _).trans (Columns.concat_apply _ _ k (packed l) 7 (by show 7 < 12; decide) _ rfl 4608 rfl _ (by rw [hp]; show 4608 + (l.val - 4864) = _; split_ifs <;> omega)))
  · exact key 5376 8 ⟨l.val - 5376, by omega⟩ (by omega) _ h10 (by show 5376 + (l.val - 5376) = l.val; omega) ((congrFun (v23_eq m c) _).trans (Columns.concat_apply _ _ k (packed l) 10 (by show 10 < 12; decide) _ rfl 5376 rfl _ (by rw [hp]; show 5376 + (l.val - 5376) = _; split_ifs <;> omega)))

end Cert.Kernel2Ideal.In

end
-- ==== Proof.In.Tail.lean ====
module

public import proofs.«01_k».proof.Proof.In.Entry

@[expose] public section

/-!
# After the input projection's call

The columns of the call's array are put back in the order of the weights' columns, and the rows are split into
sequences.
-/

set_option maxRecDepth 16384

noncomputable section

namespace Cert.Kernel2Ideal.In

open Cert.Kernel2Ideal Cert.Kernel2Ideal.Gen Idealize.ShloMosaic Idealize.ShloMosaic.TcCoe Idealize.SL.Sem Idealize.ShloMosaic.Tactic

variable (U : Valuation τ sig (Elt Ideal))

/-- The contents after the operations that follow the call. -/
abbrev T (r : Ref sig .tc) : r.ty.Contents (Elt Ideal) := StableHlo.after (hostOps1 (F := Ideal)) U (Proc.devRef .tc r)

theorem t38_eq : T U main_v38 = concatenate S16384x5384 1 [⟨S16384x1024, T U main_v27⟩,
    ⟨S16384x128, T U main_v28⟩,
    ⟨S16384x128, T U main_v29⟩,
    ⟨S16384x512, T U main_v30⟩,
    ⟨S16384x512, T U main_v31⟩,
    ⟨S16384x512, T U main_v32⟩,
    ⟨S16384x512, T U main_v33⟩,
    ⟨S16384x1024, T U main_v34⟩,
    ⟨S16384x512, T U main_v35⟩,
    ⟨S16384x512, T U main_v36⟩,
    ⟨S16384x8, T U main_v37⟩]
    concatenates_S16384x1024_S16384x128_S16384x128_S16384x512_S16384x512_S16384x512_S16384x512_S16384x1024_S16384x512_S16384x512_S16384x8_S16384x5384_d1 := by
  unfold T
  rw [StableHlo.after_last_write (i := 11) [main_v39] rfl rfl (by decide)]
  have e : ∀ r : Ref sig .tc, r ∉ [main_v38, main_v39] → StableHlo.after (hostOps1 (F := Ideal)) U (Proc.devRef .tc r) = StableHlo.upto (hostOps1 (F := Ideal)) U 11 (Proc.devRef .tc r) :=
    fun r hr => after_eq_upto _ 11 [main_v38, main_v39] rfl hr _
  rw [StableHlo.nary_result]
  rw [e main_v27 (by decide), e main_v28 (by decide), e main_v29 (by decide), e main_v30 (by decide), e main_v31 (by decide), e main_v32 (by decide), e main_v33 (by decide), e main_v34 (by decide), e main_v35 (by decide), e main_v36 (by decide), e main_v37 (by decide)]
  rfl

theorem t39_apply (b : Fin 4) (s : Fin 4096) (l : Fin 5384) :
    T U main_v39 (ix3 b s l) = T U main_v38 (ix2 (⟨b.val * 4096 + s.val, by omega⟩ : Fin 16384) l) := by
  have e : T U main_v39 = shapeCast S4x4096x5384 (T U main_v38) shapeCasts_S16384x5384_S4x4096x5384 := by
    refine (StableHlo.after_last_write (i := 12) [] rfl rfl (by decide) U).trans ?_
    rw [
      show T U main_v38 = StableHlo.upto (hostOps1 (F := Ideal)) U 12 (Proc.devRef .tc main_v38) from after_eq_upto _ 12 [main_v39] rfl (by decide) _]
    rw [StableHlo.reshape_result]
    rfl
  rw [e]
  generalize T U main_v38 = A
  pointwise

/-- The call's array at an index. -/
abbrev out26 : S16384x5632.Idx → EReal := U (Proc.devRef .tc main_v26)

/-- The pieces that are put back in order are column ranges of the call's array. -/
theorem pieces_apply (i : Fin 16384) :
    (∀ l : Fin 1024, T U main_v27 (ix2 i l) = out26 U (ix2 i ⟨0 + l.val, by omega⟩)) ∧
    (∀ l : Fin 128, T U main_v28 (ix2 i l) = out26 U (ix2 i ⟨5120 + l.val, by omega⟩)) ∧
    (∀ l : Fin 128, T U main_v29 (ix2 i l) = out26 U (ix2 i ⟨5248 + l.val, by omega⟩)) ∧
    (∀ l : Fin 512, T U main_v30 (ix2 i l) = out26 U (ix2 i ⟨1024 + l.val, by omega⟩)) ∧
    (∀ l : Fin 512, T U main_v31 (ix2 i l) = out26 U (ix2 i ⟨1536 + l.val, by omega⟩)) ∧
    (∀ l : Fin 512, T U main_v32 (ix2 i l) = out26 U (ix2 i ⟨2048 + l.val, by omega⟩)) ∧
    (∀ l : Fin 512, T U main_v33 (ix2 i l) = out26 U (ix2 i ⟨2560 + l.val, by omega⟩)) ∧
    (∀ l : Fin 1024, T U main_v34 (ix2 i l) = out26 U (ix2 i ⟨3072 + l.val, by omega⟩)) ∧
    (∀ l : Fin 512, T U main_v35 (ix2 i l) = out26 U (ix2 i ⟨4096 + l.val, by omega⟩)) ∧
    (∀ l : Fin 512, T U main_v36 (ix2 i l) = out26 U (ix2 i ⟨4608 + l.val, by omega⟩)) ∧
    (∀ l : Fin 8, T U main_v37 (ix2 i l) = out26 U (ix2 i ⟨5376 + l.val, by omega⟩)) := by
  refine ⟨?_, ?_, ?_, ?_, ?_, ?_, ?_, ?_, ?_, ?_, ?_⟩ <;>
  · intro l
    unfold T
    entry_read
    pointwise [out26]

set_option maxHeartbeats 800000 in
/-- The result at a column is the call's array at the packed column. -/
theorem t38_packed (i : Fin 16384) (l : Fin 5384) : T U main_v38 (ix2 i l) = out26 U (ix2 i (packed l)) := by
  have hp := packed_val l
  have hl := l.isLt
  have key : ∀ (o w : ℕ) (x : Fin w) (ho : o + w ≤ 5632) (A : (⟨2, ![16384, w]⟩ : Shape).Idx → EReal)
      (hA : ∀ y : Fin w, A (ix2 i y) = out26 U (ix2 i ⟨o + y.val, by omega⟩)) (e : o + x.val = (packed l).val)
      (h : T U main_v38 (ix2 i l) = A (ix2 i x)), T U main_v38 (ix2 i l) = out26 U (ix2 i (packed l)) :=
    fun o w x ho A hA e h => h.trans ((hA x).trans (congrArg (fun j => out26 U (ix2 i j)) (Fin.ext e)))
  obtain ⟨h0, h1, h2, h3, h4, h5, h6, h7, h8, h9, h10⟩ := pieces_apply U i
  rcases col_cases l.val l.isLt with h | h | h | h | h | h | h | h | h | h | h
  · exact key 0 1024 ⟨l.val - 0, by omega⟩ (by omega) _ h0 (by rw [hp]; show 0 + (l.val - 0) = _; split_ifs <;> omega) ((congrFun (t38_eq U) _).trans (Columns.concat_apply _ _ i l 0 (by show 0 < 11; decide) _ rfl 0 rfl _ (by show 0 + (l.val - 0) = l.val; omega)))
  · exact key 5120 128 ⟨l.val - 1024, by omega⟩ (by omega) _ h1 (by rw [hp]; show 5120 + (l.val - 1024) = _; split_ifs <;> omega) ((congrFun (t38_eq U) _).trans (Columns.concat_apply _ _ i l 1 (by show 1 < 11; decide) _ rfl 1024 rfl _ (by show 1024 + (l.val - 1024) = l.val; omega)))
  · exact key 5248 128 ⟨l.val - 1152, by omega⟩ (by omega) _ h2 (by rw [hp]; show 5248 + (l.val - 1152) = _; split_ifs <;> omega) ((congrFun (t38_eq U) _).trans (Columns.concat_apply _ _ i l 2 (by show 2 < 11; decide) _ rfl 1152 rfl _ (by show 1152 + (l.val - 1152) = l.val; omega)))
  · exact key 1024 512 ⟨l.val - 1280, by omega⟩ (by omega) _ h3 (by rw [hp]; show 1024 + (l.val - 1280) = _; split_ifs <;> omega) ((congrFun (t38_eq U) _).trans (Columns.concat_apply _ _ i l 3 (by show 3 < 11; decide) _ rfl 1280 rfl _ (by show 1280 + (l.val - 1280) = l.val; omega)))
  · exact key 1536 512 ⟨l.val - 1792, by omega⟩ (by omega) _ h4 (by rw [hp]; show 1536 + (l.val - 1792) = _; split_ifs <;> omega) ((congrFun (t38_eq U) _).trans (Columns.concat_apply _ _ i l 4 (by show 4 < 11; decide) _ rfl 1792 rfl _ (by show 1792 + (l.val - 1792) = l.val; omega)))
  · exact key 2048 512 ⟨l.val - 2304, by omega⟩ (by omega) _ h5 (by rw [hp]; show 2048 + (l.val - 2304) = _; split_ifs <;> omega) ((congrFun (t38_eq U) _).trans (Columns.concat_apply _ _ i l 5 (by show 5 < 11; decide) _ rfl 2304 rfl _ (by show 2304 + (l.val - 2304) = l.val; omega)))
  · exact key 2560 512 ⟨l.val - 2816, by omega⟩ (by omega) _ h6 (by rw [hp]; show 2560 + (l.val - 2816) = _; split_ifs <;> omega) ((congrFun (t38_eq U) _).trans (Columns.concat_apply _ _ i l 6 (by show 6 < 11; decide) _ rfl 2816 rfl _ (by show 2816 + (l.val - 2816) = l.val; omega)))
  · exact key 3072 1024 ⟨l.val - 3328, by omega⟩ (by omega) _ h7 (by rw [hp]; show 3072 + (l.val - 3328) = _; split_ifs <;> omega) ((congrFun (t38_eq U) _).trans (Columns.concat_apply _ _ i l 7 (by show 7 < 11; decide) _ rfl 3328 rfl _ (by show 3328 + (l.val - 3328) = l.val; omega)))
  · exact key 4096 512 ⟨l.val - 4352, by omega⟩ (by omega) _ h8 (by rw [hp]; show 4096 + (l.val - 4352) = _; split_ifs <;> omega) ((congrFun (t38_eq U) _).trans (Columns.concat_apply _ _ i l 8 (by show 8 < 11; decide) _ rfl 4352 rfl _ (by show 4352 + (l.val - 4352) = l.val; omega)))
  · exact key 4608 512 ⟨l.val - 4864, by omega⟩ (by omega) _ h9 (by rw [hp]; show 4608 + (l.val - 4864) = _; split_ifs <;> omega) ((congrFun (t38_eq U) _).trans (Columns.concat_apply _ _ i l 9 (by show 9 < 11; decide) _ rfl 4864 rfl _ (by show 4864 + (l.val - 4864) = l.val; omega)))
  · exact key 5376 8 ⟨l.val - 5376, by omega⟩ (by omega) _ h10 (by rw [hp]; show 5376 + (l.val - 5376) = _; split_ifs <;> omega) ((congrFun (t38_eq U) _).trans (Columns.concat_apply _ _ i l 10 (by show 10 < 11; decide) _ rfl 5376 rfl _ (by show 5376 + (l.val - 5376) = l.val; omega)))

end Cert.Kernel2Ideal.In

end
-- ==== Proof.In.Final.lean ====
module

public import proofs.«01_k».proof.Proof.In.Tail

@[expose] public section

/-!
# What the input projection leaves

The 64 points are 16 row blocks by 4 column blocks. The first point of a row block keeps its rows normalised, so every
point multiplies the normalised rows of its own row block by its columns of the packed weights.
-/

set_option maxRecDepth 16384

noncomputable section

namespace Cert.Kernel2Ideal.In

open Cert.Norm (proj proj_congr)
open Cert.Kernel2Ideal Cert.Kernel2Ideal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- Where every window's block stands at a point. -/
theorem idx : ∀ t : Fin cfg0.N, win0_0.index t = ![t.val / 4, 0] ∧ win0_1.index t = ![0, 0] ∧ win0_2.index t = ![0, t.val % 4]
    ∧ win0_3.index t = ![t.val / 4, t.val % 4] := by
  decide +kernel

theorem t_lt (t : Fin cfg0.N) : t.val < 64 := t.isLt

theorem blk0 (c : Dev nD) (t : Fin cfg0.N) (r : Fin 1024) (k : Fin 2048) :
    iblk m c 0 t (ix2 r k) = V (F := Ideal) m c main_v24 (ix2 (⟨t.val / 4 * 1024 + r.val, by have := t_lt t; omega⟩ : Fin 16384) k) := by
  have := t_lt t
  blk_ext [iblk, idx t]

theorem blk1 (c : Dev nD) (t : Fin cfg0.N) (k : Fin 2048) :
    iblk m c 1 t (ix2 0 k) = V (F := Ideal) m c main_v25 (ix2 0 k) := by
  have := t_lt t
  blk_ext [iblk, idx t]

theorem blk2 (c : Dev nD) (t : Fin cfg0.N) (k : Fin 2048) (j : Fin 1408) :
    iblk m c 2 t (ix2 k j) = V (F := Ideal) m c main_v23 (ix2 k (⟨t.val % 4 * 1408 + j.val, by omega⟩ : Fin 5632)) := by
  have := t_lt t
  blk_ext [iblk, idx t]

/-- The point that opens a point's row block. -/
def opening (n : ℕ) (h : n < cfg0.N) : Fin cfg0.N := ⟨4 * (n / 4), by omega⟩

theorem outs_first (c : Dev nD) (t : Fin cfg0.N) (h0 : t.val % 4 = 0) :
    outsAt0 m c t.val t.isLt = (k0_pay2 (k0_pay1 (iblk m c 0 t) (iblk m c 1 t)) (iblk m c 2 t), k0_pay1 (iblk m c 0 t) (iblk m c 1 t)) := by
  rw [outsAt0_A m c t h0]
  rw [outA, keptA]

theorem outs_later (c : Dev nD) (t : Fin cfg0.N) (h0 : ¬t.val % 4 = 0) (h : t.val - 1 < cfg0.N) :
    outsAt0 m c t.val t.isLt = (k0_pay2 (outsAt0 m c (t.val - 1) h).2 (iblk m c 2 t), (outsAt0 m c (t.val - 1) h).2) := by
  rw [outsAt0_B m c t h0]
  rw [outB]
  rfl

/-- The rows a point finds kept, or keeps, are those of its row block, normalised. -/
theorem kept (c : Dev nD) : ∀ (n : ℕ) (t : Fin cfg0.N), t.val = n →
    (outsAt0 m c t.val t.isLt).2 = k0_pay1 (iblk m c 0 (opening t.val t.isLt)) (iblk m c 1 (opening t.val t.isLt)) := by
  intro n
  induction n with
  | zero =>
    intro t ht
    have h0 : t.val % 4 = 0 := by omega
    have eo : opening t.val t.isLt = t := Fin.ext (by show 4 * (t.val / 4) = t.val; omega)
    rw [outs_first m c t h0, eo]
  | succ n ih =>
    intro t ht
    by_cases h0 : t.val % 4 = 0
    · have eo : opening t.val t.isLt = t := Fin.ext (by show 4 * (t.val / 4) = t.val; omega)
      rw [outs_first m c t h0, eo]
    · have hl : t.val - 1 < cfg0.N := Nat.lt_of_le_of_lt (Nat.sub_le _ _) t.isLt
      have eo : opening t.val t.isLt = opening (t.val - 1) hl := Fin.ext (by show 4 * (t.val / 4) = 4 * ((t.val - 1) / 4); omega)
      rw [outs_later m c t h0 hl, eo]
      exact ih ⟨t.val - 1, hl⟩ (by show t.val - 1 = n; omega)

/-- The block a point leaves. -/
theorem out_eq (c : Dev nD) (t : Fin cfg0.N) :
    (outsAt0 m c t.val t.isLt).1 = k0_pay2 (k0_pay1 (iblk m c 0 (opening t.val t.isLt)) (iblk m c 1 (opening t.val t.isLt))) (iblk m c 2 t) := by
  by_cases h0 : t.val % 4 = 0
  · have eo : opening t.val t.isLt = t := Fin.ext (by show 4 * (t.val / 4) = t.val; omega)
    rw [outs_first m c t h0, eo]
  · have hl : t.val - 1 < cfg0.N := Nat.lt_of_le_of_lt (Nat.sub_le _ _) t.isLt
    have e := kept m c t.val t rfl
    rw [outs_later m c t h0 hl] at e ⊢
    rw [← e]

/-- The block a point leaves, element by element. -/
theorem out_apply (c : Dev nD) (t : Fin cfg0.N) (y : S1024x1408.Idx) : (outsAt0 m c t.val t.isLt).1 y
    = proj (fun k => iblk m c 0 (opening t.val t.isLt) (ix2 (y 0) k)) (fun k => iblk m c 1 (opening t.val t.isLt) (ix2 0 k)) (fun k => iblk m c 2 t (ix2 k (y 1))) := by
  rw [out_eq, eq_ix2 y]
  exact pay_apply _ _ _ _ _

/-- The call's array. -/
def P (c : Dev nD) : S16384x5632.Idx → EReal := fun i =>
  proj (argX m c ⟨(i 0).val / 4096, by have h : (i 0).val < 16384 := (i 0).isLt; omega⟩ ⟨(i 0).val % 4096, by omega⟩) (argG m c)
    (fun k => V (F := Ideal) m c main_v23 (ix2 k (i 1)))

theorem final (c : Dev nD) : (dats m 0 c).arrAt 3 cfg0.N = P m c := by
  refine (dats m 0 c).arrAt_eq_of_covers 3 _ (by decide +kernel) fun t hf y => ?_
  have ht := t_lt t
  have l0 : (y 0).val < 1024 := (y 0).isLt
  have l1 : (y 1).val < 1408 := (y 1).isLt
  have e0 : ((((cfg0.win 3).blk t).view.emb y) 0 : ℕ) = t.val / 4 * 1024 + (y 0).val := by blk_simp [idx t]
  have e1 : ((((cfg0.win 3).blk t).view.emb y) 1 : ℕ) = t.val % 4 * 1408 + (y 1).val := by blk_simp [idx t]
  rw [after0_3]
  rw [out_apply, cast_eq]
  have h0 : ((cfg0.win 3).xinj (cfg0.grid.coords t) y 0).val = (y 0).val := rfl
  have h1 : ((cfg0.win 3).xinj (cfg0.grid.coords t) y 1).val = (y 1).val := rfl
  have ho : (opening t.val t.isLt).val / 4 = t.val / 4 := by show 4 * (t.val / 4) / 4 = t.val / 4; omega
  unfold P
  refine proj_congr (fun k => ?_) (fun k => ?_) (fun k => ?_)
  · refine (blk0 m c _ _ k).trans ((v24_apply m c _ k).trans ?_)
    apply argX_congr
    · show ((opening t.val t.isLt).val / 4 * 1024 + (y 0).val) / 4096 = _ / 4096; rw [e0, ho]
    · show ((opening t.val t.isLt).val / 4 * 1024 + (y 0).val) % 4096 = _ % 4096; rw [e0, ho]
  · exact (blk1 m c _ k).trans (v25_apply m c k)
  · refine (blk2 m c t k _).trans ?_
    exact congrArg (fun j => V (F := Ideal) m c main_v23 (ix2 k j)) (Fin.ext e1.symm)

/-- The result: the normalised input times the weights. -/
def G (c : Dev nD) : S4x4096x5384.Idx → EReal := fun i => proj (argX m c (i 0) (i 1)) (argG m c) (fun k => argW m c k (i 2))

/-- After the operations that follow the call, the result array is that product. -/
theorem result (c : Dev nD) : Pipeline.afterTail₀ cfgs (dats m) 0 (V0 m) [hostOps1] c main_v39 = G m c := by
  unfold Pipeline.afterTail₀
  simp only [List.flatten_cons, List.flatten_nil, List.append_nil]
  have hw : Pipeline.withArrays (cfgs 0).spec c (V0 m c) (fun w => (dats m 0 c).arrAt w (cfgs 0).N) (Proc.devRef .tc main_v26) = P m c :=
    (Pipeline.withArrays_arr (cfgs 0).spec (by decide) c (V0 m c) (fun w => (dats m 0 c).arrAt w (cfgs 0).N) 3).trans (final m c)
  funext i
  obtain ⟨b, s, l, rfl⟩ : ∃ (b : Fin 4) (s : Fin 4096) (l : Fin 5384), i = ix3 b s l := ⟨i 0, i 1, i 2, eq_ix3 i⟩
  refine (t39_apply _ b s l).trans ((t38_packed _ _ l).trans ?_)
  refine (congrFun hw _).trans ?_
  refine proj_congr (fun k => ?_) (fun k => rfl) (fun k => v23_packed m c k l)
  apply argX_congr
  · show (b.val * 4096 + s.val) / 4096 = b.val; omega
  · show (b.val * 4096 + s.val) % 4096 = s.val; omega

/-- The whole run: the result is the normalised input times the weights, the arguments are as they were. -/
theorem run (ρ : Dev nD → PrngReg) : θ_run defs (onTc (τ := τ) (main (F := Ideal))) ⟨m, fun _ => 0, ρ⟩ fun r => ∀ c : Dev nD,
      r.2.mem ((c : Thread nD τ).loc main_v39) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v39 (Pipeline.mem_restRefs_of main_v39 (by decide) (by decide))).trans (result m c), h.2 c⟩)
    (θ_run_and (run_main m ρ) (unchanged m ρ))

end Cert.Kernel2Ideal.In

end
-- ==== Proof.In.Claims.lean ====
module

public import proofs.«01_k».proof.Defs
public import proofs.«01_k».proof.Proof.In.Final
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pointwise

@[expose] public section

/-!
# The claims about the input projection's call
-/

noncomputable section

namespace Cert.Reference2Ideal.In

open Cert.Norm (rmsScale rms proj)
open Cert.Reference2Ideal Cert.Reference2Ideal.Gen Cert.Reference2Ideal.Read Idealize.ShloMosaic Idealize.ShloMosaic.TcCoe Idealize.SL.Sem Idealize.ShloMosaic.Tactic

theorem row (b : Fin 4) (s : Fin 4096) (k : Fin 2048) : idx_main_v1 (ix2 b s) k = ix3 b s k := by
  funext a
  fin_cases a <;> rfl

/-- The reference's normalised rows. -/
theorem normed (X : (⟨S4x4096x2048, .f32⟩ : BufTy).Contents (Elt Ideal)) (g : (⟨S2048, .f32⟩ : BufTy).Contents (Elt Ideal)) (b : Fin 4) (s : Fin 4096) (d : Fin 2048) :
    val_main_v12 (F := Ideal) X g (ix3 b s d) = rms (fun k => X (ix3 b s k)) (fun k => g (ix1 k)) d := by
  pointwise [val_main_v12, val_main_v11, val_main_v10, val_main_v9, val_main_v8, val_main_v7, val_main_v6, val_main_v5, val_main_cst_1,
    val_main_v4, val_main_v3, val_main_cst_0, val_main_v2, rms, rmsScale]
  rw [val_main_v1_apply]
  pointwise [val_main_v0, val_main_cst]
  simp only [row]

/-- The reference's result is the normalised input times the weights. -/
theorem result (X : (⟨S4x4096x2048, .f32⟩ : BufTy).Contents (Elt Ideal)) (g : (⟨S2048, .f32⟩ : BufTy).Contents (Elt Ideal))
    (W : (⟨S2048x5384, .f32⟩ : BufTy).Contents (Elt Ideal)) (b : Fin 4) (s : Fin 4096) (j : Fin 5384) :
    val_main_v13 (F := Ideal) X g W (ix3 b s j) = proj (fun k => X (ix3 b s k)) (fun k => g (ix1 k)) (fun k => W (ix2 k j)) := by
  pointwise [val_main_v13, proj]
  exact Finset.sum_congr rfl fun k _ => by rw [normed]

end Cert.Reference2Ideal.In

namespace Cert.In

open Idealize.ShloMosaic Idealize.SL.Sem

theorem frame_kernel : Cert.quiescent_Kernel2 := fun m ρ _ => Cert.Kernel2.Gen.frame m ρ

theorem frame_kernelIdeal : Cert.quiescent_Kernel2Ideal := fun m ρ _ => Cert.Kernel2Ideal.Gen.frame m ρ

/-- The reference is straight-line and declares no semaphore. -/
theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- Both programs end with the normalised input times the weights. -/
theorem algebraic : Cert.algebraic_Kernel2Ideal_Reference2Ideal := fun m ρ m' ρ' hpre hag =>
  ⟨fun c => Cert.Kernel2Ideal.In.G m c, Cert.Kernel2Ideal.In.run m ρ,
    (θ_run Cert.Reference2Ideal.defs _ _).mono (fun _ h c => ⟨(h c).1.trans (by
      rw [Cert.Reference2Ideal.Read.val_main_v13_eq, (hag c).1, (hag c).2.1, (hag c).2.2]
      funext i
      rw [eq_ix3 i]
      exact Cert.Reference2Ideal.In.result _ _ _ _ _ _), (h c).2⟩)
    (Cert.Reference2Ideal.Value.run (F := Ideal) m' ρ')⟩

end Cert.In

end
-- ==== Proof.Query.Block.lean ====
module

public import proofs.«01_k».proof.Proof.Gen.Kernel3Ideal.Value
public import proofs.«01_k».proof.Proof.Norm.Spec
public import Idealize.ShloMosaic.Lib.Pointwise
public import Idealize.ShloMosaic.Lib.Pipeline.ValueKit
public import Idealize.ShloMosaic.Lib.StableHlo.RunRead

@[expose] public section

/-!
# One point of the query projection

A point normalises its 1024 rows, keeps them, and multiplies them by the weights.
-/

set_option maxRecDepth 16384

noncomputable section

namespace Cert.Kernel3Ideal.Query

open Cert.Norm (rmsScale rms proj)
open Cert.Kernel3Ideal Cert.Kernel3Ideal.Gen Idealize.ShloMosaic Idealize.ShloMosaic.TcCoe Idealize.SL.Sem Idealize.ShloMosaic.Tactic

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x2048 .bf16) (harg4 : arg4.IsWhole) (arg5 : Memref sig .tc .vmem S1024x2048 .f32) (harg5 : arg5.IsWhole)
  (arg6 : Memref sig .tc .vmem S1024x2048 .bf16) (harg6 : arg6.IsWhole) (hc0 : cond0_0 i)
  (x0 : Vec Ideal S1024x2048 .f32) (x1 : Vec Ideal S1x2048 .f32) (x2 : Vec Ideal S2048x2048 .bf16)

/-- What a point leaves in the output block. -/
theorem out_eq : out0_A_3 c i arg2 harg2 arg3 harg3 arg4 harg4 arg5 harg5 arg6 harg6 hc0 x0 x1 x2 = k0_pay2 (k0_pay1 x0 x1) x2 := by
  frame_out

/-- Element by element: the row normalised, times the column of weights. -/
theorem pay_apply (r : Fin 1024) (j : Fin 2048) : k0_pay2 (k0_pay1 x0 x1) x2 (ix2 r j)
    = proj (fun k => x0 (ix2 r k)) (fun k => x1 (ix2 0 k)) (fun k => x2 (ix2 k j)) := by
  pointwise [k0_pay1, k0_pay2, proj, rms, rmsScale]
end

end Cert.Kernel3Ideal.Query

end
-- ==== Proof.Query.Final.lean ====
module

public import proofs.«01_k».proof.Proof.Query.Block
public import Idealize.ShloMosaic.Lib.Pointwise
public import Idealize.ShloMosaic.Lib.Pipeline.ValueKit
public import Idealize.ShloMosaic.Lib.StableHlo.RunRead

@[expose] public section

/-!
# What the query projection's call leaves

Every grid point covers 1024 rows, so the output array is the normalised input times the weights at every index.
-/

set_option maxRecDepth 16384

noncomputable section

namespace Cert.Kernel3Ideal.Query

open Cert.Norm (proj proj_congr)
open Cert.Kernel3Ideal Cert.Kernel3Ideal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The arguments by index. -/
abbrev argX (c : Dev nD) (b : Fin 4) (s : Fin 4096) (k : Fin 2048) : EReal := m ((c : Thread nD τ).loc main_arg0) (ix3 b s k)
abbrev argG (c : Dev nD) (k : Fin 2048) : EReal := m ((c : Thread nD τ).loc main_arg1) (ix1 k)
abbrev argW (c : Dev nD) (k j : Fin 2048) : EReal := m ((c : Thread nD τ).loc main_arg2) (ix2 k j)

theorem argX_congr (c : Dev nD) {b b' : Fin 4} {s s' : Fin 4096} (k : Fin 2048) (hb : b.val = b'.val) (hs : s.val = s'.val) :
    argX m c b s k = argX m c b' s' k := by
  rw [Fin.ext hb, Fin.ext hs]

theorem v0_apply (c : Dev nD) (i : Fin 16384) (k : Fin 2048) :
    V (F := Ideal) m c main_v0 (ix2 i k) = argX m c ⟨i.val / 4096, by omega⟩ ⟨i.val % 4096, by omega⟩ k := by
  entry_read
  pointwise [argX]

theorem v2_apply (c : Dev nD) (k : Fin 2048) : V (F := Ideal) m c main_v2 (ix2 0 k) = argG m c k := by
  entry_read
  pointwise [argG]

theorem v1_apply (c : Dev nD) (k j : Fin 2048) : V (F := Ideal) m c main_v1 (ix2 k j) = argW m c k j := by
  entry_read
  pointwise [argW]

/-- Where every window's block stands at a point. -/
theorem idx : ∀ t : Fin cfg0.N, win0_0.index t = ![t.val, 0] ∧ win0_1.index t = ![0, 0] ∧ win0_2.index t = ![0, 0] ∧ win0_3.index t = ![t.val, 0] := by
  decide +kernel

theorem t_lt (t : Fin cfg0.N) : t.val < 16 := t.isLt

theorem blk0 (c : Dev nD) (t : Fin cfg0.N) (r : Fin 1024) (k : Fin 2048) :
    iblk m c 0 t (ix2 r k) = V (F := Ideal) m c main_v0 (ix2 (⟨t.val * 1024 + r.val, by have := t_lt t; omega⟩ : Fin 16384) k) := by
  have := t_lt t
  blk_ext [iblk, idx t]

theorem blk1 (c : Dev nD) (t : Fin cfg0.N) (k : Fin 2048) :
    iblk m c 1 t (ix2 0 k) = V (F := Ideal) m c main_v2 (ix2 0 k) := by
  have := t_lt t
  blk_ext [iblk, idx t]

theorem blk2 (c : Dev nD) (t : Fin cfg0.N) (k j : Fin 2048) :
    iblk m c 2 t (ix2 k j) = V (F := Ideal) m c main_v1 (ix2 k j) := by
  have := t_lt t
  blk_ext [iblk, idx t]

/-- The output array. -/
def G (c : Dev nD) : S16384x2048.Idx → EReal := fun i =>
  proj (argX m c ⟨(i 0).val / 4096, by have h : (i 0).val < 16384 := (i 0).isLt; omega⟩ ⟨(i 0).val % 4096, by omega⟩) (argG m c)
    (fun k => argW m c k (i 1))

/-- The block a point leaves is its rows normalised, times the weights. -/
theorem out_apply (c : Dev nD) (t : Fin cfg0.N) (y : S1024x2048.Idx) : outsAt0 m c t y
    = proj (fun k => iblk m c 0 t (ix2 (y 0) k)) (fun k => iblk m c 1 t (ix2 0 k)) (fun k => iblk m c 2 t (ix2 k (y 1))) := by
  unfold outsAt0
  rw [out_eq, eq_ix2 y]
  exact pay_apply _ _ _ _ _

theorem final (c : Dev nD) : (dats m 0 c).arrAt 3 cfg0.N = G m c := by
  refine (dats m 0 c).arrAt_eq_of_covers 3 _ (by decide +kernel) fun t hf y => ?_
  have ht := t_lt t
  have l0 : (y 0).val < 1024 := (y 0).isLt
  have l1 : (y 1).val < 2048 := (y 1).isLt
  have e0 : ((((cfg0.win 3).blk t).view.emb y) 0 : ℕ) = t.val * 1024 + (y 0).val := by blk_simp [idx t]
  have e1 : ((((cfg0.win 3).blk t).view.emb y) 1 : ℕ) = (y 1).val := by blk_simp [idx t]
  rw [after0_3]
  rw [out_apply, cast_eq]
  have h0 : ((cfg0.win 3).xinj (cfg0.grid.coords t) y 0).val = (y 0).val := rfl
  have h1 : ((cfg0.win 3).xinj (cfg0.grid.coords t) y 1).val = (y 1).val := rfl
  unfold G
  refine proj_congr (fun k => ?_) (fun k => ?_) (fun k => ?_)
  · refine (blk0 m c t _ k).trans ((v0_apply m c _ k).trans ?_)
    apply argX_congr
    · show (t.val * 1024 + (y 0).val) / 4096 = _ / 4096; rw [e0]
    · show (t.val * 1024 + (y 0).val) % 4096 = _ % 4096; rw [e0]
  · exact (blk1 m c t k).trans (v2_apply m c k)
  · refine (blk2 m c t k _).trans ((v1_apply m c k _).trans ?_)
    exact congrArg (argW m c k) (Fin.ext (h1.trans e1.symm))

/-- The whole run: the output array is the normalised input times the weights, the arguments are as they were. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Kernel3Ideal.Query

end
-- ==== Proof.Query.Claims.lean ====
module

public import proofs.«01_k».proof.Defs
public import proofs.«01_k».proof.Proof.Query.Final
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pointwise

@[expose] public section

/-!
# The claims about the query projection's call
-/

noncomputable section

namespace Cert.Reference3Ideal.Query

open Cert.Norm (rmsScale rms proj)
open Cert.Reference3Ideal Cert.Reference3Ideal.Gen Cert.Reference3Ideal.Read Idealize.ShloMosaic Idealize.ShloMosaic.TcCoe Idealize.SL.Sem Idealize.ShloMosaic.Tactic

theorem row (b : Fin 4) (s : Fin 4096) (k : Fin 2048) : idx_main_v1 (ix2 b s) k = ix3 b s k := by
  funext a
  fin_cases a <;> rfl

/-- The reference's normalised rows. -/
theorem normed (X : (⟨S4x4096x2048, .f32⟩ : BufTy).Contents (Elt Ideal)) (g : (⟨S2048, .f32⟩ : BufTy).Contents (Elt Ideal)) (b : Fin 4) (s : Fin 4096) (d : Fin 2048) :
    val_main_v12 (F := Ideal) X g (ix3 b s d) = rms (fun k => X (ix3 b s k)) (fun k => g (ix1 k)) d := by
  pointwise [val_main_v12, val_main_v11, val_main_v10, val_main_v9, val_main_v8, val_main_v7, val_main_v6, val_main_v5, val_main_cst_1,
    val_main_v4, val_main_v3, val_main_cst_0, val_main_v2, rms, rmsScale]
  rw [val_main_v1_apply]
  pointwise [val_main_v0, val_main_cst]
  simp only [row]

/-- The reference's result is the normalised input times the weights. -/
theorem result (X : (⟨S4x4096x2048, .f32⟩ : BufTy).Contents (Elt Ideal)) (g : (⟨S2048, .f32⟩ : BufTy).Contents (Elt Ideal))
    (W : (⟨S2048x2048, .f32⟩ : BufTy).Contents (Elt Ideal)) (i : Fin 16384) (j : Fin 2048) :
    val_main_v14 (F := Ideal) X g W (ix2 i j)
      = proj (fun k => X (ix3 ⟨i.val / 4096, by omega⟩ ⟨i.val % 4096, by omega⟩ k)) (fun k => g (ix1 k)) (fun k => W (ix2 k j)) := by
  pointwise [val_main_v14, val_main_v13, proj]
  exact Finset.sum_congr rfl fun k _ => by rw [normed]

end Cert.Reference3Ideal.Query

namespace Cert.Query

open Idealize.ShloMosaic Idealize.SL.Sem

theorem frame_kernel : Cert.quiescent_Kernel3 := fun m ρ _ => Cert.Kernel3.Gen.frame m ρ

theorem frame_kernelIdeal : Cert.quiescent_Kernel3Ideal := fun m ρ _ => Cert.Kernel3Ideal.Gen.frame m ρ

/-- The reference is straight-line and declares no semaphore. -/
theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- Both programs end with the normalised input times the weights. -/
theorem algebraic : Cert.algebraic_Kernel3Ideal_Reference3Ideal := fun m ρ m' ρ' hpre hag =>
  ⟨fun c => Cert.Kernel3Ideal.Query.G m c, Cert.Kernel3Ideal.Query.run m ρ,
    (θ_run Cert.Reference3Ideal.defs _ _).mono (fun _ h c => ⟨(h c).1.trans (by
      rw [Cert.Reference3Ideal.Read.val_main_v14_eq, (hag c).1, (hag c).2.1, (hag c).2.2]
      funext i
      rw [eq_ix2 i]
      exact Cert.Reference3Ideal.Query.result _ _ _ _ _), (h c).2⟩)
    (Cert.Reference3Ideal.Value.run (F := Ideal) m' ρ')⟩

end Cert.Query

end
-- ==== Proof.Out.Spec.lean ====
module

public import Idealize.ShloMosaic.PureOps.Ideal

@[expose] public section

/-!
# The output projection

The residual plus the mixers' outputs, side by side, times the output weights.
-/

noncomputable section

namespace Cert.Out

/-- The residual plus the sum of the three mixers' products, each with its rows of the weights. -/
def out (x : EReal) (ya : Fin 1024 → EReal) (yh ym : Fin 512 → EReal) (w : Fin 2048 → EReal) : EReal :=
  x + ((∑ k : Fin 1024, ya k * w ⟨k.val, by omega⟩) + (∑ k : Fin 512, yh k * w ⟨1024 + k.val, by omega⟩)
    + ∑ k : Fin 512, ym k * w ⟨1536 + k.val, by omega⟩)

theorem out_congr {x x' : EReal} {ya ya' : Fin 1024 → EReal} {yh yh' ym ym' : Fin 512 → EReal} {w w' : Fin 2048 → EReal}
    (h : x = x') (ha : ∀ k, ya k = ya' k) (hh : ∀ k, yh k = yh' k) (hm : ∀ k, ym k = ym' k) (hw : ∀ k, w k = w' k) :
    out x ya yh ym w = out x' ya' yh' ym' w' := by
  rw [h, funext ha, funext hh, funext hm, funext hw]

/-- A sum over the 2048 rows, by the mixers' rows. -/
theorem sum_split (f : Fin 2048 → EReal) : ∑ k, f k = (∑ k : Fin 1024, f ⟨k.val, by omega⟩)
    + (∑ k : Fin 512, f ⟨1024 + k.val, by omega⟩) + ∑ k : Fin 512, f ⟨1536 + k.val, by omega⟩ := by
  rw [Fin.sum_univ_add (a := 1536) (b := 512) f, Fin.sum_univ_add (a := 1024) (b := 512)]
  rfl

end Cert.Out

end
-- ==== Proof.Out.Final.lean ====
module

public import proofs.«01_k».proof.Proof.Gen.Kernel4Ideal.Value
public import proofs.«01_k».proof.Proof.Out.Spec
public import Idealize.ShloMosaic.Lib.Pointwise
public import Idealize.ShloMosaic.Lib.Pipeline.ValueKit
public import Idealize.ShloMosaic.Lib.StableHlo.RunRead

@[expose] public section

/-!
# What the output projection's call leaves

Every grid point's blocks are blocks of the arguments, so the output array is the output projection at every index.
-/

set_option maxRecDepth 16384

noncomputable section

namespace Cert.Kernel4Ideal.Out

open Cert.Out (out out_congr)
open Cert.Kernel4Ideal Cert.Kernel4Ideal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The arguments by index. -/
abbrev argX (c : Dev nD) (b : Fin 4) (s : Fin 4096) (k : Fin 2048) : EReal := m ((c : Thread nD τ).loc main_arg0) (ix3 b s k)
abbrev argA (c : Dev nD) (i : Fin 16384) (k : Fin 1024) : EReal := m ((c : Thread nD τ).loc main_arg1) (ix2 i k)
abbrev argH (c : Dev nD) (i : Fin 16384) (k : Fin 512) : EReal := m ((c : Thread nD τ).loc main_arg2) (ix2 i k)
abbrev argM (c : Dev nD) (i : Fin 16384) (k : Fin 512) : EReal := m ((c : Thread nD τ).loc main_arg3) (ix2 i k)
abbrev argW (c : Dev nD) (k d : Fin 2048) : EReal := m ((c : Thread nD τ).loc main_arg4) (ix2 k d)

theorem argX_congr (c : Dev nD) {b b' : Fin 4} {s s' : Fin 4096} {k k' : Fin 2048} (hb : b.val = b'.val) (hs : s.val = s'.val) (hk : k.val = k'.val) :
    argX m c b s k = argX m c b' s' k' := by
  rw [Fin.ext hb, Fin.ext hs, Fin.ext hk]

theorem v0_apply (c : Dev nD) (i : Fin 16384) (k : Fin 2048) :
    V (F := Ideal) m c main_v0 (ix2 i k) = argX m c ⟨i.val / 4096, by omega⟩ ⟨i.val % 4096, by omega⟩ k := by
  entry_read
  pointwise [argX]

theorem v2_apply (c : Dev nD) (k : Fin 1024) (d : Fin 2048) : V (F := Ideal) m c main_v2 (ix2 k d) = argW m c ⟨k.val, by omega⟩ d := by
  entry_read
  pointwise [argW]

theorem v3_apply (c : Dev nD) (k : Fin 512) (d : Fin 2048) : V (F := Ideal) m c main_v3 (ix2 k d) = argW m c ⟨1024 + k.val, by omega⟩ d := by
  entry_read
  pointwise [argW]

theorem v4_apply (c : Dev nD) (k : Fin 512) (d : Fin 2048) : V (F := Ideal) m c main_v4 (ix2 k d) = argW m c ⟨1536 + k.val, by omega⟩ d := by
  entry_read
  pointwise [argW]

/-- Where every window's block stands at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0] := by
  decide +kernel

theorem t_lt (t : Fin cfg0.N) : t.val < 32 := t.isLt

/-- The row of the arrays that a row of a point's block is. -/
def row (t : Fin cfg0.N) (r : Fin 512) : Fin 16384 := ⟨t.val * 512 + r.val, by have := t_lt t; omega⟩

theorem blk0 (c : Dev nD) (t : Fin cfg0.N) (r : Fin 512) (k : Fin 2048) :
    iblk m c 0 t (ix2 r k) = V (F := Ideal) m c main_v0 (ix2 (row t r) k) := by
  have := t_lt t
  blk_ext [iblk, idx t, row]

theorem blk1 (c : Dev nD) (t : Fin cfg0.N) (r : Fin 512) (k : Fin 1024) :
    iblk m c 1 t (ix2 r k) = V (F := Ideal) m c main_arg1 (ix2 (row t r) k) := by
  have := t_lt t
  blk_ext [iblk, idx t, row]

theorem blk2 (c : Dev nD) (t : Fin cfg0.N) (r : Fin 512) (k : Fin 512) :
    iblk m c 2 t (ix2 r k) = V (F := Ideal) m c main_arg2 (ix2 (row t r) k) := by
  have := t_lt t
  blk_ext [iblk, idx t, row]

theorem blk3 (c : Dev nD) (t : Fin cfg0.N) (r : Fin 512) (k : Fin 512) :
    iblk m c 3 t (ix2 r k) = V (F := Ideal) m c main_arg3 (ix2 (row t r) k) := by
  have := t_lt t
  blk_ext [iblk, idx t, row]

theorem blk4 (c : Dev nD) (t : Fin cfg0.N) (k : Fin 1024) (d : Fin 2048) :
    iblk m c 4 t (ix2 k d) = V (F := Ideal) m c main_v2 (ix2 k d) := by
  have := t_lt t
  blk_ext [iblk, idx t]

theorem blk5 (c : Dev nD) (t : Fin cfg0.N) (k : Fin 512) (d : Fin 2048) :
    iblk m c 5 t (ix2 k d) = V (F := Ideal) m c main_v3 (ix2 k d) := by
  have := t_lt t
  blk_ext [iblk, idx t]

theorem blk6 (c : Dev nD) (t : Fin cfg0.N) (k : Fin 512) (d : Fin 2048) :
    iblk m c 6 t (ix2 k d) = V (F := Ideal) m c main_v4 (ix2 k d) := by
  have := t_lt t
  blk_ext [iblk, idx t]

/-- The output array. -/
def G (c : Dev nD) : S16384x2048.Idx → EReal := fun i =>
  out (argX m c ⟨(i 0).val / 4096, by have h : (i 0).val < 16384 := (i 0).isLt; omega⟩ ⟨(i 0).val % 4096, by omega⟩ (i 1))
    (argA m c (i 0)) (argH m c (i 0)) (argM m c (i 0)) (fun k => argW m c k (i 1))

/-- The block a point leaves, when the weights' blocks are rows of the weights. -/
theorem out_apply (P0 : Vec Ideal S512x2048 .f32) (P1 : Vec Ideal S512x1024 .bf16) (P2 P3 : Vec Ideal S512x512 .bf16)
    (P4 : Vec Ideal S1024x2048 .bf16) (P5 P6 : Vec Ideal S512x2048 .bf16) (w : Fin 2048 → Fin 2048 → EReal)
    (h4 : ∀ (k : Fin 1024) (d : Fin 2048), P4 (ix2 k d) = w ⟨k.val, by omega⟩ d)
    (h5 : ∀ (k : Fin 512) (d : Fin 2048), P5 (ix2 k d) = w ⟨1024 + k.val, by omega⟩ d)
    (h6 : ∀ (k : Fin 512) (d : Fin 2048), P6 (ix2 k d) = w ⟨1536 + k.val, by omega⟩ d) (y : S512x2048.Idx) :
    out0_7 P0 P1 P2 P3 P4 P5 P6 y = out (P0 (ix2 (y 0) (y 1))) (fun k => P1 (ix2 (y 0) k)) (fun k => P2 (ix2 (y 0) k)) (fun k => P3 (ix2 (y 0) k))
      (fun k => w k (y 1)) := by
  unfold out0_7
  canon_tiles x h
  have e : y = x := by
    funext a
    fin_cases a
    · exact Fin.ext (by simpa using h0)
    · exact Fin.ext (by simpa using h1)
  subst e
  rw [eq_ix2 y]
  pointwise [k0_pay1, out, h4, h5, h6]

theorem final (c : Dev nD) : (dats m 0 c).arrAt 7 cfg0.N = G m c := by
  refine (dats m 0 c).arrAt_eq_of_covers 7 _ (by decide +kernel) fun t hf y => ?_
  have ht := t_lt t
  have l0 : (y 0).val < 512 := (y 0).isLt
  have l1 : (y 1).val < 2048 := (y 1).isLt
  have e0 : ((((cfg0.win 7).blk t).view.emb y) 0 : ℕ) = t.val * 512 + (y 0).val := by blk_simp [idx t]
  have e1 : ((((cfg0.win 7).blk t).view.emb y) 1 : ℕ) = (y 1).val := by blk_simp [idx t]
  rw [after0_7]
  rw [out_apply _ _ _ _ _ _ _ (argW m c) (fun k d => (blk4 m c t k d).trans (v2_apply m c k d)) (fun k d => (blk5 m c t k d).trans (v3_apply m c k d))
    (fun k d => (blk6 m c t k d).trans (v4_apply m c k d)), cast_eq]
  have h0 : ((cfg0.win 7).xinj (cfg0.grid.coords t) y 0).val = (y 0).val := rfl
  have h1 : ((cfg0.win 7).xinj (cfg0.grid.coords t) y 1).val = (y 1).val := rfl
  have hr : row t ((cfg0.win 7).xinj (cfg0.grid.coords t) y 0) = ((cfg0.win 7).blk t).view.emb y 0 := Fin.ext e0.symm
  have hd : (cfg0.win 7).xinj (cfg0.grid.coords t) y 1 = ((cfg0.win 7).blk t).view.emb y 1 := Fin.ext e1.symm
  unfold G
  refine out_congr ?_ (fun k => ?_) (fun k => ?_) (fun k => ?_) (fun k => ?_)
  · refine (blk0 m c t _ _).trans ((v0_apply m c _ _).trans ?_)
    apply argX_congr
    · show (t.val * 512 + (y 0).val) / 4096 = _ / 4096; rw [e0]
    · show (t.val * 512 + (y 0).val) % 4096 = _ % 4096; rw [e0]
    · exact e1.symm
  · refine (blk1 m c t _ k).trans ?_
    rw [V_main_arg1, hr]
  · refine (blk2 m c t _ k).trans ?_
    rw [V_main_arg2, hr]
  · refine (blk3 m c t _ k).trans ?_
    rw [V_main_arg3, hr]
  · exact congrArg (argW m c k) hd

/-- The whole run: the output array is the output projection, the arguments are as they were. -/
theorem run (ρ : Dev nD → PrngReg) : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Kernel4Ideal.Out

end
-- ==== Proof.Out.Claims.lean ====
module

public import proofs.«01_k».proof.Defs
public import proofs.«01_k».proof.Proof.Out.Final
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pointwise

@[expose] public section

/-!
# The claims about the output projection's call
-/

noncomputable section

namespace Cert.Reference4Ideal.Out

open Cert.Out (out sum_split)
open Cert.Reference4Ideal Cert.Reference4Ideal.Gen Cert.Reference4Ideal.Read Idealize.ShloMosaic Idealize.ShloMosaic.TcCoe Idealize.SL.Sem Idealize.ShloMosaic.Tactic

/-- The reference's result is the output projection. -/
theorem result (X : (⟨S4x4096x2048, .f32⟩ : BufTy).Contents (Elt Ideal)) (A : (⟨S16384x1024, .bf16⟩ : BufTy).Contents (Elt Ideal))
    (H M : (⟨S16384x512, .bf16⟩ : BufTy).Contents (Elt Ideal)) (W : (⟨S2048x2048, .f32⟩ : BufTy).Contents (Elt Ideal)) (i : Fin 16384) (d : Fin 2048) :
    val_main_v4 (F := Ideal) X A H M W (ix2 i d)
      = out (X (ix3 ⟨i.val / 4096, by omega⟩ ⟨i.val % 4096, by omega⟩ d)) (fun k => A (ix2 i k)) (fun k => H (ix2 i k)) (fun k => M (ix2 i k))
        (fun k => W (ix2 k d)) := by
  pointwise [val_main_v4, val_main_v3, val_main_v2, val_main_v1, val_main_v0, out]
  rw [sum_split]
  refine congrArg _ (congrArg₂ _ (congrArg₂ _ (Finset.sum_congr rfl fun k _ => ?_) (Finset.sum_congr rfl fun k _ => ?_)) (Finset.sum_congr rfl fun k _ => ?_))
    <;> refine congrArg (· * _) ?_ <;> dsimp only
  · rw [dif_pos k.isLt]
  · rw [dif_neg (by omega), dif_pos (by omega)]
    exact congrArg (fun x => H (ix2 i x)) (Fin.ext (by dsimp only; omega))
  · rw [dif_neg (by omega), dif_neg (by omega)]
    exact congrArg (fun x => M (ix2 i x)) (Fin.ext (by dsimp only; omega))

end Cert.Reference4Ideal.Out

namespace Cert.Out

open Idealize.ShloMosaic Idealize.SL.Sem

theorem frame_kernel : Cert.quiescent_Kernel4 := fun m ρ _ => Cert.Kernel4.Gen.frame m ρ

theorem frame_kernelIdeal : Cert.quiescent_Kernel4Ideal := fun m ρ _ => Cert.Kernel4Ideal.Gen.frame m ρ

/-- The reference is straight-line and declares no semaphore. -/
theorem frame_referenceIdeal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- Both programs end with the output projection. -/
theorem algebraic : Cert.algebraic_Kernel4Ideal_Reference4Ideal := fun m ρ m' ρ' hpre hag =>
  ⟨fun c => Cert.Kernel4Ideal.Out.G m c, Cert.Kernel4Ideal.Out.run m ρ,
    (θ_run Cert.Reference4Ideal.defs _ _).mono (fun _ h c => ⟨(h c).1.trans (by
      rw [Cert.Reference4Ideal.Read.val_main_v4_eq, (hag c).1, (hag c).2.1, (hag c).2.2.1, (hag c).2.2.2.1, (hag c).2.2.2.2]
      funext i
      rw [eq_ix2 i]
      exact Cert.Reference4Ideal.Out.result _ _ _ _ _ _ _), (h c).2⟩)
    (Cert.Reference4Ideal.Value.run (F := Ideal) m' ρ')⟩

end Cert.Out

end
-- ==== Proof.Norm.Final.lean ====
module

public import proofs.«01_k».proof.Proof.Gen.Kernel5Ideal.Value
public import proofs.«01_k».proof.Proof.Norm.Spec
public import Idealize.ShloMosaic.Lib.Pointwise
public import Idealize.ShloMosaic.Lib.Pipeline.ValueKit
public import Idealize.ShloMosaic.Lib.StableHlo.RunRead

@[expose] public section

/-!
# What the last normalisation's call leaves

Every grid point normalises 512 rows, so the output array is the normalised input at every index.
-/

set_option maxRecDepth 16384

noncomputable section

namespace Cert.Kernel5Ideal.Norm

open Cert.Norm (rmsScale rms rms_congr)
open Cert.Kernel5Ideal Cert.Kernel5Ideal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The arguments by index. -/
abbrev argX (c : Dev nD) (b : Fin 4) (s : Fin 4096) (k : Fin 2048) : EReal := m ((c : Thread nD τ).loc main_arg0) (ix3 b s k)
abbrev argG (c : Dev nD) (k : Fin 2048) : EReal := m ((c : Thread nD τ).loc main_arg1) (ix1 k)

theorem argX_congr (c : Dev nD) {b b' : Fin 4} {s s' : Fin 4096} (k : Fin 2048) (hb : b.val = b'.val) (hs : s.val = s'.val) :
    argX m c b s k = argX m c b' s' k := by
  rw [Fin.ext hb, Fin.ext hs]

theorem v0_apply (c : Dev nD) (i : Fin 16384) (k : Fin 2048) :
    V (F := Ideal) m c main_v0 (ix2 i k) = argX m c ⟨i.val / 4096, by omega⟩ ⟨i.val % 4096, by omega⟩ k := by
  entry_read
  pointwise [argX]

theorem v1_apply (c : Dev nD) (k : Fin 2048) : V (F := Ideal) m c main_v1 (ix2 0 k) = argG m c k := by
  entry_read
  pointwise [argG]

/-- Where every window's block stands at a point. -/
theorem idx : ∀ t : Fin cfg0.N, win0_0.index t = ![t.val, 0] ∧ win0_1.index t = ![0, 0] ∧ win0_2.index t = ![t.val, 0] := by
  decide +kernel

theorem t_lt (t : Fin cfg0.N) : t.val < 32 := t.isLt

theorem blk0 (c : Dev nD) (t : Fin cfg0.N) (r : Fin 512) (k : Fin 2048) :
    iblk m c 0 t (ix2 r k) = V (F := Ideal) m c main_v0 (ix2 (⟨t.val * 512 + r.val, by have := t_lt t; omega⟩ : Fin 16384) k) := by
  have := t_lt t
  blk_ext [iblk, idx t]

theorem blk1 (c : Dev nD) (t : Fin cfg0.N) (k : Fin 2048) :
    iblk m c 1 t (ix2 0 k) = V (F := Ideal) m c main_v1 (ix2 0 k) := by
  have := t_lt t
  blk_ext [iblk, idx t]

/-- The output array. -/
def G (c : Dev nD) : S16384x2048.Idx → EReal := fun i =>
  rms (argX m c ⟨(i 0).val / 4096, by have h : (i 0).val < 16384 := (i 0).isLt; omega⟩ ⟨(i 0).val % 4096, by omega⟩) (argG m c) (i 1)

/-- The block a point leaves is its rows normalised. -/
theorem out_apply (P0 : Vec Ideal S512x2048 .f32) (P1 : Vec Ideal S1x2048 .f32) (y : S512x2048.Idx) :
    out0_2 P0 P1 y = rms (fun k => P0 (ix2 (y 0) k)) (fun k => P1 (ix2 0 k)) (y 1) := by
  unfold out0_2
  canon_tiles x h
  have e : y = x := by
    funext a
    fin_cases a
    · exact Fin.ext (by simpa using h0)
    · exact Fin.ext (by simpa using h1)
  subst e
  rw [eq_ix2 y]
  pointwise [k0_pay1, rms, rmsScale]

theorem final (c : Dev nD) : (dats m 0 c).arrAt 2 cfg0.N = G m c := by
  refine (dats m 0 c).arrAt_eq_of_covers 2 _ (by decide +kernel) fun t hf y => ?_
  have ht := t_lt t
  have l0 : (y 0).val < 512 := (y 0).isLt
  have l1 : (y 1).val < 2048 := (y 1).isLt
  have e0 : ((((cfg0.win 2).blk t).view.emb y) 0 : ℕ) = t.val * 512 + (y 0).val := by blk_simp [idx t]
  have e1 : ((((cfg0.win 2).blk t).view.emb y) 1 : ℕ) = (y 1).val := by blk_simp [idx t]
  rw [after0_2]
  rw [out_apply, cast_eq]
  have h0 : ((cfg0.win 2).xinj (cfg0.grid.coords t) y 0).val = (y 0).val := rfl
  have h1 : ((cfg0.win 2).xinj (cfg0.grid.coords t) y 1).val = (y 1).val := rfl
  unfold G
  refine rms_congr (fun k => ?_) (fun k => ?_) ?_
  · refine (blk0 m c t _ k).trans ((v0_apply m c _ k).trans ?_)
    apply argX_congr
    · show (t.val * 512 + (y 0).val) / 4096 = _ / 4096; rw [e0]
    · show (t.val * 512 + (y 0).val) % 4096 = _ % 4096; rw [e0]
  · exact (blk1 m c t k).trans (v1_apply m c k)
  · exact h1.trans e1.symm

/-- The whole run: the output array is the normalised input, the arguments are as they were. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel5Ideal.Norm

end
-- ==== Proof.Norm.Claims.lean ====
module

public import proofs.«01_k».proof.Defs
public import proofs.«01_k».proof.Proof.Norm.Final
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pointwise

@[expose] public section

/-!
# The claims about the last normalisation's call
-/

noncomputable section

namespace Cert.Reference5Ideal.Norm

open Cert.Norm (rmsScale rms)
open Cert.Reference5Ideal Cert.Reference5Ideal.Gen Cert.Reference5Ideal.Read Idealize.ShloMosaic Idealize.ShloMosaic.TcCoe Idealize.SL.Sem Idealize.ShloMosaic.Tactic

theorem row (b : Fin 4) (s : Fin 4096) (k : Fin 2048) : idx_main_v1 (ix2 b s) k = ix3 b s k := by
  funext a
  fin_cases a <;> rfl

/-- The reference's result is the normalised input. -/
theorem result (X : (⟨S4x4096x2048, .f32⟩ : BufTy).Contents (Elt Ideal)) (g : (⟨S2048, .f32⟩ : BufTy).Contents (Elt Ideal)) (i : Fin 16384) (d : Fin 2048) :
    val_main_v13 (F := Ideal) X g (ix2 i d)
      = rms (fun k => X (ix3 ⟨i.val / 4096, by omega⟩ ⟨i.val % 4096, by omega⟩ k)) (fun k => g (ix1 k)) d := by
  pointwise [val_main_v13, val_main_v12, val_main_v11, val_main_v10, val_main_v9, val_main_v8, val_main_v7, val_main_v6, val_main_v5, val_main_cst_1,
    val_main_v4, val_main_v3, val_main_cst_0, val_main_v2, rms, rmsScale]
  rw [val_main_v1_apply]
  pointwise [val_main_v0, val_main_cst]
  simp only [row]

end Cert.Reference5Ideal.Norm

namespace Cert.Norm

open Idealize.ShloMosaic Idealize.SL.Sem

theorem frame_kernel : Cert.quiescent_Kernel5 := fun m ρ _ => Cert.Kernel5.Gen.frame m ρ

theorem frame_kernelIdeal : Cert.quiescent_Kernel5Ideal := fun m ρ _ => Cert.Kernel5Ideal.Gen.frame m ρ

/-- The reference is straight-line and declares no semaphore. -/
theorem frame_referenceIdeal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- Both programs end with the normalised input. -/
theorem algebraic : Cert.algebraic_Kernel5Ideal_Reference5Ideal := fun m ρ m' ρ' hpre hag =>
  ⟨fun c => Cert.Kernel5Ideal.Norm.G m c, Cert.Kernel5Ideal.Norm.run m ρ,
    (θ_run Cert.Reference5Ideal.defs _ _).mono (fun _ h c => ⟨(h c).1.trans (by
      rw [Cert.Reference5Ideal.Read.val_main_v13_eq, (hag c).1, (hag c).2]
      funext i
      rw [eq_ix2 i]
      exact Cert.Reference5Ideal.Norm.result _ _ _ _), (h c).2⟩)
    (Cert.Reference5Ideal.Value.run (F := Ideal) m' ρ')⟩

end Cert.Norm

end
-- ==== Proof.Hgrn.Step.lean ====
/-
  One chunk of the scan on any float type: what a trip of the chunk loop leaves in the output's rows and in
  the state, each a function of the chunk's columns and of the state it finds. The four heads share one text.
-/
module

public import proofs.«01_k».proof.Proof.Gen.Kernel6Ideal.Frame.Runs

@[expose] public section

set_option maxRecDepth 16384

noncomputable section

namespace Cert.Hgrn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The 64 rows of chunk `k`. -/
abbrev rows (x : Vec F S512x512 .f32) (k : Fin k0_t1_loop.trips) : Vec F S64x512 .f32 :=
  View.ld x (Rect.unit (s := S512x512) (k0_off1 k) S64x512.size (k0_off1_inb k))

theorem inb_mask (l : Fin 7) : ∀ a, (![64 * l.val, 0] : Fin 2 → ℕ) a + S64x64.size a ≤ S448x64.size a := by
  revert l; decide

/-- Level `l`'s mask. -/
abbrev mask (x : Vec F S448x64 .f32) (l : Fin 7) : Vec F S64x64 .f32 :=
  View.ld x (Rect.unit (s := S448x64) ![64 * l.val, 0] S64x64.size (inb_mask l))

theorem inb_slab (h : Fin 4) : ∀ a, (![h.val, 0, 0] : Fin 3 → ℕ) a + S1x128x128.size a ≤ S4x128x128.size a := by
  revert h; decide

/-- Head `h`'s state. -/
abbrev slab (s : Vec F S4x128x128 .f32) (h : Fin 4) : Vec F S1x128x128 .f32 :=
  View.ld s (Rect.unit (s := S4x128x128) ![h.val, 0, 0] S1x128x128.size (inb_slab h))

theorem slices_cols (h : Fin 4) : Shape.Slices S64x512 ![0, 128 * h.val] S64x128 := by revert h; decide
theorem slices_ecols (h : Fin 4) : Shape.Slices S896x512 ![0, 128 * h.val] S896x128 := by revert h; decide
theorem slices_level (n : Fin 14) : Shape.Slices S896x128 ![64 * n.val, 0] S64x128 := by revert n; decide

/-- Head `h`'s 128 columns. -/
def cols (x : FVec F S64x512 .f32) (h : Fin 4) : FVec F S64x128 .f32 :=
  extractStridedSlice S64x128 ![0, 128 * h.val] x (slices_cols h)

/-- Head `h`'s columns of the fourteen tables of factors. -/
def ecols (x : FVec F S896x512 .f32) (h : Fin 4) : FVec F S896x128 .f32 :=
  extractStridedSlice S896x128 ![0, 128 * h.val] x (slices_ecols h)

/-- Table `n` of the fourteen. -/
def level (x : FVec F S896x128 .f32) (n : Fin 14) : FVec F S64x128 .f32 :=
  extractStridedSlice S64x128 ![64 * n.val, 0] x (slices_level n)

/-- One level's scores, masked. -/
def levelScore (m : Vec F S64x64 .f32) (a b : FVec F S64x128 .f32) : FVec F S64x64 .f32 :=
  mulf m (matmul dot_S64x128_S64x128_S64x64_1_1_0_0_n_n none (truncf .bf16 a bitsLt_bf16_f32) (truncf .bf16 b bitsLt_bf16_f32)
    (constant S64x64 .f32 0x00000000#32))

/-- Level `l ≥ 1`'s scores: queries by table `l - 1`, keys by table `l + 5`. -/
def levelTerm (x7 : Vec F S448x64 .f32) (q k : FVec F S64x128 .f32) (e : FVec F S896x128 .f32) (l : Fin 6) : FVec F S64x64 .f32 :=
  levelScore (mask x7 l.succ) (mulf q (level e ⟨l.val, by omega⟩)) (mulf k (level e ⟨l.val + 6, by omega⟩))

/-- A head's scores within a chunk. -/
def scores (x7 : Vec F S448x64 .f32) (q k : FVec F S64x128 .f32) (e : FVec F S896x128 .f32) : FVec F S64x64 .f32 :=
  addf (addf (addf (addf (addf (addf (levelScore (mask x7 0) q k) (levelTerm x7 q k e 0)) (levelTerm x7 q k e 1))
    (levelTerm x7 q k e 2)) (levelTerm x7 q k e 3)) (levelTerm x7 q k e 4)) (levelTerm x7 q k e 5)

/-- A head's state as a matrix. -/
def mat (s : Vec F S1x128x128 .f32) : FVec F S128x128 .f32 := shapeCast S128x128 s shapeCasts_S1x128x128_S128x128

/-- A head's output before its norm. -/
def headRaw (x7 : Vec F S448x64 .f32) (q k v : FVec F S64x128 .f32) (e : FVec F S896x128 .f32) (s : Vec F S1x128x128 .f32) : FVec F S64x128 .f32 :=
  addf (matmul dot_S64x64_S64x128_S64x128_1_0_0_1_n_n none (truncf .bf16 (scores x7 q k e) bitsLt_bf16_f32) (truncf .bf16 v bitsLt_bf16_f32)
      (constant S64x128 .f32 0x00000000#32))
    (matmul dot_S64x128_S128x128_S64x128_1_1_0_0_n_n none (truncf .bf16 (mulf q (level e 12)) bitsLt_bf16_f32)
      (truncf .bf16 (mat s) bitsLt_bf16_f32) (constant S64x128 .f32 0x00000000#32))

/-- A head's normed output. -/
def headNorm (o : FVec F S64x128 .f32) : FVec F S64x128 .f32 :=
  mulf o (broadcastTo S64x128 (rsqrt (addf (divf (shapeCast S64x1 (multiReduction .add [1] S64 (mulf o o) 0x00000000#32 reduces_S64x128_S64 (.inl rfl) rfl)
      shapeCasts_S64_S64x1) (broadcast S64x1 (Scalar.ofBits .f32 0x43000000#32))) (broadcast S64x1 (Scalar.ofBits .f32 0x358637BD#32))))
    broadcasts_S64x1_S64x128)

/-- A head's next state. -/
def headState (k v : FVec F S64x128 .f32) (e : FVec F S896x128 .f32) (s : Vec F S1x128x128 .f32) : FVec F S1x128x128 .f32 :=
  k0_pay24 k v (level e 12) (level e 13) (mat s)

variable (x0 x1 x2 x3 : Vec F S512x512 .f32) (x4 x5 : Vec F S1x512 .f32) (x6 : Vec F S896x64 .bf16) (x7 : Vec F S448x64 .f32)

/-- The chunk's queries. -/
abbrev qC (k : Fin k0_t1_loop.trips) : FVec F S64x512 .f32 := k0_pay11 (k0_pay8 (rows x0 k)) (k0_pay9 (rows x0 k)) k0_pay10
/-- The chunk's keys. -/
abbrev kC (k : Fin k0_t1_loop.trips) : FVec F S64x512 .f32 := k0_pay7 (k0_pay2 x4) (rows x1 k)
/-- The chunk's values. -/
abbrev vC (k : Fin k0_t1_loop.trips) : FVec F S64x512 .f32 := k0_pay12 (rows x2 k)
/-- The chunk's fourteen tables of factors. -/
abbrev eC (k : Fin k0_t1_loop.trips) : FVec F S896x512 .f32 := k0_pay13 (k0_pay4 x6) (k0_pay6 (k0_pay2 x4) (rows x1 k))

/-- Head `h`'s normed output of chunk `k`. -/
def headOut (k : Fin k0_t1_loop.trips) (s : Vec F S4x128x128 .f32) (h : Fin 4) : FVec F S64x128 .f32 :=
  headNorm (headRaw x7 (cols (qC x0 k) h) (cols (kC x1 x4 k) h) (cols (vC x2 k) h) (ecols (eC x1 x4 x6 k) h) (slab s h))

/-- The heads side by side, by the gain and by the gate. -/
def gated (gain : FVec F S1x512 .f32) (o : Fin 4 → FVec F S64x128 .f32) (g : FVec F S64x512 .f32) : FVec F S64x512 .bf16 :=
  truncf .bf16 (mulf (mulf (concatenate S64x512 1 [⟨S64x128, o 0⟩, ⟨S64x128, o 1⟩, ⟨S64x128, o 2⟩, ⟨S64x128, o 3⟩]
      concatenates_S64x128_S64x128_S64x128_S64x128_S64x512_d1) (broadcastTo S64x512 gain broadcasts_S1x512_S64x512))
    (k0_pay11 (k0_pay8 g) (k0_pay9 g) k0_pay10)) bitsLt_bf16_f32

/-- Chunk `k`'s rows of the output. -/
def chunkOut (k : Fin k0_t1_loop.trips) (s : Vec F S4x128x128 .f32) : FVec F S64x512 .bf16 :=
  gated (k0_pay3 x5) (headOut x0 x1 x2 x4 x6 x7 k s) (rows x3 k)

/-- Head `h`'s state after chunk `k`. -/
def headNext (k : Fin k0_t1_loop.trips) (s : Vec F S4x128x128 .f32) (h : Fin 4) : FVec F S1x128x128 .f32 :=
  headState (cols (kC x1 x4 k) h) (cols (vC x2 k) h) (ecols (eC x1 x4 x6 k) h) (slab s h)

/-- The state after chunk `k`. -/
def chunkState (k : Fin k0_t1_loop.trips) (s : Vec F S4x128x128 .f32) : Vec F S4x128x128 .f32 :=
  fun y => headNext x1 x2 x4 x6 k s (y (0 : Fin 3)) (Fin.cons (0 : Fin 1) (fun a : Fin 2 => y a.succ) : S1x128x128.Idx)

end Cert.Hgrn

end
-- ==== Proof.Hgrn.Run.lean ====
/-
  The chunk loop and the body's run on any float type: the eight trips by an invariant that names the buffers'
  contents after each, and what those contents read as.
-/
module

public import proofs.«01_k».proof.Proof.Hgrn.Step
public import Idealize.ShloMosaic.Lib.VecWindow

@[expose] public section

set_option maxRecDepth 16384

noncomputable section

namespace Cert.Hgrn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The values -/

section Values

variable (x0 x1 x2 x3 : Vec F S512x512 .f32) (x4 x5 : Vec F S1x512 .f32) (x6 : Vec F S896x64 .bf16) (x7 : Vec F S448x64 .f32)

theorem trips_eq : k0_t1_loop.trips = 8 := by decide

/-- The state before chunk `n`, from the state `s` found. -/
def stateAt (s : Vec F S4x128x128 .f32) : ℕ → Vec F S4x128x128 .f32
  | 0 => s
  | n + 1 => if h : n < k0_t1_loop.trips then chunkState x1 x2 x4 x6 ⟨n, h⟩ (stateAt s n) else stateAt s n

theorem stateAt_succ (s : Vec F S4x128x128 .f32) (k : Fin k0_t1_loop.trips) :
    stateAt x1 x2 x4 x6 s (k.val + 1) = chunkState x1 x2 x4 x6 k (stateAt x1 x2 x4 x6 s k.val) := by
  rw [stateAt, dif_pos k.isLt]

/-- The chunk a row lies in, and its place there. -/
def chunkOf (y : S512x512.Idx) : Fin k0_t1_loop.trips :=
  ⟨(y (0 : Fin 2)).val / 64, by have h : (y (0 : Fin 2)).val < 512 := (y (0 : Fin 2)).isLt; rw [trips_eq]; omega⟩
def rowOf (y : S512x512.Idx) : S64x512.Idx :=
  Fin.cons (⟨(y (0 : Fin 2)).val % 64, Nat.mod_lt _ (by decide)⟩ : Fin 64) (fun a : Fin 1 => y a.succ)

/-- The block of output rows, from the state `s` found. -/
def blockOut (s : Vec F S4x128x128 .f32) : Vec F S512x512 .bf16 :=
  fun y => chunkOut x0 x1 x2 x3 x4 x5 x6 x7 (chunkOf y) (stateAt x1 x2 x4 x6 s (chunkOf y).val) (rowOf y)

end Values

/-- Four slabs stored, read back. -/
theorem read_slabs (arg11 : Memref sig .tc .vmem S4x128x128 .f32) (g : BufTy.Contents (Elt F) arg11.view.ty) (w : Fin 4 → Vec F S1x128x128 .f32) (y : S4x128x128.Idx) :
    arg11.view.read (Elt F) (arg11.view.writes (Elt F) g
      [⟨Rect.unit (s := S4x128x128) ![3, 0, 0] S1x128x128.size inb_S4x128x128_S1x128x128_3_0_0, w 3⟩,
       ⟨Rect.unit (s := S4x128x128) ![2, 0, 0] S1x128x128.size inb_S4x128x128_S1x128x128_2_0_0, w 2⟩,
       ⟨Rect.unit (s := S4x128x128) ![1, 0, 0] S1x128x128.size inb_S4x128x128_S1x128x128_1_0_0, w 1⟩,
       ⟨Rect.unit (s := S4x128x128) ![0, 0, 0] S1x128x128.size inb_S4x128x128_S1x128x128_0_0_0, w 0⟩]) y
      = w (y (0 : Fin 3)) (Fin.cons (0 : Fin 1) (fun a : Fin 2 => y a.succ)) := by
  have hy : ∀ h : Fin 4, y (0 : Fin 3) = h → ∀ a : Fin 3, (y a).val = (![h.val, 0, 0] : Fin 3 → ℕ) a + ((Fin.cons (0 : Fin 1) (fun a : Fin 2 => y a.succ) : S1x128x128.Idx) a).val := by
    rintro h e ⟨_ | _ | _ | a, ha⟩
    · show (y (0 : Fin 3)).val = h.val + 0
      rw [e, Nat.add_zero]
    · exact (Nat.zero_add _).symm
    · exact (Nat.zero_add _).symm
    · omega
  have hc : ∀ z : Fin 4, z = 3 ∨ z = 2 ∨ z = 1 ∨ z = 0 := by decide
  rcases hc (y (0 : Fin 3)) with e | e | e | e
  · refine (View.read_writes_cons_unit_of_mem _ _ _ _ _ y _ rfl (hy 3 e)).trans ?_
    exact congrArg (fun z => w z _) e.symm
  · refine (View.read_writes_cons_unit_of_not_mem _ _ _ _ _ y rfl (0 : Fin 3) (Or.inl (by rw [e]; decide))).trans ?_
    refine (View.read_writes_cons_unit_of_mem _ _ _ _ _ y _ rfl (hy 2 e)).trans ?_
    exact congrArg (fun z => w z _) e.symm
  · refine (View.read_writes_cons_unit_of_not_mem _ _ _ _ _ y rfl (0 : Fin 3) (Or.inl (by rw [e]; decide))).trans ?_
    refine (View.read_writes_cons_unit_of_not_mem _ _ _ _ _ y rfl (0 : Fin 3) (Or.inl (by rw [e]; decide))).trans ?_
    refine (View.read_writes_cons_unit_of_mem _ _ _ _ _ y _ rfl (hy 1 e)).trans ?_
    exact congrArg (fun z => w z _) e.symm
  · refine (View.read_writes_cons_unit_of_not_mem _ _ _ _ _ y rfl (0 : Fin 3) (Or.inl (by rw [e]; decide))).trans ?_
    refine (View.read_writes_cons_unit_of_not_mem _ _ _ _ _ y rfl (0 : Fin 3) (Or.inl (by rw [e]; decide))).trans ?_
    refine (View.read_writes_cons_unit_of_not_mem _ _ _ _ _ y rfl (0 : Fin 3) (Or.inl (by rw [e]; decide))).trans ?_
    refine (View.read_writes_cons_unit_of_mem _ _ _ _ _ y _ rfl (hy 0 e)).trans ?_
    exact congrArg (fun z => w z _) e.symm

/-- A chunk of rows stored, read back: in the chunk, and in the chunks before it. -/
theorem read_chunk (arg10 : Memref sig .tc .vmem S512x512 .bf16) (g : BufTy.Contents (Elt F) arg10.view.ty) (k : Fin k0_t1_loop.trips) (w : Vec F S64x512 .bf16) (y : S512x512.Idx) (hy : chunkOf y = k) :
    arg10.view.read (Elt F) (arg10.view.writes (Elt F) g [⟨Rect.unit (s := S512x512) (k0_off1 k) S64x512.size (k0_off1_inb k), w⟩]) y = w (rowOf y) := by
  refine View.read_writes_cons_unit_of_mem _ _ _ _ _ y (rowOf y) (k0_off1_eq k) ?_
  have h : (y (0 : Fin 2)).val / 64 = k.val := congrArg Fin.val hy
  intro a
  match a with
  | ⟨0, _⟩ =>
    show (y (0 : Fin 2)).val = 64 * k.val + (y (0 : Fin 2)).val % 64
    omega
  | ⟨1, _⟩ => exact (Nat.zero_add _).symm

theorem read_chunk_before (arg10 : Memref sig .tc .vmem S512x512 .bf16) (g : BufTy.Contents (Elt F) arg10.view.ty) (k : Fin k0_t1_loop.trips) (w : Vec F S64x512 .bf16) (y : S512x512.Idx) (hy : (y (0 : Fin 2)).val < 64 * k.val) :
    arg10.view.read (Elt F) (arg10.view.writes (Elt F) g [⟨Rect.unit (s := S512x512) (k0_off1 k) S64x512.size (k0_off1_inb k), w⟩]) y = arg10.view.read (Elt F) g y :=
  View.read_writes_cons_unit_of_not_mem _ _ _ _ _ y (k0_off1_eq k) (0 : Fin 2) (Or.inl hy)

/-- What a trip holds: the buffers it reads, at their contents, and the two it writes. -/
abbrev Held (c : Dev nD) (arg2 : Memref sig .tc .vmem S512x512 .f32) (arg3 : Memref sig .tc .vmem S512x512 .f32) (arg4 : Memref sig .tc .vmem S512x512 .f32) (arg5 : Memref sig .tc .vmem S512x512 .f32) (arg9 : Memref sig .tc .vmem S448x64 .f32) (arg10 : Memref sig .tc .vmem S512x512 .bf16) (arg11 : Memref sig .tc .vmem S4x128x128 .f32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (g10 : BufTy.Contents (Elt F) arg10.view.ty) (g11 : BufTy.Contents (Elt F) arg11.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} g10) ∗ (arg11.view.loc (c : Thread nD τ) ↦[arg11.view.set]{fullShare} g11))

section Loop

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S896x64 .bf16) (harg8 : arg8.IsWhole) (arg9 : Memref sig .tc .vmem S448x64 .f32) (harg9 : arg9.IsWhole) (arg10 : Memref sig .tc .vmem S512x512 .bf16) (harg10 : arg10.IsWhole) (arg11 : Memref sig .tc .vmem S4x128x128 .f32) (harg11 : arg11.IsWhole)
  (v3 : Vec F S1x512 .f32) (v5 : Vec F S1x512 .f32) (v7 : Vec F S896x64 .bf16) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty)

/-- Trip `k`'s store into the output's buffer, finding `g` in the state's. -/
abbrev outPiece (k : Fin k0_t1_loop.trips) (g : BufTy.Contents (Elt F) arg11.view.ty) : List (View.Piece (Elt F) S512x512 .bf16) :=
  [⟨Rect.unit (s := S512x512) (k0_off1 k) S64x512.size (k0_off1_inb k), chunkOut (arg2.view.read (Elt F) f2) (arg3.view.read (Elt F) f3) (arg4.view.read (Elt F) f4) (arg5.view.read (Elt F) f5) v3 v5 v7 (arg9.view.read (Elt F) f9) k (arg11.view.read (Elt F) g)⟩]

/-- Trip `k`'s stores into the state's buffer, finding `g` there. -/
abbrev statePieces (k : Fin k0_t1_loop.trips) (g : BufTy.Contents (Elt F) arg11.view.ty) : List (View.Piece (Elt F) S4x128x128 .f32) :=
  [⟨Rect.unit (s := S4x128x128) ![3, 0, 0] S1x128x128.size inb_S4x128x128_S1x128x128_3_0_0, headNext (arg3.view.read (Elt F) f3) (arg4.view.read (Elt F) f4) v3 v7 k (arg11.view.read (Elt F) g) 3⟩,
   ⟨Rect.unit (s := S4x128x128) ![2, 0, 0] S1x128x128.size inb_S4x128x128_S1x128x128_2_0_0, headNext (arg3.view.read (Elt F) f3) (arg4.view.read (Elt F) f4) v3 v7 k (arg11.view.read (Elt F) g) 2⟩,
   ⟨Rect.unit (s := S4x128x128) ![1, 0, 0] S1x128x128.size inb_S4x128x128_S1x128x128_1_0_0, headNext (arg3.view.read (Elt F) f3) (arg4.view.read (Elt F) f4) v3 v7 k (arg11.view.read (Elt F) g) 1⟩,
   ⟨Rect.unit (s := S4x128x128) ![0, 0, 0] S1x128x128.size inb_S4x128x128_S1x128x128_0_0_0, headNext (arg3.view.read (Elt F) f3) (arg4.view.read (Elt F) f4) v3 v7 k (arg11.view.read (Elt F) g) 0⟩]

/-- One trip. -/
theorem trip_run (k : Fin k0_t1_loop.trips) (E : Set ℕ) (g10 : BufTy.Contents (Elt F) arg10.view.ty) (g11 : BufTy.Contents (Elt F) arg11.view.ty) :
    Held (F := F) c arg2 arg3 arg4 arg5 arg9 arg10 arg11 f2 f3 f4 f5 f9 g10 g11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v3 v5 v7 k PUnit.unit)
          (fun _ => Held (F := F) c arg2 arg3 arg4 arg5 arg9 arg10 arg11 f2 f3 f4 f5 f9
            (arg10.view.writes (Elt F) g10 (outPiece arg2 arg3 arg4 arg5 arg9 arg11 v3 v5 v7 f2 f3 f4 f5 f9 k g11))
            (arg11.view.writes (Elt F) g11 (statePieces arg3 arg4 arg11 v3 v7 f3 f4 k g11))) := by
  have hk : k.val < 8 := Nat.lt_of_lt_of_le k.isLt k0_t1_abs.2.1
  unfold k0_t1_body
  iintro ⟨H2, H3, H4, H5, H9, H10, H11⟩
  sl_exec
  sl_step
  isplitl [H2]; · iexact H2
  isplitl [H3]; · iexact H3
  isplitl [H4]; · iexact H4
  isplitl [H5]; · iexact H5
  isplitl [H9]; · iexact H9
  isplitl [H10]; · iexact H10
  iexact H11

/-- The two written buffers before trip `n`, from `g10` and `g11` at the loop's entry. -/
def after (g10 : BufTy.Contents (Elt F) arg10.view.ty) (g11 : BufTy.Contents (Elt F) arg11.view.ty) :
    ℕ → BufTy.Contents (Elt F) arg10.view.ty × BufTy.Contents (Elt F) arg11.view.ty
  | 0 => (g10, g11)
  | n + 1 =>
    if h : n < k0_t1_loop.trips then
      (arg10.view.writes (Elt F) (after g10 g11 n).1 (outPiece arg2 arg3 arg4 arg5 arg9 arg11 v3 v5 v7 f2 f3 f4 f5 f9 ⟨n, h⟩ (after g10 g11 n).2),
       arg11.view.writes (Elt F) (after g10 g11 n).2 (statePieces arg3 arg4 arg11 v3 v7 f3 f4 ⟨n, h⟩ (after g10 g11 n).2))
    else after g10 g11 n

theorem after_succ (g10 : BufTy.Contents (Elt F) arg10.view.ty) (g11 : BufTy.Contents (Elt F) arg11.view.ty) (k : Fin k0_t1_loop.trips) :
    after arg2 arg3 arg4 arg5 arg9 arg10 arg11 v3 v5 v7 f2 f3 f4 f5 f9 g10 g11 (k.val + 1)
      = (arg10.view.writes (Elt F) (after arg2 arg3 arg4 arg5 arg9 arg10 arg11 v3 v5 v7 f2 f3 f4 f5 f9 g10 g11 k.val).1 (outPiece arg2 arg3 arg4 arg5 arg9 arg11 v3 v5 v7 f2 f3 f4 f5 f9 k (after arg2 arg3 arg4 arg5 arg9 arg10 arg11 v3 v5 v7 f2 f3 f4 f5 f9 g10 g11 k.val).2),
         arg11.view.writes (Elt F) (after arg2 arg3 arg4 arg5 arg9 arg10 arg11 v3 v5 v7 f2 f3 f4 f5 f9 g10 g11 k.val).2 (statePieces arg3 arg4 arg11 v3 v7 f3 f4 k (after arg2 arg3 arg4 arg5 arg9 arg10 arg11 v3 v5 v7 f2 f3 f4 f5 f9 g10 g11 k.val).2)) := by
  rw [after, dif_pos k.isLt]

/-- The state's buffer reads as the state. -/
theorem read_state (g10 : BufTy.Contents (Elt F) arg10.view.ty) (g11 : BufTy.Contents (Elt F) arg11.view.ty) (n : ℕ) (hn : n ≤ k0_t1_loop.trips) :
    arg11.view.read (Elt F) (after arg2 arg3 arg4 arg5 arg9 arg10 arg11 v3 v5 v7 f2 f3 f4 f5 f9 g10 g11 n).2
      = stateAt (arg3.view.read (Elt F) f3) (arg4.view.read (Elt F) f4) v3 v7 (arg11.view.read (Elt F) g11) n := by
  induction n with
  | zero => rfl
  | succ n ih =>
    have ih := ih (Nat.le_of_succ_le hn)
    rw [after_succ arg2 arg3 arg4 arg5 arg9 arg10 arg11 v3 v5 v7 f2 f3 f4 f5 f9 g10 g11 ⟨n, hn⟩, stateAt_succ _ _ _ _ _ ⟨n, hn⟩, ← ih]
    funext y
    exact read_slabs arg11 _ (fun h => headNext (arg3.view.read (Elt F) f3) (arg4.view.read (Elt F) f4) v3 v7 ⟨n, hn⟩ (arg11.view.read (Elt F) _) h) y

/-- The output's buffer reads, in the rows of the trips run, as the block of output rows. -/
theorem read_out (g10 : BufTy.Contents (Elt F) arg10.view.ty) (g11 : BufTy.Contents (Elt F) arg11.view.ty) (n : ℕ) (hn : n ≤ k0_t1_loop.trips)
    (y : S512x512.Idx) (hy : (y (0 : Fin 2)).val < 64 * n) :
    arg10.view.read (Elt F) (after arg2 arg3 arg4 arg5 arg9 arg10 arg11 v3 v5 v7 f2 f3 f4 f5 f9 g10 g11 n).1 y
      = blockOut (arg2.view.read (Elt F) f2) (arg3.view.read (Elt F) f3) (arg4.view.read (Elt F) f4) (arg5.view.read (Elt F) f5) v3 v5 v7 (arg9.view.read (Elt F) f9)
          (arg11.view.read (Elt F) g11) y := by
  induction n with
  | zero => omega
  | succ n ih =>
    have e := read_state arg2 arg3 arg4 arg5 arg9 arg10 arg11 v3 v5 v7 f2 f3 f4 f5 f9 g10 g11 n (Nat.le_of_succ_le hn)
    have ih := ih (Nat.le_of_succ_le hn)
    rw [after_succ arg2 arg3 arg4 arg5 arg9 arg10 arg11 v3 v5 v7 f2 f3 f4 f5 f9 g10 g11 ⟨n, hn⟩]
    dsimp only
    generalize after arg2 arg3 arg4 arg5 arg9 arg10 arg11 v3 v5 v7 f2 f3 f4 f5 f9 g10 g11 n = z at e ih ⊢
    by_cases h : (y (0 : Fin 2)).val < 64 * n
    · rw [← ih h]
      exact read_chunk_before arg10 _ ⟨n, hn⟩ _ y h
    · have hk : chunkOf y = ⟨n, hn⟩ := Fin.ext (by show (y (0 : Fin 2)).val / 64 = n; omega)
      unfold blockOut
      rw [hk, ← e]
      exact read_chunk arg10 _ ⟨n, hn⟩ _ y hk

/-- The buffers before trip `n`: those read as they were, the two written as `after` says. -/
def held (g10 : BufTy.Contents (Elt F) arg10.view.ty) (g11 : BufTy.Contents (Elt F) arg11.view.ty) (n : ℕ) (_ : PUnit) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9)
    ∗ (∃ f, (arg10.view.loc (c : Thread nD τ) ↦[arg10.view.set]{fullShare} f) ∗ ⌜f = (after arg2 arg3 arg4 arg5 arg9 arg10 arg11 v3 v5 v7 f2 f3 f4 f5 f9 g10 g11 n).1⌝)
    ∗ (∃ f, (arg11.view.loc (c : Thread nD τ) ↦[arg11.view.set]{fullShare} f) ∗ ⌜f = (after arg2 arg3 arg4 arg5 arg9 arg10 arg11 v3 v5 v7 f2 f3 f4 f5 f9 g10 g11 n).2⌝))

theorem held_succ (g10 : BufTy.Contents (Elt F) arg10.view.ty) (g11 : BufTy.Contents (Elt F) arg11.view.ty) (k : Fin k0_t1_loop.trips) (E : Set ℕ) :
    held c arg2 arg3 arg4 arg5 arg9 arg10 arg11 v3 v5 v7 f2 f3 f4 f5 f9 g10 g11 k.val PUnit.unit
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v3 v5 v7 k PUnit.unit)
          (held c arg2 arg3 arg4 arg5 arg9 arg10 arg11 v3 v5 v7 f2 f3 f4 f5 f9 g10 g11 (k.val + 1)) := by
  unfold held
  rw [after_succ]
  generalize after arg2 arg3 arg4 arg5 arg9 arg10 arg11 v3 v5 v7 f2 f3 f4 f5 f9 g10 g11 k.val = z
  dsimp only
  iintro ⟨H2, H3, H4, H5, H9, ⟨%f10, H10, %h10⟩, ⟨%f11, H11, %h11⟩⟩
  subst h10 h11
  iapply (wp_wand_r Idealize.ShloMosaic.frame (wpE (defs₀ (F := F)) 𝒱 (c : Thread nD τ) bd) E)
  isplitl [H2 H3 H4 H5 H9 H10 H11]
  · iapply (trip_run 𝒱 c bd i arg2 harg2 arg3 harg3 arg4 harg4 arg5 harg5 arg6 harg6 arg7 harg7 arg8 harg8 arg9 harg9 arg10 harg10 arg11 harg11 v3 v5 v7 f2 f3 f4 f5 f9 k E z.1 z.2)
    isplitl [H2]; · iexact H2
    isplitl [H3]; · iexact H3
    isplitl [H4]; · iexact H4
    isplitl [H5]; · iexact H5
    isplitl [H9]; · iexact H9
    isplitl [H10]; · iexact H10
    iexact H11
  · iintro %_ ⟨H2, H3, H4, H5, H9, H10, H11⟩
    isplitl [H2]; · iexact H2
    isplitl [H3]; · iexact H3
    isplitl [H4]; · iexact H4
    isplitl [H5]; · iexact H5
    isplitl [H9]; · iexact H9
    isplitl [H10]
    · iexists _; isplitl [H10]; · iexact H10
      ipureintro; rfl
    iexists _; isplitl [H11]; · iexact H11
    ipureintro; rfl

set_option warn.classDefReducibility false in
/-- The chunk loop by its invariant. -/
def loopInv (E : Set ℕ) (g10 : BufTy.Contents (Elt F) arg10.view.ty) (g11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 v3 v5 v7 where
  inv := held c arg2 arg3 arg4 arg5 arg9 arg10 arg11 v3 v5 v7 f2 f3 f4 f5 f9 g10 g11
  step k _ := held_succ 𝒱 c bd i arg2 harg2 arg3 harg3 arg4 harg4 arg5 harg5 arg6 harg6 arg7 harg7 arg8 harg8 arg9 harg9 arg10 harg10 arg11 harg11 v3 v5 v7 f2 f3 f4 f5 f9 g10 g11 k E

end Loop

section Body

/-- What the loop leaves, from buffers that read as the blocks and the state. -/
theorem after_state (arg2 : Memref sig .tc .vmem S512x512 .f32) (arg3 : Memref sig .tc .vmem S512x512 .f32) (arg4 : Memref sig .tc .vmem S512x512 .f32) (arg5 : Memref sig .tc .vmem S512x512 .f32) (arg9 : Memref sig .tc .vmem S448x64 .f32) (arg10 : Memref sig .tc .vmem S512x512 .bf16) (arg11 : Memref sig .tc .vmem S4x128x128 .f32)
    {x1 x2 : Vec F S512x512 .f32} (x4 x5 : Vec F S1x512 .f32) (x6 : Vec F S896x64 .bf16) {s : Vec F S4x128x128 .f32}
    {f2 : BufTy.Contents (Elt F) arg2.view.ty} {f3 : BufTy.Contents (Elt F) arg3.view.ty} {f4 : BufTy.Contents (Elt F) arg4.view.ty} {f5 : BufTy.Contents (Elt F) arg5.view.ty} {f9 : BufTy.Contents (Elt F) arg9.view.ty} {g10 : BufTy.Contents (Elt F) arg10.view.ty} {g11 : BufTy.Contents (Elt F) arg11.view.ty}
    (h3 : arg3.view.read (Elt F) f3 = x1) (h4 : arg4.view.read (Elt F) f4 = x2) (hs : arg11.view.read (Elt F) g11 = s) :
    arg11.view.read (Elt F) (after arg2 arg3 arg4 arg5 arg9 arg10 arg11 x4 x5 x6 f2 f3 f4 f5 f9 g10 g11 (Scf.trips k0_t1_loop.lb k0_t1_loop.ub k0_t1_loop.st)).2
      = stateAt x1 x2 x4 x6 s 8 := by
  have e : Scf.trips k0_t1_loop.lb k0_t1_loop.ub k0_t1_loop.st = 8 := trips_eq
  rw [e, read_state _ _ _ _ _ _ _ _ _ _ _ _ _ _ _ _ _ 8 (le_of_eq trips_eq.symm), h3, h4, hs]

theorem after_out (arg2 : Memref sig .tc .vmem S512x512 .f32) (arg3 : Memref sig .tc .vmem S512x512 .f32) (arg4 : Memref sig .tc .vmem S512x512 .f32) (arg5 : Memref sig .tc .vmem S512x512 .f32) (arg9 : Memref sig .tc .vmem S448x64 .f32) (arg10 : Memref sig .tc .vmem S512x512 .bf16) (arg11 : Memref sig .tc .vmem S4x128x128 .f32)
    {x0 x1 x2 x3 : Vec F S512x512 .f32} (x4 x5 : Vec F S1x512 .f32) (x6 : Vec F S896x64 .bf16) {x7 : Vec F S448x64 .f32} {s : Vec F S4x128x128 .f32}
    {f2 : BufTy.Contents (Elt F) arg2.view.ty} {f3 : BufTy.Contents (Elt F) arg3.view.ty} {f4 : BufTy.Contents (Elt F) arg4.view.ty} {f5 : BufTy.Contents (Elt F) arg5.view.ty} {f9 : BufTy.Contents (Elt F) arg9.view.ty} {g10 : BufTy.Contents (Elt F) arg10.view.ty} {g11 : BufTy.Contents (Elt F) arg11.view.ty}
    (h2 : arg2.view.read (Elt F) f2 = x0) (h3 : arg3.view.read (Elt F) f3 = x1) (h4 : arg4.view.read (Elt F) f4 = x2) (h5 : arg5.view.read (Elt F) f5 = x3) (h9 : arg9.view.read (Elt F) f9 = x7) (hs : arg11.view.read (Elt F) g11 = s) :
    arg10.view.read (Elt F) (after arg2 arg3 arg4 arg5 arg9 arg10 arg11 x4 x5 x6 f2 f3 f4 f5 f9 g10 g11 (Scf.trips k0_t1_loop.lb k0_t1_loop.ub k0_t1_loop.st)).1
      = blockOut x0 x1 x2 x3 x4 x5 x6 x7 s := by
  funext y
  have hy : (y (0 : Fin 2)).val < 512 := (y (0 : Fin 2)).isLt
  have e : Scf.trips k0_t1_loop.lb k0_t1_loop.ub k0_t1_loop.st = 8 := trips_eq
  rw [e, read_out _ _ _ _ _ _ _ _ _ _ _ _ _ _ _ _ _ 8 (le_of_eq trips_eq.symm) y hy, h2, h3, h4, h5, h9, hs]

/-- What the loop leaves, handed to a continuation that expects the block of output rows and the state. -/
theorem finish (c : Dev nD) (arg2 : Memref sig .tc .vmem S512x512 .f32) (arg3 : Memref sig .tc .vmem S512x512 .f32) (arg4 : Memref sig .tc .vmem S512x512 .f32) (arg5 : Memref sig .tc .vmem S512x512 .f32) (arg6 : Memref sig .tc .vmem S1x512 .f32) (arg7 : Memref sig .tc .vmem S1x512 .f32) (arg8 : Memref sig .tc .vmem S896x64 .bf16) (arg9 : Memref sig .tc .vmem S448x64 .f32) (arg10 : Memref sig .tc .vmem S512x512 .bf16) (arg11 : Memref sig .tc .vmem S4x128x128 .f32)
    {x0 x1 x2 x3 : Vec F S512x512 .f32} {x4 x5 : Vec F S1x512 .f32} {x6 : Vec F S896x64 .bf16} {x7 : Vec F S448x64 .f32} {s : Vec F S4x128x128 .f32}
    {f0 : BufTy.Contents (Elt F) arg2.view.ty} {f1 : BufTy.Contents (Elt F) arg3.view.ty} {f2 : BufTy.Contents (Elt F) arg4.view.ty} {f3 : BufTy.Contents (Elt F) arg5.view.ty} {f4 : BufTy.Contents (Elt F) arg6.view.ty} {f5 : BufTy.Contents (Elt F) arg7.view.ty} {f6 : BufTy.Contents (Elt F) arg8.view.ty} {f7 : BufTy.Contents (Elt F) arg9.view.ty} {f8 : BufTy.Contents (Elt F) arg10.view.ty} {g : BufTy.Contents (Elt F) arg11.view.ty}
    (hf0 : arg2.view.read (Elt F) f0 = x0) (hf1 : arg3.view.read (Elt F) f1 = x1) (hf2 : arg4.view.read (Elt F) f2 = x2) (hf3 : arg5.view.read (Elt F) f3 = x3) (hf4 : arg6.view.read (Elt F) f4 = x4) (hf5 : arg7.view.read (Elt F) f5 = x5) (hf6 : arg8.view.read (Elt F) f6 = x6) (hf7 : arg9.view.read (Elt F) f7 = x7) (hf : arg11.view.read (Elt F) g = s) (K : PUnit → sProp 𝕄) :
    iprop((arg2.view.loc (c : Thread nD τ) ↦[arg2.view.set]{fullShare} f0) ∗ (arg3.view.loc (c : Thread nD τ) ↦[arg3.view.set]{fullShare} f1) ∗ (arg4.view.loc (c : Thread nD τ) ↦[arg4.view.set]{fullShare} f2) ∗ (arg5.view.loc (c : Thread nD τ) ↦[arg5.view.set]{fullShare} f3) ∗ (arg6.view.loc (c : Thread nD τ) ↦[arg6.view.set]{fullShare} f4) ∗ (arg7.view.loc (c : Thread nD τ) ↦[arg7.view.set]{fullShare} f5) ∗ (arg8.view.loc (c : Thread nD τ) ↦[arg8.view.set]{fullShare} f6) ∗ (arg9.view.loc (c : Thread nD τ) ↦[arg9.view.set]{fullShare} f7)
        ∗ (arg10.view.loc (c : Thread nD τ) ↦[arg10.view.set]{fullShare} (after arg2 arg3 arg4 arg5 arg9 arg10 arg11 x4 x5 x6 f0 f1 f2 f3 f7 f8 g (Scf.trips k0_t1_loop.lb k0_t1_loop.ub k0_t1_loop.st)).1)
        ∗ (arg11.view.loc (c : Thread nD τ) ↦[arg11.view.set]{fullShare} (after arg2 arg3 arg4 arg5 arg9 arg10 arg11 x4 x5 x6 f0 f1 f2 f3 f7 f8 g (Scf.trips k0_t1_loop.lb k0_t1_loop.ub k0_t1_loop.st)).2)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blockOut x0 x1 x2 x3 x4 x5 x6 x7 s) ∗ owns (c : Thread nD τ) arg11 fullShare (stateAt x1 x2 x4 x6 s 8)) -∗ K ⟨⟩))
      ⊢ K ⟨⟩ := by
  unfold owns
  iintro ⟨H0, H1, H2, H3, H4, H5, H6, H7, H8, H9, Hk⟩
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    · ipureintro; exact after_out arg2 arg3 arg4 arg5 arg9 arg10 arg11 x4 x5 x6 (g10 := f8) hf0 hf1 hf2 hf3 hf7 hf
    iexact H8
  iexists _; isplitr
  · ipureintro; exact after_state arg2 arg3 arg4 arg5 arg9 arg10 arg11 x4 x5 x6 (f2 := f0) (f5 := f3) (f9 := f7) (g10 := f8) hf1 hf2 hf
  iexact H9

open Classical in
/-- The state the body's loop starts from: zeros at a batch's first block, else the one found. -/
def startState (i : grid0.Coords) (s : Vec F S4x128x128 .f32) : Vec F S4x128x128 .f32 := if cond0_0 i then k0_pay1 else s

set_option maxHeartbeats 2000000 in
/-- The body on whole buffers, from a state `s` in its buffer: the block of output rows written, the state carried eight
    chunks on, a batch's first block from zeros. -/
theorem body_run (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S896x64 .bf16) (harg8 : arg8.IsWhole) (arg9 : Memref sig .tc .vmem S448x64 .f32) (harg9 : arg9.IsWhole) (arg10 : Memref sig .tc .vmem S512x512 .bf16) (harg10 : arg10.IsWhole) (arg11 : Memref sig .tc .vmem S4x128x128 .f32) (harg11 : arg11.IsWhole)
  (x0 x1 x2 x3 : Vec F S512x512 .f32) (x4 x5 : Vec F S1x512 .f32) (x6 : Vec F S896x64 .bf16) (x7 : Vec F S448x64 .f32) (s : Vec F S4x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blockOut x0 x1 x2 x3 x4 x5 x6 x7 (startState i s)) ∗ owns (c : Thread nD τ) arg11 fullShare (stateAt x1 x2 x4 x6 (startState i s) 8)) -∗ K ⟨⟩))
      ⊢ wp frame (wpE (defs₀ (F := F)) Variants.none c none) E (cc0_hgrn2_scan i arg2 harg2 arg3 harg3 arg4 harg4 arg5 harg5 arg6 harg6 arg7 harg7 arg8 harg8 arg9 harg9 arg10 harg10 arg11 harg11) K := by
  simp only [cc0_hgrn2_scan_eq_skeleton]; unfold cc0_hgrn2_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
  by_cases hc0 : cond0_0 i
  · have hs : startState i s = k0_pay1 := if_pos hc0
    rw [hs]
    let L := loopInv Variants.none c none i arg2 harg2 arg3 harg3 arg4 harg4 arg5 harg5 arg6 harg6 arg7 harg7 arg8 harg8 arg9 harg9 arg10 harg10 arg11 harg11
      (View.readAt (Elt F) arg6.view (Rect.unit ![0, 0] S1x512.size inb_S1x512_S1x512_0_0).toLoadRect (harg6.unread x4))
      (View.readAt (Elt F) arg7.view (Rect.unit ![0, 0] S1x512.size inb_S1x512_S1x512_0_0).toLoadRect (harg7.unread x5))
      (View.readAt (Elt F) arg8.view (Rect.unit ![0, 0] S896x64.size inb_S896x64_S896x64_0_0).toLoadRect (harg8.unread x6))
      (harg2.unread x0) (harg3.unread x1) (harg4.unread x2) (harg5.unread x3) (harg9.unread x7) E f8
      (arg11.view.writes (Elt F) arg11.view.junk [⟨Rect.unit (s := S4x128x128) ![0, 0, 0] S4x128x128.size inb_S4x128x128_S4x128x128_0_0_0, k0_pay1⟩])
    sl_exec (disch := first | sl_exact hc0)
    have hf := View.read_writes_full (Val := Elt F) arg11.view arg11.view.junk inb_S4x128x128_S4x128x128_0_0_0 k0_pay1 []
    sl_step
    have h6 : View.readAt (Elt F) arg6.view (Rect.unit ![0, 0] S1x512.size inb_S1x512_S1x512_0_0).toLoadRect (harg6.unread x4) = x4 := (View.readAt_full _ _ _).trans hf4
    have h7 : View.readAt (Elt F) arg7.view (Rect.unit ![0, 0] S1x512.size inb_S1x512_S1x512_0_0).toLoadRect (harg7.unread x5) = x5 := (View.readAt_full _ _ _).trans hf5
    have h8 : View.readAt (Elt F) arg8.view (Rect.unit ![0, 0] S896x64.size inb_S896x64_S896x64_0_0).toLoadRect (harg8.unread x6) = x6 := (View.readAt_full _ _ _).trans hf6
    rw [h6, h7, h8]
    iapply (finish c arg2 arg3 arg4 arg5 arg6 arg7 arg8 arg9 arg10 arg11 hf0 hf1 hf2 hf3 hf4 hf5 hf6 hf7 hf K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hk
  · have hs : startState i s = s := if_neg hc0
    rw [hs]
    let L := loopInv Variants.none c none i arg2 harg2 arg3 harg3 arg4 harg4 arg5 harg5 arg6 harg6 arg7 harg7 arg8 harg8 arg9 harg9 arg10 harg10 arg11 harg11
      (View.readAt (Elt F) arg6.view (Rect.unit ![0, 0] S1x512.size inb_S1x512_S1x512_0_0).toLoadRect (harg6.unread x4))
      (View.readAt (Elt F) arg7.view (Rect.unit ![0, 0] S1x512.size inb_S1x512_S1x512_0_0).toLoadRect (harg7.unread x5))
      (View.readAt (Elt F) arg8.view (Rect.unit ![0, 0] S896x64.size inb_S896x64_S896x64_0_0).toLoadRect (harg8.unread x6))
      (harg2.unread x0) (harg3.unread x1) (harg4.unread x2) (harg5.unread x3) (harg9.unread x7) E f8
      (harg11.unread s)
    sl_exec (disch := first | sl_exact hc0)
    have hf := hf9
    sl_step
    have h6 : View.readAt (Elt F) arg6.view (Rect.unit ![0, 0] S1x512.size inb_S1x512_S1x512_0_0).toLoadRect (harg6.unread x4) = x4 := (View.readAt_full _ _ _).trans hf4
    have h7 : View.readAt (Elt F) arg7.view (Rect.unit ![0, 0] S1x512.size inb_S1x512_S1x512_0_0).toLoadRect (harg7.unread x5) = x5 := (View.readAt_full _ _ _).trans hf5
    have h8 : View.readAt (Elt F) arg8.view (Rect.unit ![0, 0] S896x64.size inb_S896x64_S896x64_0_0).toLoadRect (harg8.unread x6) = x6 := (View.readAt_full _ _ _).trans hf6
    rw [h6, h7, h8]
    iapply (finish c arg2 arg3 arg4 arg5 arg6 arg7 arg8 arg9 arg10 arg11 hf0 hf1 hf2 hf3 hf4 hf5 hf6 hf7 hf K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hk

end Body

end Cert.Hgrn

end
-- ==== Proof.Hgrn.Frame.lean ====
/-
  The launch: what each grid point finds and leaves, and the run of @main on any float type.
-/
module

public import proofs.«01_k».proof.Proof.Hgrn.Run
public import Idealize.ShloMosaic.Lib.Claim

@[expose] public section

set_option maxRecDepth 16384

noncomputable section

namespace Cert.Hgrn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state from point to point -/

/-- The state point `n` finds in its buffer (of the first point's, which it does not use, nothing is said). -/
def found (c : Dev nD) : ℕ → Vec F S4x128x128 .f32
  | 0 => k0_pay1
  | n + 1 =>
    if h : n < cfg0.N then
      stateAt (iblk m c 1 ⟨n, h⟩) (iblk m c 2 ⟨n, h⟩) (iblk m c 4 ⟨n, h⟩) (iblk m c 6 ⟨n, h⟩) (startState (grid0.coords ⟨n, h⟩) (found c n)) 8
    else found c n

/-- The state point `t` starts from. -/
def start (c : Dev nD) (t : Fin cfg0.N) : Vec F S4x128x128 .f32 := startState (grid0.coords t) (found m c t.val)

theorem found_succ (c : Dev nD) (t : Fin cfg0.N) :
    found m c (t.val + 1) = stateAt (iblk m c 1 t) (iblk m c 2 t) (iblk m c 4 t) (iblk m c 6 t) (start m c t) 8 := by
  rw [found, dif_pos t.isLt]; rfl

/-- A batch's first point starts from zeros, whatever it finds. -/
theorem startState_first (t : Fin cfg0.N) (h : t.val % 8 = 0) (s : Vec F S4x128x128 .f32) : startState (grid0.coords t) s = k0_pay1 :=
  if_pos ((hcond0_0 t).mpr h)

/-- Every other starts from what it finds. -/
theorem startState_later (t : Fin cfg0.N) (h : ¬t.val % 8 = 0) (s : Vec F S4x128x128 .f32) : startState (grid0.coords t) s = s :=
  if_neg fun h' => h ((hcond0_0 t).mp h')

/-- The block of rows point `t` writes. -/
def outBlock (c : Dev nD) (t : Fin cfg0.N) : Vec F S512x512 .bf16 :=
  blockOut (iblk m c 0 t) (iblk m c 1 t) (iblk m c 2 t) (iblk m c 3 t) (iblk m c 4 t) (iblk m c 5 t) (iblk m c 6 t) (iblk m c 7 t) (start m c t)

/-! ## The launch's set-up -/

/-- Before the first point the state's buffer holds anything; before point `n`, what is found. -/
def PhiS (c : Dev nD) : ℕ → sProp 𝕄
  | 0 => Pipeline.ΦA spec0 c
  | n + 1 => iprop(iprop(owns (c : Thread nD τ) scM0_0 fullShare (found m c (n + 1))) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (found m c (n + 1))) ∗ (∃ r, prngReg c r)) := rfl

theorem PhiS_pos (c : Dev nD) (n : ℕ) (hz : n ≠ 0) :
    PhiS m c n = iprop(iprop(owns (c : Thread nD τ) scM0_0 fullShare (found m c n)) ∗ (∃ r, prngReg c r)) := by
  cases n with
  | zero => exact absurd rfl hz
  | succ n => rfl

/-- What each window holds around the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- What the state's buffer holds before point `t`, whichever it is, starts the body from the same state. -/
theorem PhiS_start (c : Dev nD) (t : Fin cfg0.N) :
    PhiS m c t.val ⊢ iprop((∃ s, owns (c : Thread nD τ) scM0_0 fullShare s ∗ ⌜startState (grid0.coords t) s = start m c t⌝) ∗ (∃ r, prngReg c r)) := by
  by_cases hz : t.val = 0
  · rw [PhiS_zero m c _ hz, PhiA0_eq]
    iintro ⟨⟨%d, HS⟩, Hg⟩
    isplitl [HS]
    · iexists d; isplitl [HS]; · iexact HS
      ipureintro
      have h : t.val % 8 = 0 := by omega
      unfold start
      rw [startState_first t h, startState_first t h]
    iexact Hg
  · rw [PhiS_pos m c _ hz]
    iintro ⟨HS, Hg⟩
    isplitl [HS]
    · iexists _; isplitl [HS]; · iexact HS
      ipureintro; rfl
    iexact Hg

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) from rfl, PhiS_succ, found_succ, PhiS_castSucc]
  unfold outBlock
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HP' := (PhiS_start m c t) $$ [HP]; · iexact HP
  icases HP' with ⟨⟨%s, HS, %hs⟩, Hg⟩
  rw [← hs]
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]; · iexact HS
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 32 := N_0; omega), PhiA0_eq]
  iintro ⟨HS, Hg⟩
  isplitl [HS]
  · iexists _; iexact HS
  iexact Hg

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Hgrn

end
-- ==== Proof.Hgrn.Bounded.lean ====
module

public import proofs.«01_k».proof.Pre_bounded
public import Idealize.ShloMosaic.Lib.ReduceAll
public import Idealize.ShloMosaic.Lib.Pointwise

@[expose] public section

/-!
# Lower bounds below infinity

What the precondition of the HGRN2 recurrence says of the lower bounds.
-/

noncomputable section

namespace Cert.Hgrn

open Idealize.ShloMosaic

/-- The shape facts of the precondition. -/
instance preFacts : Cert.Pre_bounded.Facts where
  bcast_S_S512 := by decide
  reducesTo_S512_S_d0 := by decide
  h_S_ := by decide

/-- The precondition, read at a lower bound. -/
theorem bounded_read (x0 : FVec Ideal Cert.Pre_bounded.S4x4096x5384 .f32) (x1 x2 : FVec Ideal Cert.Pre_bounded.S512 .f32)
    (h : Cert.Pre_bounded.fn (F := Ideal) x0 x1 x2 = fun _ => 1#1) (l : Fin 512) : x1 (ix1 l) ≠ (⊤ : EReal) := by
  have h0 := congrFun h ix0
  dsimp only [Cert.Pre_bounded.fn] at h0
  have hinf : Ideal.ofBits .f32 0x7F800000#32 = (⊤ : EReal) := by simp [Ideal.ofBits, Ideal.ieee]
  haveI : Subsingleton Cert.Pre_bounded.S_.Idx := ⟨fun a b => funext fun i => i.elim0⟩
  have e : Ideal.cmp .olt (x1 (ix1 l)) (Ideal.ofBits .f32 0x7F800000#32) = 1 := Host.reduce_andi_all _ _ _ _ _ h0 (ix1 l)
  exact ne_of_lt (hinf ▸ (Ideal.cmp_olt_eq_one _ _).1 e)

end Cert.Hgrn

end
-- ==== Proof.Hgrn.Levels.lean ====
module

public import Idealize.ShloMosaic.Lib.Pipeline.ValueKit

@[expose] public section

/-!
# Which log-decays a factor adds up

The kernel cuts the decay between two positions of a chunk at the middle of the smallest aligned block of 2, 4, …, 64
positions that holds both: `D` says which log-decays each of its fourteen factors adds up, `M` which pairs of positions each
of its seven levels serves.
-/

set_option maxRecDepth 16384

noncomputable section

namespace Cert.Hgrn

/-- The log-decays that factor `n` adds up at position `t`: queries' levels, keys' levels, the whole past, the whole future. -/
def D (n t u : ℕ) : Bool :=
  if n < 6 then (t / 2 ^ n % 2 == 1) && (Nat.ble (t / 2 ^ n * 2 ^ n) u && Nat.ble u t)
  else if n < 12 then (t / 2 ^ (n - 6) % 2 == 0) && (Nat.ble (t + 1) u && Nat.ble (u + 1) (t / 2 ^ (n - 6) * 2 ^ (n - 6) + 2 ^ (n - 6)))
  else if n = 12 then Nat.ble u t else Nat.ble (t + 1) u

/-- The pairs of positions that level `l` serves. -/
def M (l t s : ℕ) : Bool :=
  if l = 0 then t == s
  else (t / 2 ^ l == s / 2 ^ l) && ((t / 2 ^ (l - 1) % 2 == 1) && (s / 2 ^ (l - 1) % 2 == 0))

/-- What a query's and a key's factor add up together. -/
def joint (t s u : ℕ) : Bool := Nat.ble (s + 1) u && Nat.ble u t

/-- On a pair that a level serves, its two factors add up the log-decays after the key and up to the query, each once. -/
theorem split : ∀ l : Fin 6, ∀ t s : Fin 64, M (l.val + 1) t.val s.val = true → ∀ u : Fin 64,
    (D l.val t.val u.val && D (l.val + 6) s.val u.val) = false ∧ (D l.val t.val u.val || D (l.val + 6) s.val u.val) = joint t.val s.val u.val := by
  decide +kernel

theorem causal : ∀ l : Fin 7, ∀ t s : Fin 64, M l.val t.val s.val = true → s.val ≤ t.val := by decide +kernel

theorem served : ∀ t s : Fin 64, s.val ≤ t.val → ∃ l : Fin 7, ∀ l' : Fin 7, M l'.val t.val s.val = decide (l' = l) := by
  decide +kernel

end Cert.Hgrn

end
-- ==== Proof.Hgrn.Chunk.lean ====
module

public import proofs.«01_k».proof.Proof.Hgrn.Levels
public import proofs.«01_k».proof.Proof.Att.Finite

@[expose] public section

/-!
# The recurrence, chunk by chunk

A chunk of 64 positions of one head, with the queries `q`, keys `k`, values `v` and log-decays `a`, and the state it finds.
`scores_eq` says that the seven levels together give the plain scores.
-/

set_option maxRecDepth 16384

noncomputable section

namespace Cert.Hgrn

open Idealize.ShloMosaic
open Cert.Att (IsReal)

/-- The log-decays of one lane up to a position, added up. -/
def cum (a : Fin 64 → EReal) (t : Fin 64) : EReal := ∑ u : Fin 64, if u.val ≤ t.val then a u else 0

/-- A one where a table has one. -/
def bit (b : Bool) : EReal := if b = true then 1 else 0

/-- Factor `n` of one lane at a position. -/
def factor (n : ℕ) (a : Fin 64 → EReal) (t : Fin 64) : EReal := Ideal.exp (∑ u : Fin 64, bit (D n t.val u.val) * a u)

/-- The score of a query and a key. -/
def score (q k : Fin 64 → Fin 128 → EReal) (a : Fin 64 → Fin 128 → EReal) (t s : Fin 64) : EReal :=
  ∑ d : Fin 128, q t d * k s d * Ideal.exp (if s.val ≤ t.val then cum (fun u => a u d) t - cum (fun u => a u d) s else ⊥)

/-- A chunk's output before the norm. -/
def raw (q k v a : Fin 64 → Fin 128 → EReal) (S : Fin 128 → Fin 128 → EReal) (t : Fin 64) (j : Fin 128) : EReal :=
  (∑ d : Fin 128, q t d * Ideal.exp (cum (fun u => a u d) t) * S d j) + ∑ s : Fin 64, score q k a t s * v s j

/-- The state after a chunk, by key's lane and value's lane. -/
def next (k v a : Fin 64 → Fin 128 → EReal) (S : Fin 128 → Fin 128 → EReal) (d j : Fin 128) : EReal :=
  Ideal.exp (cum (fun u => a u d) 63) * S d j
    + ∑ s : Fin 64, k s d * Ideal.exp (cum (fun u => a u d) 63 - cum (fun u => a u d) s) * v s j

theorem coe_sum {n : ℕ} (f : Fin n → ℝ) : ∑ u, ((f u : ℝ) : EReal) = ((∑ u, f u : ℝ) : EReal) := by
  classical
  induction (Finset.univ : Finset (Fin n)) using Finset.induction_on with
  | empty => simp
  | insert a t ha ih => rw [Finset.sum_insert ha, Finset.sum_insert ha, ih, EReal.coe_add]

theorem cum_coe (r : Fin 64 → ℝ) (t : Fin 64) :
    cum (fun u => (r u : EReal)) t = ((∑ u : Fin 64, if u.val ≤ t.val then r u else 0 : ℝ) : EReal) := by
  unfold cum
  rw [← coe_sum]
  refine Finset.sum_congr rfl fun u _ => ?_
  split <;> simp

theorem factor_coe (n : ℕ) (r : Fin 64 → ℝ) (t : Fin 64) :
    factor n (fun u => (r u : EReal)) t = ((Real.exp (∑ u : Fin 64, if D n t.val u.val = true then r u else 0) : ℝ) : EReal) := by
  unfold factor
  have e : ∑ u : Fin 64, bit (D n t.val u.val) * ((r u : ℝ) : EReal)
      = ((∑ u : Fin 64, if D n t.val u.val = true then r u else 0 : ℝ) : EReal) := by
    rw [← coe_sum]
    refine Finset.sum_congr rfl fun u _ => ?_
    unfold bit
    split <;> simp
  rw [e]
  rfl

/-- On a pair that a level serves, its two factors multiply to the decay from the key to the query. -/
theorem factor_mul (l : Fin 6) (t s : Fin 64) (h : M (l.val + 1) t.val s.val = true) (a : Fin 64 → EReal) (ha : ∀ u, IsReal (a u)) :
    factor l.val a t * factor (l.val + 6) a s = Ideal.exp (cum a t - cum a s) := by
  choose r hr using ha
  obtain rfl : a = fun u => (r u : EReal) := funext hr
  have hc : s.val ≤ t.val := causal l.succ t s h
  rw [factor_coe, factor_coe, cum_coe, cum_coe, ← EReal.coe_mul, ← EReal.coe_sub, ← Real.exp_add]
  show _ = ((Real.exp _ : ℝ) : EReal)
  rw [← Finset.sum_add_distrib, ← Finset.sum_sub_distrib]
  congr 2
  refine Finset.sum_congr rfl fun u _ => ?_
  obtain ⟨h0, h1⟩ := split l t s h u
  have hj : joint t.val s.val u.val = true ↔ s.val + 1 ≤ u.val ∧ u.val ≤ t.val := by
    unfold joint; rw [Bool.and_eq_true, Nat.ble_eq, Nat.ble_eq]
  rcases hD : D l.val t.val u.val <;> rcases hE : D (l.val + 6) s.val u.val <;> rw [hD, hE] at h0 h1
  · have : ¬ (s.val + 1 ≤ u.val ∧ u.val ≤ t.val) := fun hh => by rw [hj.2 hh] at h1; cases h1
    by_cases h2 : u.val ≤ t.val
    · rw [if_pos h2, if_pos (show u.val ≤ s.val by omega)]; simp
    · rw [if_neg h2, if_neg (show ¬ u.val ≤ s.val by omega)]; simp
  · have := hj.1 h1.symm
    rw [if_pos this.2, if_neg (show ¬ u.val ≤ s.val by omega)]; simp
  · have := hj.1 h1.symm
    rw [if_pos this.2, if_neg (show ¬ u.val ≤ s.val by omega)]; simp
  · cases h0

theorem factor_past (a : Fin 64 → EReal) (t : Fin 64) : factor 12 a t = Ideal.exp (cum a t) := by
  unfold factor cum
  congr 1
  refine Finset.sum_congr rfl fun u _ => ?_
  have : D 12 t.val u.val = Nat.ble u.val t.val := rfl
  rw [this]
  unfold bit
  by_cases h : u.val ≤ t.val
  · rw [if_pos h, if_pos (Nat.ble_eq_true_of_le h), one_mul]
  · rw [if_neg h, if_neg (fun hh => h (Nat.le_of_ble_eq_true hh)), zero_mul]

theorem factor_future (a : Fin 64 → EReal) (ha : ∀ u, IsReal (a u)) (t : Fin 64) :
    factor 13 a t = Ideal.exp (cum a 63 - cum a t) := by
  choose r hr using ha
  obtain rfl : a = fun u => (r u : EReal) := funext hr
  rw [factor_coe, cum_coe, cum_coe, ← EReal.coe_sub, ← Finset.sum_sub_distrib]
  show _ = ((Real.exp _ : ℝ) : EReal)
  congr 2
  refine Finset.sum_congr rfl fun u _ => ?_
  have hu := u.isLt
  rw [show D 13 t.val u.val = Nat.ble (t.val + 1) u.val from rfl, if_pos (show u.val ≤ (63 : Fin 64).val from Nat.le_of_lt_succ hu)]
  by_cases h : u.val ≤ t.val
  · rw [if_pos h, if_neg (fun hh => by have := Nat.le_of_ble_eq_true hh; omega)]; simp
  · rw [if_neg h, if_pos (Nat.ble_eq_true_of_le (by omega))]; simp

/-- One level's product of a query and a key. -/
def levelDot (q k a : Fin 64 → Fin 128 → EReal) (l : ℕ) (t s : Fin 64) : EReal :=
  ∑ d : Fin 128, q t d * factor l (fun u => a u d) t * (k s d * factor (l + 6) (fun u => a u d) s)

theorem levelDot_eq (q k a : Fin 64 → Fin 128 → EReal) (ha : ∀ u d, IsReal (a u d)) (l : Fin 6) (t s : Fin 64)
    (h : M (l.val + 1) t.val s.val = true) : levelDot q k a l.val t s = score q k a t s := by
  unfold levelDot score
  refine Finset.sum_congr rfl fun d _ => ?_
  rw [if_pos (causal l.succ t s h), ← factor_mul l t s h _ fun u => ha u d]
  exact mul_mul_mul_comm _ _ _ _

theorem dot_eq (q k a : Fin 64 → Fin 128 → EReal) (ha : ∀ u d, IsReal (a u d)) (t : Fin 64) :
    ∑ d : Fin 128, q t d * k t d = score q k a t t := by
  unfold score
  refine Finset.sum_congr rfl fun d _ => ?_
  rw [if_pos le_rfl]
  have ha' := fun u => ha u d
  choose r hr using ha'
  rw [show (fun u => a u d) = fun u => (r u : EReal) from funext hr, cum_coe, ← EReal.coe_sub, sub_self]
  rw [EReal.coe_zero, Cert.Att.exp_zero, mul_one]

/-- The seven levels, each on the pairs it serves, give the score. -/
theorem scores_eq (q k a : Fin 64 → Fin 128 → EReal) (ha : ∀ u d, IsReal (a u d)) (t s : Fin 64) :
    bit (M 0 t.val s.val) * (∑ d : Fin 128, q t d * k s d) + bit (M 1 t.val s.val) * levelDot q k a 0 t s
      + bit (M 2 t.val s.val) * levelDot q k a 1 t s + bit (M 3 t.val s.val) * levelDot q k a 2 t s
      + bit (M 4 t.val s.val) * levelDot q k a 3 t s + bit (M 5 t.val s.val) * levelDot q k a 4 t s
      + bit (M 6 t.val s.val) * levelDot q k a 5 t s = score q k a t s := by
  by_cases h : s.val ≤ t.val
  · obtain ⟨l, hl⟩ := served t s h
    have h0 : M 0 t.val s.val = decide ((0 : Fin 7) = l) := hl 0
    have h1 : M 1 t.val s.val = decide ((1 : Fin 7) = l) := hl 1
    have h2 : M 2 t.val s.val = decide ((2 : Fin 7) = l) := hl 2
    have h3 : M 3 t.val s.val = decide ((3 : Fin 7) = l) := hl 3
    have h4 : M 4 t.val s.val = decide ((4 : Fin 7) = l) := hl 4
    have h5 : M 5 t.val s.val = decide ((5 : Fin 7) = l) := hl 5
    have h6 : M 6 t.val s.val = decide ((6 : Fin 7) = l) := hl 6
    have hd : ∀ j : Fin 6, l = j.succ → levelDot q k a j.val t s = score q k a t s := fun j hj =>
      levelDot_eq q k a ha j t s ((hl j.succ).trans (decide_eq_true hj.symm))
    have hz : l = 0 → ∑ d : Fin 128, q t d * k s d = score q k a t s := fun hj => by
      have : M 0 t.val s.val = true := h0.trans (decide_eq_true hj.symm)
      have e : t = s := Fin.ext (of_decide_eq_true (by simpa [M] using this))
      rw [← e]; exact dot_eq q k a ha t
    rw [h0, h1, h2, h3, h4, h5, h6]
    have T : bit true = 1 := rfl
    have Z : ∀ x : EReal, bit false * x = 0 := fun x => by unfold bit; rw [if_neg (by decide), zero_mul]
    fin_cases l
    · rw [hz rfl]; simp [T, Z]
    · rw [show levelDot q k a 0 t s = _ from hd 0 rfl]; simp [T, Z]
    · rw [show levelDot q k a 1 t s = _ from hd 1 rfl]; simp [T, Z]
    · rw [show levelDot q k a 2 t s = _ from hd 2 rfl]; simp [T, Z]
    · rw [show levelDot q k a 3 t s = _ from hd 3 rfl]; simp [T, Z]
    · rw [show levelDot q k a 4 t s = _ from hd 4 rfl]; simp [T, Z]
    · rw [show levelDot q k a 5 t s = _ from hd 5 rfl]; simp [T, Z]
  · have hn : ∀ l : Fin 7, bit (M l.val t.val s.val) = 0 := fun l => by
      unfold bit; rw [if_neg fun hh => h (causal l t s hh)]
    have e : score q k a t s = 0 := by
      unfold score
      refine Finset.sum_eq_zero fun d _ => ?_
      rw [if_neg h]
      exact mul_zero _
    have h0 := hn 0; have h1 := hn 1; have h2 := hn 2; have h3 := hn 3; have h4 := hn 4; have h5 := hn 5; have h6 := hn 6
    simp only [Fin.val_zero, Fin.val_one, Fin.val_two] at h0 h1 h2
    rw [h0, h1, h2, show bit (M 3 t.val s.val) = 0 from h3, show bit (M 4 t.val s.val) = 0 from h4,
      show bit (M 5 t.val s.val) = 0 from h5, show bit (M 6 t.val s.val) = 0 from h6, e]
    simp

/-! ## The gates, and the whole -/

/-- The literal one. -/
abbrev one : EReal := Ideal.ofBits .f32 0x3F800000#32

def sigm (x : EReal) : EReal := Ideal.div one (one + Ideal.exp (-x))
def silu (x : EReal) : EReal := x * sigm x
/-- The logarithm of the forget gate, whose lower bound is `lb`. -/
def logf (lb x : EReal) : EReal := Ideal.log (max (lb + (one - lb) * sigm x) (Ideal.ofBits .f32 0x0DA24260#32))
/-- The input gate. -/
def key (lb x : EReal) : EReal := (one - lb) * sigm (-x)

theorem one_eq : one = ((1 : ℝ) : EReal) := by
  simp [one, Ideal.ofBits, Ideal.ieee]
  rw [← EReal.coe_mul]
  norm_num

theorem sigm_real (x : EReal) : IsReal (sigm x) := by
  unfold sigm
  rw [one_eq]
  induction x with
  | bot =>
    refine ⟨0, ?_⟩
    rw [EReal.neg_bot, show Ideal.exp (⊤ : EReal) = ⊤ from rfl, EReal.coe_add_top]
    simp [Ideal.div]
  | top =>
    rw [EReal.neg_top, show Ideal.exp (⊥ : EReal) = ((0 : ℝ) : EReal) from rfl, ← EReal.coe_add, add_zero]
    exact IsReal.div ⟨1, rfl⟩ ⟨1, rfl⟩ (by simp)
  | coe r =>
    rw [← EReal.coe_neg]
    show IsReal (Ideal.div _ (_ + ((Real.exp (-r) : ℝ) : EReal)))
    rw [← EReal.coe_add]
    refine IsReal.div ⟨1, rfl⟩ ⟨_, rfl⟩ ?_
    have := Real.exp_pos (-r)
    exact_mod_cast (by positivity : (1 + Real.exp (-r) : ℝ) ≠ 0)

theorem tiny_pos : ∃ r : ℝ, 0 < r ∧ Ideal.ofBits .f32 0x0DA24260#32 = ((r : ℝ) : EReal) := by
  refine ⟨_, ?_, by simp [Ideal.ofBits, Ideal.ieee]; rfl⟩
  positivity

/-- With a lower bound other than plus infinity the log-decays are real. -/
theorem logf_real (lb x : EReal) (h : lb ≠ ⊤) : IsReal (logf lb x) := by
  unfold logf
  obtain ⟨r, hr, e⟩ := tiny_pos
  have log_real : ∀ z : ℝ, 0 < z → IsReal (Ideal.log (z : EReal)) := fun z hz =>
    ⟨Real.log z, show (if z ≤ 0 then (⊥ : EReal) else _) = _ from if_neg (not_le.2 hz)⟩
  induction lb with
  | top => exact absurd rfl h
  | bot =>
    rw [EReal.bot_add, max_eq_right bot_le, e]
    exact log_real r hr
  | coe b =>
    obtain ⟨y, hy⟩ : IsReal ((b : EReal) + (one - (b : EReal)) * sigm x) :=
      IsReal.add ⟨b, rfl⟩ (((IsReal.sub ⟨1, one_eq⟩ ⟨b, rfl⟩)).mul (sigm_real x))
    rw [hy, e, ← EReal.coe_strictMono.monotone.map_max]
    exact log_real _ (lt_of_lt_of_le hr (le_max_right _ _))

/-- Position `t` of chunk `n`. -/
def pos (n : ℕ) (t : Fin 64) : Fin 4096 := ⟨(64 * n + t.val) % 4096, Nat.mod_lt _ (by decide)⟩

section Whole

variable (X : Fin 4096 → Fin 5384 → EReal) (lb : Fin 512 → EReal) (h : Fin 4)

def qs (n : ℕ) (t : Fin 64) (d : Fin 128) : EReal := silu (X (pos n t) ⟨1280 + (128 * h.val + d.val), by omega⟩)
def ks (n : ℕ) (t : Fin 64) (d : Fin 128) : EReal :=
  key (lb ⟨128 * h.val + d.val, by omega⟩) (X (pos n t) ⟨1792 + (128 * h.val + d.val), by omega⟩)
def ls (n : ℕ) (t : Fin 64) (d : Fin 128) : EReal :=
  logf (lb ⟨128 * h.val + d.val, by omega⟩) (X (pos n t) ⟨1792 + (128 * h.val + d.val), by omega⟩)
def vs (n : ℕ) (t : Fin 64) (d : Fin 128) : EReal := X (pos n t) ⟨2304 + (128 * h.val + d.val), by omega⟩

/-- The state before chunk `n`. -/
def state : ℕ → Fin 128 → Fin 128 → EReal
  | 0 => fun _ _ => 0
  | n + 1 => next (ks X lb h n) (vs X h n) (ls X lb h n) (state n)

/-- Chunk `n`'s output before the norm. -/
def out (n : ℕ) (t : Fin 64) (j : Fin 128) : EReal :=
  raw (qs X h n) (ks X lb h n) (vs X h n) (ls X lb h n) (state X lb h n) t j

end Whole

/-- A row of 128 lanes divided by its root mean square. -/
def normed (o : Fin 128 → EReal) (j : Fin 128) : EReal :=
  o j * Ideal.rsqrt (Ideal.div (∑ d : Fin 128, o d * o d) (Ideal.ofBits .f32 0x43000000#32) + Ideal.ofBits .f32 0x358637BD#32)

/-- The call's result at an index: rows are sequence by position, columns head by lane. -/
def res (T : Fin 4 → Fin 4096 → Fin 5384 → EReal) (lb g : Fin 512 → EReal) (row : Fin 16384) (col : Fin 512) : EReal :=
  normed (out (T ⟨row.val / 4096, by omega⟩) lb ⟨col.val / 128, by omega⟩ (row.val % 4096 / 64) ⟨row.val % 64, by omega⟩)
      ⟨col.val % 128, by omega⟩ * g col
    * silu (T ⟨row.val / 4096, by omega⟩ ⟨row.val % 4096, by omega⟩ ⟨2816 + col.val, by omega⟩)

end Cert.Hgrn

end
-- ==== Proof.Hgrn.Head.lean ====
module

public import proofs.«01_k».proof.Proof.Hgrn.Step
public import proofs.«01_k».proof.Proof.Hgrn.Chunk
public import Idealize.ShloMosaic.Lib.Pipeline.ValueKit

@[expose] public section

/-!
# A chunk of the body, at an index
-/

set_option maxRecDepth 16384

noncomputable section

namespace Cert.Hgrn

open Cert.Kernel6Ideal Cert.Kernel6Ideal.Gen Idealize.ShloMosaic Idealize.ShloMosaic.TcCoe Idealize.SL.Sem Idealize.ShloMosaic.Tactic
open Cert.Att (IsReal)

theorem trip_lt (k : Fin k0_t1_loop.trips) : k.val < 8 := lt_of_lt_of_le k.isLt k0_t1_abs.2.1

theorem rows_apply (x : Vec Ideal S512x512 .f32) (k : Fin k0_t1_loop.trips) (t : Fin 64) (l : Fin 512) :
    rows x k (ix2 t l) = x (ix2 ⟨64 * k.val + t.val, by have := trip_lt k; omega⟩ l) := by
  unfold rows
  pointwise
  refine congrArg x (congrArg₂ ix2 (Fin.ext ?_) (Fin.ext ?_))
  · show k0_off1 k 0 + t.val = _
    rw [k0_off1_eq]; rfl
  · show k0_off1 k 1 + l.val = _
    rw [k0_off1_eq]; exact Nat.zero_add _

theorem mask_apply (x : Vec Ideal S448x64 .f32) (n : Fin 7) (t s : Fin 64) :
    mask x n (ix2 t s) = x (ix2 ⟨64 * n.val + t.val, by omega⟩ s) := by
  unfold mask
  pointwise

theorem slab_apply (s : Vec Ideal S4x128x128 .f32) (h : Fin 4) (j d : Fin 128) : mat (slab s h) (ix2 j d) = s (ix3 h j d) := by
  unfold slab mat
  pointwise

theorem cols_apply (x : FVec Ideal S64x512 .f32) (h : Fin 4) (t : Fin 64) (d : Fin 128) :
    cols x h (ix2 t d) = x (ix2 t ⟨128 * h.val + d.val, by omega⟩) := by
  unfold cols
  pointwise

theorem level_apply (x : FVec Ideal S896x512 .f32) (h : Fin 4) (n : Fin 14) (t : Fin 64) (d : Fin 128) :
    level (ecols x h) n (ix2 t d) = x (ix2 ⟨64 * n.val + t.val, by omega⟩ ⟨128 * h.val + d.val, by omega⟩) := by
  unfold level ecols
  pointwise

theorem silu_apply (x : Vec Ideal S64x512 .f32) (t : Fin 64) (l : Fin 512) :
    k0_pay11 (k0_pay8 x) (k0_pay9 x) k0_pay10 (ix2 t l) = silu (x (ix2 t l)) := by
  pointwise [k0_pay11, k0_pay8, k0_pay9, k0_pay10, silu, sigm]
  simp only [zero_sub]

theorem key_apply (lb : FVec Ideal S1x512 .f32) (x : Vec Ideal S64x512 .f32) (t : Fin 64) (l : Fin 512) :
    k0_pay7 lb x (ix2 t l) = key (lb (ix2 0 l)) (x (ix2 t l)) := by
  pointwise [k0_pay7, k0_pay5, key, sigm]
  simp only [zero_sub]

theorem logf_apply (lb : FVec Ideal S1x512 .f32) (x : Vec Ideal S64x512 .f32) (t : Fin 64) (l : Fin 512) :
    k0_pay6 lb x (ix2 t l) = logf (lb (ix2 0 l)) (x (ix2 t l)) := by
  pointwise [k0_pay6, k0_pay5, logf, sigm]
  simp only [zero_sub]

theorem pay13_apply (w : FVec Ideal S896x64 .bf16) (a : FVec Ideal S64x512 .f32) (r : Fin 896) (l : Fin 512) :
    k0_pay13 w a (ix2 r l) = Ideal.exp ((∑ u : Fin 64, w (ix2 r u) * a (ix2 u l)) + (∑ u : Fin 64, w (ix2 r u) * (a (ix2 u l) - a (ix2 u l)))
      + ∑ u : Fin 64, w (ix2 r u) * (a (ix2 u l) - a (ix2 u l) - (a (ix2 u l) - a (ix2 u l)))) := by
  pointwise [k0_pay13]

theorem levelScore_apply (m : Vec Ideal S64x64 .f32) (a b : FVec Ideal S64x128 .f32) (t s : Fin 64) :
    levelScore m a b (ix2 t s) = m (ix2 t s) * ∑ d : Fin 128, a (ix2 t d) * b (ix2 s d) := by
  pointwise [levelScore]

theorem headRaw_apply (x7 : Vec Ideal S448x64 .f32) (q k v : FVec Ideal S64x128 .f32) (e : FVec Ideal S896x128 .f32) (s : Vec Ideal S1x128x128 .f32)
    (t : Fin 64) (j : Fin 128) :
    headRaw x7 q k v e s (ix2 t j) = (∑ u : Fin 64, scores x7 q k e (ix2 t u) * v (ix2 u j))
      + ∑ d : Fin 128, q (ix2 t d) * level e 12 (ix2 t d) * mat s (ix2 j d) := by
  pointwise [headRaw]

theorem headNorm_apply (o : FVec Ideal S64x128 .f32) (t : Fin 64) (j : Fin 128) :
    headNorm o (ix2 t j) = normed (fun d => o (ix2 t d)) j := by
  pointwise [headNorm, normed]

theorem headState_apply (k v : FVec Ideal S64x128 .f32) (e : FVec Ideal S896x128 .f32) (s : Vec Ideal S1x128x128 .f32) (j d : Fin 128) :
    headState k v e s (ix3 (0 : Fin 1) j d) = mat s (ix2 j d) * level e 12 (ix2 (63 : Fin 64) d)
      + ∑ u : Fin 64, v (ix2 u j) * (k (ix2 u d) * level e 13 (ix2 u d)) := by
  pointwise [headState, k0_pay24]

theorem gated_apply (gain : FVec Ideal S1x512 .f32) (o : Fin 4 → FVec Ideal S64x128 .f32) (g : FVec Ideal S64x512 .f32) (t : Fin 64) (l : Fin 512) :
    gated gain o g (ix2 t l) = o ⟨l.val / 128, by omega⟩ (ix2 t ⟨l.val % 128, by omega⟩) * gain (ix2 0 l) * silu (g (ix2 t l)) := by
  have e : ∀ (h : Fin 4) (k : ℕ) (hk : k < 128), h.val = l.val / 128 → k = l.val % 128 → o ⟨l.val / 128, by omega⟩ (ix2 t ⟨l.val % 128, by omega⟩) = o h (ix2 t ⟨k, hk⟩) := by
    intro h k hk h1 h2
    have e : h = ⟨l.val / 128, by omega⟩ := Fin.ext h1
    subst h2
    rw [e]
  pointwise [gated, k0_pay11, k0_pay8, k0_pay9, k0_pay10, silu, sigm]
  simp only [zero_sub]
  refine congrArg₂ (· * ·) (congrArg₂ (· * ·) ?_ rfl) rfl
  have hl := l.isLt
  split_ifs <;> first
    | exact (e 0 _ _ (by show 0 = _; omega) (by omega)).symm
    | exact (e 1 _ _ (by show 1 = _; omega) (by omega)).symm
    | exact (e 2 _ _ (by show 2 = _; omega) (by omega)).symm
    | exact (e 3 _ _ (by show 3 = _; omega) (by omega)).symm

/-! ## Chunks of a point's blocks -/

/-- The blocks a point reads, as blocks of a sequence's projection, of the lower bounds and of the gain. -/
structure Blocks (X : Fin 4096 → Fin 5384 → EReal) (lb g : Fin 512 → EReal) (p : Fin 8)
    (x0 x1 x2 x3 : Vec Ideal S512x512 .f32) (x4 x5 : Vec Ideal S1x512 .f32) (x6 : Vec Ideal S896x64 .bf16) (x7 : Vec Ideal S448x64 .f32) : Prop where
  h0 : ∀ r l : Fin 512, x0 (ix2 r l) = X ⟨512 * p.val + r.val, by omega⟩ ⟨1280 + l.val, by omega⟩
  h1 : ∀ r l : Fin 512, x1 (ix2 r l) = X ⟨512 * p.val + r.val, by omega⟩ ⟨1792 + l.val, by omega⟩
  h2 : ∀ r l : Fin 512, x2 (ix2 r l) = X ⟨512 * p.val + r.val, by omega⟩ ⟨2304 + l.val, by omega⟩
  h3 : ∀ r l : Fin 512, x3 (ix2 r l) = X ⟨512 * p.val + r.val, by omega⟩ ⟨2816 + l.val, by omega⟩
  h4 : ∀ l : Fin 512, x4 (ix2 0 l) = lb l
  h5 : ∀ l : Fin 512, x5 (ix2 0 l) = g l
  h6 : ∀ (r : Fin 896) (u : Fin 64), x6 (ix2 r u) = bit (D (r.val / 64) (r.val % 64) u.val)
  h7 : ∀ (r : Fin 448) (u : Fin 64), x7 (ix2 r u) = bit (M (r.val / 64) (r.val % 64) u.val)

section Point

variable {X : Fin 4096 → Fin 5384 → EReal} {lb g : Fin 512 → EReal} {p : Fin 8}
  {x0 x1 x2 x3 : Vec Ideal S512x512 .f32} {x4 x5 : Vec Ideal S1x512 .f32} {x6 : Vec Ideal S896x64 .bf16} {x7 : Vec Ideal S448x64 .f32}

/-- The chunk's place in the sequence. -/
abbrev chunkNo (p : Fin 8) (k : Fin k0_t1_loop.trips) : ℕ := 8 * p.val + k.val

theorem pos_eq (p : Fin 8) (k : Fin k0_t1_loop.trips) (t : Fin 64) (h : 512 * p.val + (64 * k.val + t.val) < 4096) :
    (⟨512 * p.val + (64 * k.val + t.val), h⟩ : Fin 4096) = pos (chunkNo p k) t := by
  apply Fin.ext
  have := trip_lt k
  show 512 * p.val + (64 * k.val + t.val) = (64 * (8 * p.val + k.val) + t.val) % 4096
  omega

theorem pay2_apply (x : Vec Ideal S1x512 .f32) (l : Fin 512) : k0_pay2 x (ix2 0 l) = x (ix2 0 l) := by
  pointwise [k0_pay2]

theorem pay3_apply (x : Vec Ideal S1x512 .f32) (l : Fin 512) : k0_pay3 x (ix2 0 l) = x (ix2 0 l) := by
  pointwise [k0_pay3]

theorem pay4_apply (x : Vec Ideal S896x64 .bf16) (r : Fin 896) (u : Fin 64) : k0_pay4 x (ix2 r u) = x (ix2 r u) := by
  pointwise [k0_pay4]

theorem pay12_apply (x : Vec Ideal S64x512 .f32) (t : Fin 64) (l : Fin 512) : k0_pay12 x (ix2 t l) = x (ix2 t l) := by
  pointwise [k0_pay12]

variable (B : Blocks X lb g p x0 x1 x2 x3 x4 x5 x6 x7) (k : Fin k0_t1_loop.trips) (h : Fin 4)
include B

theorem q_eq (t : Fin 64) (d : Fin 128) : cols (qC x0 k) h (ix2 t d) = qs X h (chunkNo p k) t d := by
  rw [cols_apply]
  unfold qC
  rw [silu_apply, rows_apply, B.h0, pos_eq]
  rfl

theorem k_eq (t : Fin 64) (d : Fin 128) : cols (kC x1 x4 k) h (ix2 t d) = ks X lb h (chunkNo p k) t d := by
  rw [cols_apply]
  unfold kC
  rw [key_apply, pay2_apply, rows_apply, B.h1, B.h4, pos_eq]
  rfl

theorem v_eq (t : Fin 64) (d : Fin 128) : cols (vC x2 k) h (ix2 t d) = vs X h (chunkNo p k) t d := by
  rw [cols_apply]
  unfold vC
  rw [pay12_apply, rows_apply, B.h2, pos_eq]
  rfl

theorem a_eq (t : Fin 64) (d : Fin 128) : k0_pay6 (k0_pay2 x4) (rows x1 k) (ix2 t ⟨128 * h.val + d.val, by omega⟩) = ls X lb h (chunkNo p k) t d := by
  rw [logf_apply, pay2_apply, rows_apply, B.h1, B.h4, pos_eq]
  rfl

theorem gate_eq (t : Fin 64) (l : Fin 512) : rows x3 k (ix2 t l) = X (pos (chunkNo p k) t) ⟨2816 + l.val, by omega⟩ := by
  rw [rows_apply, B.h3, pos_eq]

variable (hlb : ∀ l, lb l ≠ ⊤)
include hlb

theorem ls_real (n : ℕ) (t : Fin 64) (d : Fin 128) : IsReal (ls X lb h n t d) := logf_real _ _ (hlb _)

theorem e_eq (n : Fin 14) (t : Fin 64) (d : Fin 128) :
    level (ecols (eC x1 x4 x6 k) h) n (ix2 t d) = factor n.val (fun u => ls X lb h (chunkNo p k) u d) t := by
  have z : ∀ u, ls X lb h (chunkNo p k) u d - ls X lb h (chunkNo p k) u d = 0 := fun u => by
    obtain ⟨r, hr⟩ := ls_real B h hlb (chunkNo p k) u d
    rw [hr, ← EReal.coe_sub, sub_self, EReal.coe_zero]
  rw [level_apply]
  unfold eC
  rw [pay13_apply]
  simp only [a_eq B, pay4_apply, B.h6, z, sub_zero, mul_zero, Finset.sum_const_zero, add_zero]
  unfold factor
  rw [show (64 * n.val + t.val) / 64 = n.val by omega, show (64 * n.val + t.val) % 64 = t.val by omega]

theorem mask_eq (n : Fin 7) (t s : Fin 64) : mask x7 n (ix2 t s) = bit (M n.val t.val s.val) := by
  rw [mask_apply, B.h7, show (64 * n.val + t.val) / 64 = n.val by omega, show (64 * n.val + t.val) % 64 = t.val by omega]

theorem term_eq (l : Fin 6) (t s : Fin 64) :
    levelTerm x7 (cols (qC x0 k) h) (cols (kC x1 x4 k) h) (ecols (eC x1 x4 x6 k) h) l (ix2 t s)
      = bit (M (l.val + 1) t.val s.val) * levelDot (qs X h (chunkNo p k)) (ks X lb h (chunkNo p k)) (ls X lb h (chunkNo p k)) l.val t s := by
  unfold levelTerm levelDot
  rw [levelScore_apply, mask_eq B hlb]
  congr 1
  refine Finset.sum_congr rfl fun d _ => ?_
  show cols (qC x0 k) h (ix2 t d) * level _ _ (ix2 t d) * (cols (kC x1 x4 k) h (ix2 s d) * level _ _ (ix2 s d)) = _
  rw [q_eq B, k_eq B, e_eq B k h hlb, e_eq B k h hlb]

theorem scores_apply (t s : Fin 64) :
    scores x7 (cols (qC x0 k) h) (cols (kC x1 x4 k) h) (ecols (eC x1 x4 x6 k) h) (ix2 t s)
      = score (qs X h (chunkNo p k)) (ks X lb h (chunkNo p k)) (ls X lb h (chunkNo p k)) t s := by
  have z : levelScore (mask x7 0) (cols (qC x0 k) h) (cols (kC x1 x4 k) h) (ix2 t s)
      = bit (M 0 t.val s.val) * ∑ d : Fin 128, qs X h (chunkNo p k) t d * ks X lb h (chunkNo p k) s d := by
    rw [levelScore_apply, mask_eq B hlb]
    simp only [q_eq B, k_eq B]
    rfl
  rw [← scores_eq _ _ _ (fun u d => ls_real B h hlb _ u d)]
  unfold scores
  pointwise
  rw [z, term_eq B k h hlb, term_eq B k h hlb, term_eq B k h hlb, term_eq B k h hlb, term_eq B k h hlb, term_eq B k h hlb]
  rfl

/-- A chunk's output rows, from a state. -/
theorem chunkOut_apply (s : Vec Ideal S4x128x128 .f32) (S : Fin 4 → Fin 128 → Fin 128 → EReal) (hs : ∀ h j d, s (ix3 h j d) = S h d j)
    (t : Fin 64) (l : Fin 512) :
    chunkOut x0 x1 x2 x3 x4 x5 x6 x7 k s (ix2 t l)
      = normed (raw (qs X ⟨l.val / 128, by omega⟩ (chunkNo p k)) (ks X lb ⟨l.val / 128, by omega⟩ (chunkNo p k)) (vs X ⟨l.val / 128, by omega⟩ (chunkNo p k))
          (ls X lb ⟨l.val / 128, by omega⟩ (chunkNo p k)) (S ⟨l.val / 128, by omega⟩) t) ⟨l.val % 128, by omega⟩ * g l
        * silu (X (pos (chunkNo p k) t) ⟨2816 + l.val, by omega⟩) := by
  unfold chunkOut
  rw [gated_apply, pay3_apply, B.h5, gate_eq B]
  congr 2
  unfold headOut
  rw [headNorm_apply]
  refine congrArg (fun f => normed f _) (funext fun j => ?_)
  rw [headRaw_apply]
  unfold raw
  rw [add_comm]
  simp only [scores_apply B k _ hlb, v_eq B, q_eq B, e_eq B k _ hlb, slab_apply, hs]
  congr 1
  refine Finset.sum_congr rfl fun d _ => ?_
  rw [← factor_past]
  rfl

/-- The state after a chunk, from the state before. -/
theorem chunkState_apply (s : Vec Ideal S4x128x128 .f32) (S : Fin 4 → Fin 128 → Fin 128 → EReal) (hs : ∀ h j d, s (ix3 h j d) = S h d j)
    (j d : Fin 128) :
    chunkState x1 x2 x4 x6 k s (ix3 h j d)
      = next (ks X lb h (chunkNo p k)) (vs X h (chunkNo p k)) (ls X lb h (chunkNo p k)) (S h) d j := by
  show headNext x1 x2 x4 x6 k s h _ = _
  rw [show (Fin.cons (0 : Fin 1) (fun a : Fin 2 => (ix3 h j d : S4x128x128.Idx) a.succ) : S1x128x128.Idx) = ix3 (0 : Fin 1) j d from by
    funext a; fin_cases a <;> rfl]
  unfold headNext
  rw [headState_apply]
  unfold next
  simp only [v_eq B, k_eq B, e_eq B k _ hlb, slab_apply, hs]
  rw [mul_comm]
  congr 1
  · rw [← factor_past]; rfl
  · refine Finset.sum_congr rfl fun u _ => ?_
    rw [mul_comm, ← factor_future _ (fun u => ls_real B h hlb _ u d)]
    rfl

end Point

end Cert.Hgrn

end
-- ==== Proof.Hgrn.Entry.lean ====
module

public import proofs.«01_k».proof.Proof.Att.Entry
public import proofs.«01_k».proof.Proof.Hgrn.Frame
public import proofs.«01_k».proof.Proof.Hgrn.Head

@[expose] public section

/-!
# The arrays the recurrence's call finds

The projection with its columns packed, the lower bounds, the gain and the two tables, at an index.
-/

set_option maxRecDepth 16384

noncomputable section

namespace Cert.Hgrn

open Cert.Kernel6Ideal Cert.Kernel6Ideal.Gen Idealize.ShloMosaic Idealize.ShloMosaic.TcCoe Idealize.SL.Sem Idealize.ShloMosaic.Tactic

variable (m : (ℓ : Loc nD τ sig) → Buf (Elt Ideal) ℓ)

/-- The references written from the packed projection on. -/
def tail13 : List (Ref sig .tc) := [main_v14, main_v15, main_v16]

theorem v13_eq (c : Dev nD) : V (F := Ideal) m c main_v13 = concatenate S16384x5632 1 [⟨S16384x1024, V (F := Ideal) m c main_v1⟩,
    ⟨S16384x512, V (F := Ideal) m c main_v2⟩, ⟨S16384x512, V (F := Ideal) m c main_v3⟩, ⟨S16384x512, V (F := Ideal) m c main_v4⟩,
    ⟨S16384x512, V (F := Ideal) m c main_v5⟩, ⟨S16384x1024, V (F := Ideal) m c main_v6⟩, ⟨S16384x512, V (F := Ideal) m c main_v7⟩,
    ⟨S16384x512, V (F := Ideal) m c main_v8⟩, ⟨S16384x128, V (F := Ideal) m c main_v9⟩, ⟨S16384x128, V (F := Ideal) m c main_v10⟩,
    ⟨S16384x8, V (F := Ideal) m c main_v11⟩, ⟨S16384x248, V (F := Ideal) m c main_v12⟩]
    concatenates_S16384x1024_S16384x512_S16384x512_S16384x512_S16384x512_S16384x1024_S16384x512_S16384x512_S16384x128_S16384x128_S16384x8_S16384x248_S16384x5632_d1 := by
  unfold V
  rw [StableHlo.after_last_write (i := 16) tail13 rfl rfl (by decide)]
  have e : ∀ r : Ref sig .tc, r ∉ main_v13 :: tail13 → StableHlo.after (hostOps0 (F := Ideal)) (fun b => m (c, b)) (Proc.devRef .tc r)
      = StableHlo.upto (hostOps0 (F := Ideal)) (fun b => m (c, b)) 16 (Proc.devRef .tc r) :=
    fun r hr => Cert.KernelIdeal.Att.after_eq_upto _ 16 (main_v13 :: tail13) rfl hr _
  rw [StableHlo.nary_result]
  rw [e main_v1 (by decide), e main_v2 (by decide), e main_v3 (by decide), e main_v4 (by decide), e main_v5 (by decide), e main_v6 (by decide),
    e main_v7 (by decide), e main_v8 (by decide), e main_v9 (by decide), e main_v10 (by decide), e main_v11 (by decide), e main_v12 (by decide)]
  rfl

/-- The projection's argument by sequence, position and column. -/
abbrev argT (c : Dev nD) (b : Fin 4) (s : Fin 4096) (l : Fin 5384) : EReal := m ((c : Thread nD τ).loc main_arg0) (ix3 b s l)
/-- The lower bounds' argument. -/
abbrev argL (c : Dev nD) (l : Fin 512) : EReal := m ((c : Thread nD τ).loc main_arg1) (ix1 l)
/-- The gain's argument. -/
abbrev argG (c : Dev nD) (l : Fin 512) : EReal := m ((c : Thread nD τ).loc main_arg2) (ix1 l)

theorem v2_apply (c : Dev nD) (i : Fin 16384) (l : Fin 512) :
    V (F := Ideal) m c main_v2 (ix2 i l) = argT m c ⟨i.val / 4096, by omega⟩ ⟨i.val % 4096, by omega⟩ ⟨1280 + l.val, by omega⟩ := by
  entry_read
  pointwise [argT]

theorem v3_apply (c : Dev nD) (i : Fin 16384) (l : Fin 512) :
    V (F := Ideal) m c main_v3 (ix2 i l) = argT m c ⟨i.val / 4096, by omega⟩ ⟨i.val % 4096, by omega⟩ ⟨1792 + l.val, by omega⟩ := by
  entry_read
  pointwise [argT]

theorem v4_apply (c : Dev nD) (i : Fin 16384) (l : Fin 512) :
    V (F := Ideal) m c main_v4 (ix2 i l) = argT m c ⟨i.val / 4096, by omega⟩ ⟨i.val % 4096, by omega⟩ ⟨2304 + l.val, by omega⟩ := by
  entry_read
  pointwise [argT]

theorem v5_apply (c : Dev nD) (i : Fin 16384) (l : Fin 512) :
    V (F := Ideal) m c main_v5 (ix2 i l) = argT m c ⟨i.val / 4096, by omega⟩ ⟨i.val % 4096, by omega⟩ ⟨2816 + l.val, by omega⟩ := by
  entry_read
  pointwise [argT]

theorem v13_q (c : Dev nD) (i : Fin 16384) (l : Fin 512) : V (F := Ideal) m c main_v13 (ix2 i (⟨1024 + l.val, by omega⟩ : Fin 5632))
    = argT m c ⟨i.val / 4096, by omega⟩ ⟨i.val % 4096, by omega⟩ ⟨1280 + l.val, by omega⟩ := by
  rw [v13_eq, ← v2_apply]
  exact Columns.concat_apply _ _ i _ 1 (by show 1 < 12; decide) _ rfl 1024 rfl l rfl

theorem v13_f (c : Dev nD) (i : Fin 16384) (l : Fin 512) : V (F := Ideal) m c main_v13 (ix2 i (⟨1536 + l.val, by omega⟩ : Fin 5632))
    = argT m c ⟨i.val / 4096, by omega⟩ ⟨i.val % 4096, by omega⟩ ⟨1792 + l.val, by omega⟩ := by
  rw [v13_eq, ← v3_apply]
  exact Columns.concat_apply _ _ i _ 2 (by show 2 < 12; decide) _ rfl 1536 rfl l rfl

theorem v13_i (c : Dev nD) (i : Fin 16384) (l : Fin 512) : V (F := Ideal) m c main_v13 (ix2 i (⟨2048 + l.val, by omega⟩ : Fin 5632))
    = argT m c ⟨i.val / 4096, by omega⟩ ⟨i.val % 4096, by omega⟩ ⟨2304 + l.val, by omega⟩ := by
  rw [v13_eq, ← v4_apply]
  exact Columns.concat_apply _ _ i _ 3 (by show 3 < 12; decide) _ rfl 2048 rfl l rfl

theorem v13_g (c : Dev nD) (i : Fin 16384) (l : Fin 512) : V (F := Ideal) m c main_v13 (ix2 i (⟨2560 + l.val, by omega⟩ : Fin 5632))
    = argT m c ⟨i.val / 4096, by omega⟩ ⟨i.val % 4096, by omega⟩ ⟨2816 + l.val, by omega⟩ := by
  rw [v13_eq, ← v5_apply]
  exact Columns.concat_apply _ _ i _ 4 (by show 4 < 12; decide) _ rfl 2560 rfl l rfl

theorem v14_apply (c : Dev nD) (l : Fin 512) : V (F := Ideal) m c main_v14 (ix2 (0 : Fin 1) l) = argL m c l := by
  entry_read
  pointwise [argL]

theorem v15_apply (c : Dev nD) (l : Fin 512) : V (F := Ideal) m c main_v15 (ix2 (0 : Fin 1) l) = argG m c l := by
  entry_read
  pointwise [argG]

theorem ofBits_bit (b : Bool) : Ideal.ofBits .f32 (if b = true then 0x3F800000#32 else 0x00000000#32) = bit b := by
  unfold bit
  cases b
  · rw [if_neg (by decide), if_neg (by decide)]; simp [Ideal.ofBits, Ideal.ieee]
  · rw [if_pos rfl, if_pos rfl]; exact one_eq

theorem rowMajor_val {R C : ℕ} (i : Fin R) (j : Fin C) : ((⟨2, ![R, C]⟩ : Shape).rowMajor (ix2 i j)).val = C * i.val + j.val := by
  have e : (ix2 i j : (⟨2, ![R, C]⟩ : Shape).Idx) = Shape.pair (d := ![R, C]) i j := by funext a; fin_cases a <;> rfl
  have h : ((⟨2, ![R, C]⟩ : Shape).rowMajor (Shape.pair (d := ![R, C]) i j)).val = i.val * C + j.val := Shape.rowMajor_pair_val (d := ![R, C]) i j
  rw [e, mul_comm]
  exact h

/-- The factors' table, as the literal's entries. -/
theorem v16_read (c : Dev nD) (r : Fin 896) (u : Fin 64) : V (F := Ideal) m c main_v16 (ix2 r u)
    = Ideal.ofBits .f32 (lit0 ⟨64 * r.val + u.val, by omega⟩) := by
  have e : V (F := Ideal) m c main_v16 (ix2 r u) = Ideal.ofBits .f32 (lit0 (S896x64.rowMajor (ix2 r u))) := by
    entry_read
    rfl
  rw [e]
  generalize lit0 = x
  rw [show S896x64.rowMajor (ix2 r u) = ⟨64 * r.val + u.val, by show _ < 57344; omega⟩ from Fin.ext (rowMajor_val r u)]
  rfl

/-- The masks, as the literal's entries. -/
theorem cst0_read (c : Dev nD) (r : Fin 448) (u : Fin 64) : V (F := Ideal) m c main_cst_0 (ix2 r u)
    = Ideal.ofBits .f32 (lit1 ⟨64 * r.val + u.val, by omega⟩) := by
  have e : V (F := Ideal) m c main_cst_0 (ix2 r u) = Ideal.ofBits .f32 (lit1 (S448x64.rowMajor (ix2 r u))) := by
    entry_read
    rfl
  rw [e]
  generalize lit1 = x
  rw [show S448x64.rowMajor (ix2 r u) = ⟨64 * r.val + u.val, by show _ < 28672; omega⟩ from Fin.ext (rowMajor_val r u)]
  rfl

end Cert.Hgrn

end
-- ==== Proof.Hgrn.Table.lean ====
module

public import proofs.«01_k».proof.Proof.Hgrn.Levels
public import proofs.«01_k».proof.Proof.Gen.Kernel6Ideal

@[expose] public section

/-!
# The two literals of the recurrence's call

The factors' table and the masks hold ones where `D` and `M` say so, and zeros elsewhere. Each is checked 1024 entries at a time.
-/

set_option maxRecDepth 16384

namespace Cert.Hgrn

open Cert.Kernel6Ideal Cert.Kernel6Ideal.Gen

/-- The entry is a one if the bit is set, and else a zero. -/
def agrees (x : BitVec 32) (b : Bool) : Bool := Nat.beq x.toNat (bif b then 0x3F800000 else 0)

/-- A test holds below a number. -/
def below (f : ℕ → Bool) : ℕ → Bool
  | 0 => true
  | n + 1 => f n && below f n

theorem below_at {f : ℕ → Bool} {n : ℕ} (h : below f n = true) : ∀ i < n, f i = true := by
  induction n with
  | zero => intro i hi; omega
  | succ n ih =>
    intro i hi
    rw [below, Bool.and_eq_true] at h
    rcases Nat.lt_succ_iff_lt_or_eq.1 hi with h' | rfl
    · exact ih h.2 i h'
    · exact h.1

theorem eq_of_agrees {x : BitVec 32} {b : Bool} (h : agrees x b = true) : x = if b = true then 0x3F800000#32 else 0x00000000#32 := by
  apply BitVec.eq_of_toNat_eq
  rw [Nat.eq_of_beq_eq_true h]
  cases b <;> rfl

set_option maxHeartbeats 0 in
theorem lit0_checked : ∀ n : Fin 56, below (fun i => agrees (lit0t (1024 * n.val + i))
    (D ((1024 * n.val + i) / 64 / 64) ((1024 * n.val + i) / 64 % 64) ((1024 * n.val + i) % 64))) 1024 = true := by
  intro n; fin_cases n <;> decide +kernel

set_option maxHeartbeats 0 in
theorem lit1_checked : ∀ n : Fin 28, below (fun i => agrees (lit1t (1024 * n.val + i))
    (M ((1024 * n.val + i) / 64 / 64) ((1024 * n.val + i) / 64 % 64) ((1024 * n.val + i) % 64))) 1024 = true := by
  intro n; fin_cases n <;> decide +kernel

theorem lit0_eq (r : Fin 896) (u : Fin 64) (h : 64 * r.val + u.val < 57344) : lit0 ⟨64 * r.val + u.val, h⟩
    = if D (r.val / 64) (r.val % 64) u.val = true then 0x3F800000#32 else 0x00000000#32 := by
  have := below_at (lit0_checked ⟨(64 * r.val + u.val) / 1024, by omega⟩) ((64 * r.val + u.val) % 1024) (Nat.mod_lt _ (by decide))
  simp only [Nat.div_add_mod] at this
  rw [show (64 * r.val + u.val) / 64 = r.val by omega, show (64 * r.val + u.val) % 64 = u.val by omega] at this
  exact eq_of_agrees this

theorem lit1_eq (r : Fin 448) (u : Fin 64) (h : 64 * r.val + u.val < 28672) : lit1 ⟨64 * r.val + u.val, h⟩
    = if M (r.val / 64) (r.val % 64) u.val = true then 0x3F800000#32 else 0x00000000#32 := by
  have := below_at (lit1_checked ⟨(64 * r.val + u.val) / 1024, by omega⟩) ((64 * r.val + u.val) % 1024) (Nat.mod_lt _ (by decide))
  simp only [Nat.div_add_mod] at this
  rw [show (64 * r.val + u.val) / 64 = r.val by omega, show (64 * r.val + u.val) % 64 = u.val by omega] at this
  exact eq_of_agrees this

end Cert.Hgrn
-- ==== Proof.Hgrn.Final.lean ====
module

public import proofs.«01_k».proof.Proof.Hgrn.Entry
public import proofs.«01_k».proof.Proof.Hgrn.Table

@[expose] public section

/-!
# What the recurrence's call leaves

Every point's blocks are blocks of the arguments, the state it starts from is the state before its first chunk, and so the
output array is the recurrence's at every index.
-/

set_option maxRecDepth 16384

noncomputable section

namespace Cert.Hgrn

open Cert.Kernel6Ideal Cert.Kernel6Ideal.Gen Idealize.ShloMosaic Idealize.ShloMosaic.TcCoe Idealize.SL.Sem Idealize.ShloMosaic.Tactic
open Idealize.ShloMosaic.Pipeline (Dat)

section Point

variable {X : Fin 4096 → Fin 5384 → EReal} {lb g : Fin 512 → EReal} {p : Fin 8}
  {x0 x1 x2 x3 : Vec Ideal S512x512 .f32} {x4 x5 : Vec Ideal S1x512 .f32} {x6 : Vec Ideal S896x64 .bf16} {x7 : Vec Ideal S448x64 .f32}
  (B : Blocks X lb g p x0 x1 x2 x3 x4 x5 x6 x7) (hlb : ∀ l, lb l ≠ ⊤)
  (s : Vec Ideal S4x128x128 .f32) (hs : ∀ h j d, s (ix3 h j d) = state X lb h (8 * p.val) d j)
include B hlb hs

/-- The states within a point. -/
theorem stateAt_eq (n : ℕ) (hn : n ≤ 8) : ∀ h j d, stateAt x1 x2 x4 x6 s n (ix3 h j d) = state X lb h (8 * p.val + n) d j := by
  induction n with
  | zero => exact hs
  | succ n ih =>
    intro h j d
    have hk : n < k0_t1_loop.trips := by rw [trips_eq]; omega
    rw [show n + 1 = (⟨n, hk⟩ : Fin k0_t1_loop.trips).val + 1 from rfl, stateAt_succ,
      chunkState_apply B ⟨n, hk⟩ h hlb _ (fun h => state X lb h (8 * p.val + n)) (ih (by omega))]
    rfl

/-- The rows a point writes. -/
theorem blockOut_apply (r l : Fin 512) : blockOut x0 x1 x2 x3 x4 x5 x6 x7 s (ix2 r l)
    = normed (out X lb ⟨l.val / 128, by omega⟩ (8 * p.val + r.val / 64) ⟨r.val % 64, by omega⟩) ⟨l.val % 128, by omega⟩ * g l
      * silu (X (pos (8 * p.val + r.val / 64) ⟨r.val % 64, by omega⟩) ⟨2816 + l.val, by omega⟩) := by
  have hk : r.val / 64 < k0_t1_loop.trips := by rw [trips_eq]; omega
  have e : rowOf (ix2 r l : S512x512.Idx) = ix2 (⟨r.val % 64, by omega⟩ : Fin 64) l := by funext a; fin_cases a <;> rfl
  unfold blockOut
  rw [e, show chunkOf (ix2 r l : S512x512.Idx) = ⟨r.val / 64, hk⟩ from rfl,
    chunkOut_apply B ⟨r.val / 64, hk⟩ hlb _ (fun h => state X lb h (8 * p.val + r.val / 64)) (stateAt_eq B hlb s hs _ (by omega))]
  rfl

end Point

/-- The result at an index, by sequence, chunk and position. -/
theorem res_eq (T : Fin 4 → Fin 4096 → Fin 5384 → EReal) (lb g : Fin 512 → EReal) (row : Fin 16384) (col : Fin 512) (b : Fin 4) (n : ℕ) (hn : n < 64)
    (t : Fin 64) (h : row.val = 4096 * b.val + 64 * n + t.val) :
    res T lb g row col = normed (out (T b) lb ⟨col.val / 128, by omega⟩ n t) ⟨col.val % 128, by omega⟩ * g col
      * silu (T b (pos n t) ⟨2816 + col.val, by omega⟩) := by
  have hb : (⟨row.val / 4096, by omega⟩ : Fin 4) = b := Fin.ext (by show row.val / 4096 = b.val; omega)
  have ht : (⟨row.val % 64, by omega⟩ : Fin 64) = t := Fin.ext (by show row.val % 64 = t.val; omega)
  have hp : (⟨row.val % 4096, by omega⟩ : Fin 4096) = pos n t := Fin.ext (by show row.val % 4096 = (64 * n + t.val) % 4096; omega)
  unfold res
  rw [hb, ht, hp, show row.val % 4096 / 64 = n by omega]

variable (m : (ℓ : Loc nD τ sig) → Buf (Elt Ideal) ℓ)

/-- Where every window's block stands at a point. -/
theorem idx : ∀ t : Fin cfg0.N, win0_0.index t = ![t.val, 2] ∧ win0_1.index t = ![t.val, 3] ∧ win0_2.index t = ![t.val, 4]
    ∧ win0_3.index t = ![t.val, 5] ∧ win0_4.index t = ![0, 0] ∧ win0_5.index t = ![0, 0] ∧ win0_6.index t = ![0, 0]
    ∧ win0_7.index t = ![0, 0] ∧ win0_8.index t = ![t.val, 0] := by
  decide +kernel

theorem t_lt (t : Fin cfg0.N) : t.val < 32 := t.isLt

/-- The sequence and the block of a point. -/
def seqOf (t : Fin cfg0.N) : Fin 4 := ⟨t.val / 8, by have := t_lt t; omega⟩
def blkOf (t : Fin cfg0.N) : Fin 8 := ⟨t.val % 8, by omega⟩

theorem blk0 (c : Dev nD) (t : Fin cfg0.N) (r l : Fin 512) : iblk m c 0 t (ix2 r l)
    = V (F := Ideal) m c main_v13 (ix2 (⟨t.val * 512 + r.val, by have := t_lt t; omega⟩ : Fin 16384) (⟨1024 + l.val, by omega⟩ : Fin 5632)) := by
  have := t_lt t
  blk_ext [iblk, idx t]

theorem blk1 (c : Dev nD) (t : Fin cfg0.N) (r l : Fin 512) : iblk m c 1 t (ix2 r l)
    = V (F := Ideal) m c main_v13 (ix2 (⟨t.val * 512 + r.val, by have := t_lt t; omega⟩ : Fin 16384) (⟨1536 + l.val, by omega⟩ : Fin 5632)) := by
  have := t_lt t
  blk_ext [iblk, idx t]

theorem blk2 (c : Dev nD) (t : Fin cfg0.N) (r l : Fin 512) : iblk m c 2 t (ix2 r l)
    = V (F := Ideal) m c main_v13 (ix2 (⟨t.val * 512 + r.val, by have := t_lt t; omega⟩ : Fin 16384) (⟨2048 + l.val, by omega⟩ : Fin 5632)) := by
  have := t_lt t
  blk_ext [iblk, idx t]

theorem blk3 (c : Dev nD) (t : Fin cfg0.N) (r l : Fin 512) : iblk m c 3 t (ix2 r l)
    = V (F := Ideal) m c main_v13 (ix2 (⟨t.val * 512 + r.val, by have := t_lt t; omega⟩ : Fin 16384) (⟨2560 + l.val, by omega⟩ : Fin 5632)) := by
  have := t_lt t
  blk_ext [iblk, idx t]

theorem blk4 (c : Dev nD) (t : Fin cfg0.N) (l : Fin 512) : iblk m c 4 t (ix2 (0 : Fin 1) l) = V (F := Ideal) m c main_v14 (ix2 (0 : Fin 1) l) := by
  have := t_lt t
  blk_ext [iblk, idx t]

theorem blk5 (c : Dev nD) (t : Fin cfg0.N) (l : Fin 512) : iblk m c 5 t (ix2 (0 : Fin 1) l) = V (F := Ideal) m c main_v15 (ix2 (0 : Fin 1) l) := by
  have := t_lt t
  blk_ext [iblk, idx t]

theorem blk6 (c : Dev nD) (t : Fin cfg0.N) (r : Fin 896) (u : Fin 64) : iblk m c 6 t (ix2 r u) = V (F := Ideal) m c main_v16 (ix2 r u) := by
  have := t_lt t
  blk_ext [iblk, idx t]

theorem blk7 (c : Dev nD) (t : Fin cfg0.N) (r : Fin 448) (u : Fin 64) : iblk m c 7 t (ix2 r u) = V (F := Ideal) m c main_cst_0 (ix2 r u) := by
  have := t_lt t
  blk_ext [iblk, idx t]

theorem argT_congr (c : Dev nD) {b b' : Fin 4} {s s' : Fin 4096} {l l' : Fin 5384} (hb : b.val = b'.val) (hs : s.val = s'.val) (hl : l.val = l'.val) :
    argT m c b s l = argT m c b' s' l' := by
  rw [Fin.ext hb, Fin.ext hs, Fin.ext hl]

/-- The blocks of a point are blocks of the arguments. -/
theorem blocks (c : Dev nD) (t : Fin cfg0.N) : Blocks (argT m c (seqOf t)) (argL m c) (argG m c) (blkOf t) (iblk m c 0 t) (iblk m c 1 t)
    (iblk m c 2 t) (iblk m c 3 t) (iblk m c 4 t) (iblk m c 5 t) (iblk m c 6 t) (iblk m c 7 t) := by
  have ht := t_lt t
  constructor
  · intro r l; rw [blk0, v13_q]; apply argT_congr <;> simp only [seqOf, blkOf] <;> omega
  · intro r l; rw [blk1, v13_f]; apply argT_congr <;> simp only [seqOf, blkOf] <;> omega
  · intro r l; rw [blk2, v13_i]; apply argT_congr <;> simp only [seqOf, blkOf] <;> omega
  · intro r l; rw [blk3, v13_g]; apply argT_congr <;> simp only [seqOf, blkOf] <;> omega
  · intro l; exact (blk4 m c t l).trans (v14_apply m c l)
  · intro l; exact (blk5 m c t l).trans (v15_apply m c l)
  · intro r u; rw [blk6, v16_read, lit0_eq, ofBits_bit]
  · intro r u; rw [blk7, cst0_read, lit1_eq, ofBits_bit]

section Real

variable (c : Dev nD) (hlb : ∀ l, argL m c l ≠ ⊤)
include hlb

/-- The state a point starts from. -/
theorem start_eq (n : ℕ) : ∀ t : Fin cfg0.N, t.val = n → ∀ h j d,
    start m c t (ix3 h j d) = state (argT m c (seqOf t)) (argL m c) h (8 * (blkOf t).val) d j := by
  induction n with
  | zero =>
    intro t ht h j d
    have h0 : t.val % 8 = 0 := by omega
    unfold start
    rw [startState_first t h0, show (blkOf t).val = 0 from h0]
    show k0_pay1 (ix3 h j d) = 0
    pointwise [k0_pay1]
  | succ n ih =>
    intro t ht h j d
    by_cases h0 : t.val % 8 = 0
    · unfold start
      rw [startState_first t h0, show (blkOf t).val = 0 from h0]
      show k0_pay1 (ix3 h j d) = 0
      pointwise [k0_pay1]
    · have hN := t_lt t
      let s : Fin cfg0.N := ⟨n, by show n < 32; omega⟩
      have e : found m c t.val = stateAt (iblk m c 1 s) (iblk m c 2 s) (iblk m c 4 s) (iblk m c 6 s) (start m c s) 8 := by
        rw [ht]; exact found_succ m c s
      unfold start
      rw [startState_later t h0, e, stateAt_eq (blocks m c s) hlb _ (ih s rfl) 8 le_rfl h j d]
      have hseq : seqOf s = seqOf t := Fin.ext (by show n / 8 = t.val / 8; omega)
      have hblk : 8 * (blkOf s).val + 8 = 8 * (blkOf t).val := by show 8 * (n % 8) + 8 = 8 * (t.val % 8); omega
      rw [hseq, hblk]

/-- The output array. -/
def G (c : Dev nD) : S16384x512.Idx → EReal := fun i => res (argT m c) (argL m c) (argG m c) (i 0) (i 1)

theorem final : (dats m 0 c).arrAt 8 cfg0.N = G m c := by
  refine (dats m 0 c).arrAt_eq_of_covers 8 _ (by decide +kernel) fun t hf y => ?_
  have ht := t_lt t
  have l0 : (y 0).val < 512 := (y 0).isLt
  have l1 : (y 1).val < 512 := (y 1).isLt
  have e0 : ((((cfg0.win 8).blk t).view.emb y) 0 : ℕ) = t.val * 512 + (y 0).val := by blk_simp [idx t]
  have e1 : ((((cfg0.win 8).blk t).view.emb y) 1 : ℕ) = (y 1).val := by blk_simp [idx t]
  rw [after0_8]
  have hrow : t.val * 512 + (y 0).val < 16384 := by omega
  unfold G
  refine Eq.trans ?_ (congrArg₂ (res (argT m c) (argL m c) (argG m c))
    (show (⟨t.val * 512 + (y 0).val, hrow⟩ : Fin 16384) = _ from Fin.ext e0.symm) (show (⟨(y 1).val, l1⟩ : Fin 512) = _ from Fin.ext e1.symm))
  rw [res_eq _ _ _ _ _ (seqOf t) (8 * (blkOf t).val + (y 0).val / 64) (by show 8 * (t.val % 8) + _ < 64; omega) ⟨(y 0).val % 64, by omega⟩
    (by show t.val * 512 + (y 0).val = 4096 * (t.val / 8) + 64 * (8 * (t.val % 8) + (y 0).val / 64) + (y 0).val % 64; omega)]
  refine Eq.trans ?_ (blockOut_apply (blocks m c t) hlb _ (start_eq m c hlb _ t rfl) ⟨(y 0).val, l0⟩ ⟨(y 1).val, l1⟩)
  show blockOut _ _ _ _ _ _ _ _ _ _ = _
  congr 1
  exact eq_ix2 _

end Real

/-- The whole run: the output array is the recurrence's, the arguments are as they were. -/
theorem run_result (ρ : Dev nD → PrngReg) (hlb : ∀ (c : Dev nD) l, argL m c l ≠ ⊤) :
    θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 8).trans (final m c (hlb c)), h.2 c⟩)
    (θ_run_and (run_main m ρ) (frame_of m ρ (dats m) (A_eq m) (run_main m ρ)))

end Cert.Hgrn

end
-- ==== Proof.Hgrn.RefRun.lean ====
/-
  The reference's run: 64 trips of a loop between host operations. What no operation writes stays as it was.
-/
module

public import proofs.«01_k».proof.Defs
public import proofs.«01_k».proof.Proof.Gen.Reference6Ideal.Run

@[expose] public section

set_option maxRecDepth 16384

noncomputable section

namespace Cert.Reference6Ideal.Hgrn

open Cert.Reference6Ideal Cert.Reference6Ideal.Gen Cert.Reference6Ideal.Value
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-- A stretch of operations leaves what it does not write. -/
theorem keep {ops : List (HloOp τ sig (Elt F))} {W : List (Ref sig .tc)}
    (hops : ops.Forall fun op => op.writes ⊆ (W.map (Proc.devRef (τ := τ) .tc)).toFinset) {b : Ref sig .tc} (hb : b ∉ W)
    (V : Valuation τ sig (Elt F)) : after ops V (Proc.devRef .tc b) = V (Proc.devRef .tc b) :=
  after_of_writes_sub ops V hops hb

/-- What the operations before the loop write, -/
abbrev preW : List (Ref sig .tc) := hostOps0_W ++ (hostOps0_1_W ++ (hostOps0_2_W ++ (hostOps0_3_W ++ hostOps0_4_W)))
/-- what a trip writes, -/
abbrev bodyW : List (Ref sig .tc) :=
  condOps_W ++ (while0Ops0_W ++ (while0Ops0_1_W ++ (while0Ops0_2_W ++ (while0Ops0_3_W ++ (while0Ops0_4_W ++ (while0Ops0_5_W ++ (while0Ops0_6_W ++
    (while0Ops0_7_W ++ (while0Ops0_8_W ++ while0Ops0_9_W)))))))))
/-- and what the operations after it write, in three stretches. -/
abbrev post5 : List (Ref sig .tc) := [main_v60, main_v61, main_v62, main_v63, main_cst_9, main_v64, main_v65, main_cst_10, main_v66, main_v67, main_cst_11,
  main_v68, main_v69, main_v70, main_v71, main_v72, main_v73, main_v74, main_v75, main_v76]
abbrev post6 : List (Ref sig .tc) := [main_call9_v0, main_call9_v1, main_call9_cst, main_call9_v2, main_call9_v3, main_call9_cst_0, main_call9_v4, main_call9_v5, main_v77]
abbrev post7 : List (Ref sig .tc) := [main_v78, main_v79, main_v80]
abbrev postW : List (Ref sig .tc) := post5 ++ (post6 ++ post7)

theorem post5_writes : (hostOps0_5 : List (HloOp τ sig (Elt F))).Forall fun op => op.writes ⊆ (post5.map (Proc.devRef (τ := τ) .tc)).toFinset :=
  StableHlo.forall_writes_sub_of_map rfl
theorem post6_writes : (hostOps0_6 : List (HloOp τ sig (Elt F))).Forall fun op => op.writes ⊆ (post6.map (Proc.devRef (τ := τ) .tc)).toFinset :=
  StableHlo.forall_writes_sub_of_map rfl
theorem post7_writes : (hostOps0_7 : List (HloOp τ sig (Elt F))).Forall fun op => op.writes ⊆ (post7.map (Proc.devRef (τ := τ) .tc)).toFinset :=
  StableHlo.forall_writes_sub_of_map rfl

theorem pre_keep {b : Ref sig .tc} (hb : b ∉ preW) (V : Valuation τ sig (Elt F)) : afterL preI V (Proc.devRef .tc b) = V (Proc.devRef .tc b) := by
  simp only [preW, List.mem_append, not_or] at hb
  obtain ⟨h0, h1, h2, h3, h4⟩ := hb
  simp only [preI, afterL_cons, afterL_nil]
  rw [keep hostOps0_4_writes h4, keep hostOps0_3_writes h3, keep hostOps0_2_writes h2, keep hostOps0_1_writes h1, keep hostOps0_writes h0]

theorem post_keep {b : Ref sig .tc} (hb : b ∉ postW) (V : Valuation τ sig (Elt F)) : afterL postI V (Proc.devRef .tc b) = V (Proc.devRef .tc b) := by
  simp only [postW, List.mem_append, not_or] at hb
  obtain ⟨h0, h1, h2⟩ := hb
  simp only [postI, afterL_cons, afterL_nil]
  rw [keep post7_writes h2, keep post6_writes h1, keep post5_writes h0]

theorem trip_keep {b : Ref sig .tc} (hb : b ∉ bodyW) (V : Valuation τ sig (Elt F)) :
    afterL bodyI (after condOps V) (Proc.devRef .tc b) = V (Proc.devRef .tc b) := by
  simp only [bodyW, List.mem_append, not_or] at hb
  obtain ⟨hc, h0, h1, h2, h3, h4, h5, h6, h7, h8, h9⟩ := hb
  simp only [bodyI, afterL_cons, afterL_nil]
  rw [keep while0Ops0_9_writes h9, keep while0Ops0_8_writes h8, keep while0Ops0_7_writes h7, keep while0Ops0_6_writes h6,
    keep while0Ops0_5_writes h5, keep while0Ops0_4_writes h4, keep while0Ops0_3_writes h3, keep while0Ops0_2_writes h2,
    keep while0Ops0_1_writes h1, keep while0Ops0_writes h0, keep condOps_writes hc]

/-- The loop leaves what a trip does not write. -/
theorem loop_keep {b : Ref sig .tc} (hb : b ∉ bodyW) (c : Dev nD) : ∀ k, atK m k c (Proc.devRef .tc b) = entryContents preI m c (Proc.devRef .tc b)
  | 0 => rfl
  | k + 1 => (trip_keep hb (atK m k c)).trans (loop_keep hb c k)

/-- After the loop, of what a trip does not write. -/
theorem exit_keep {b : Ref sig .tc} (hb : b ∉ bodyW) (c : Dev nD) :
    after condOps (atK m 64 c) (Proc.devRef .tc b) = entryContents preI m c (Proc.devRef .tc b) := by
  have hc : b ∉ condOps_W := fun h => hb (List.mem_append_left _ h)
  rw [keep condOps_writes hc, loop_keep m hb]

theorem kept {b : Ref sig .tc} (h0 : b ∉ preW) (h1 : b ∉ bodyW) (h2 : b ∉ postW) (c : Dev nD) :
    finalContents condOps preI bodyI postI 64 m c (Proc.devRef .tc b) = m ((c.tc : Thread nD τ).loc b) := by
  rw [show finalContents condOps preI bodyI postI 64 m c = afterL postI (after condOps (atK m 64 c)) from rfl,
    post_keep h2, exit_keep m h1, show entryContents preI m c = afterL preI (launchContents m c) from rfl, pre_keep h0]

/-- The arguments end as they were, and the result is the last contents of its buffer. -/
theorem run : θ_run (defs (F := F)) (onTc (τ := τ) (main (F := F))) ⟨m, fun _ => 0, ρ⟩ (fun r => ∀ c : Dev nD,
    r.2.mem ((c.tc : Thread nD τ).loc main_v80) = finalContents condOps preI bodyI postI 64 m c (Proc.devRef .tc main_v80)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨h c main_v80 rfl,
    (h c main_arg0 rfl).trans (kept m (by decide) (by decide) (by decide) c),
    (h c main_arg1 rfl).trans (kept m (by decide) (by decide) (by decide) c),
    (h c main_arg2 rfl).trans (kept m (by decide) (by decide) (by decide) c)⟩) (run_fold m ρ)

end Cert.Reference6Ideal.Hgrn

end
-- ==== Proof.Hgrn.RefTrip.lean ====
module

public import proofs.«01_k».proof.Proof.Hgrn.RefRun
public import proofs.«01_k».proof.Proof.Hgrn.Chunk
public import proofs.«01_k».proof.Proof.Att.Entry
public import Idealize.ShloMosaic.Lib.DynamicIndex
public import Idealize.ShloMosaic.Lib.WordCmp

@[expose] public section

/-!
# One trip of the reference's loop, at an index
-/

set_option maxRecDepth 16384

noncomputable section

namespace Cert.Reference6Ideal.Hgrn

open Cert.Hgrn (cum score raw next qs ks vs ls state out)
open Cert.Reference6Ideal Cert.Reference6Ideal.Gen Cert.Reference6Ideal.Value
open Idealize.ShloMosaic Idealize.ShloMosaic.TcCoe Idealize.ShloMosaic.Tactic Idealize.ShloMosaic.StableHlo

/-- The start of chunk `n`. -/
def at5 (n : Fin 64) : Fin 5 → ℕ := ![n.val, 0, 0, 0, 0]

theorem at5_fits (n : Fin 64) : S64x4x4x64x128.Slices (at5 n) S1x4x4x64x128 :=
  ⟨rfl, fun a => by
    have := n.isLt
    fin_cases a
    · show n.val + 1 ≤ 64; omega
    · show 0 + 4 ≤ 4; omega
    · show 0 + 4 ≤ 4; omega
    · show 0 + 64 ≤ 64; omega
    · show 0 + 128 ≤ 128; omega⟩

/-- A chunk read at the counter. -/
theorem slice_apply (x : FVec Ideal S64x4x4x64x128 .f32) (start : Fin 5 → Int) (n : Fin 64) (hs : ∀ a, start a = (at5 n a : Int))
    (b h : Fin 4) (t : Fin 64) (d : Fin 128) :
    shapeCast S4x4x64x128 (Host.dynamicSlice S1x4x4x64x128 x start sliceFits_S64x4x4x64x128_S1x4x4x64x128) shapeCasts_S1x4x4x64x128_S4x4x64x128
      (ix4 b h t d) = x (ix5 n b h t d) := by
  rw [Host.dynamicSlice_eq_extractStridedSlice _ _ _ (at5 n) _ (at5_fits n) hs]
  pointwise [at5]

/-- A chunk written at the counter. -/
theorem update_apply (x : FVec Ideal S64x4x4x64x128 .f32) (y : FVec Ideal S1x4x4x64x128 .f32) (start : Fin 5 → Int) (n : Fin 64)
    (hs : ∀ a, start a = (at5 n a : Int)) (k : Fin 64) (b h : Fin 4) (t : Fin 64) (d : Fin 128) :
    Host.dynamicUpdateSlice x y start updateFits_S64x4x4x64x128_S1x4x4x64x128 (ix5 k b h t d)
      = if k = n then y (ix5 0 b h t d) else x (ix5 k b h t d) := by
  rw [WordCmp.dynamicUpdateSlice_eq_update _ _ _ _ (at5 n) (at5_fits n) hs]
  unfold updateSlice
  by_cases e : k = n
  · subst e
    rw [if_pos rfl, dif_pos (fun a => by
      fin_cases a
      · show k.val ≤ k.val ∧ k.val < k.val + 1; omega
      · show 0 ≤ b.val ∧ b.val < 0 + 4; omega
      · show 0 ≤ h.val ∧ h.val < 0 + 4; omega
      · show 0 ≤ t.val ∧ t.val < 0 + 64; omega
      · show 0 ≤ d.val ∧ d.val < 0 + 128; omega)]
    congr 1
    funext a
    fin_cases a
    · exact Fin.ext (Nat.sub_self k.val)
    all_goals rfl
  · rw [if_neg e, dif_neg]
    intro hin
    have h0 : n.val ≤ k.val ∧ k.val < n.val + 1 := hin 0
    exact e (Fin.ext (by omega))

theorem foldl_add {α : Type} (f : α → EReal) (l : List α) : ∀ v : EReal, l.foldl (fun r n => r + f n) v = v + (l.map f).sum := by
  induction l with
  | nil => intro v; simp
  | cons a l ih => intro v; rw [List.foldl_cons, ih, List.map_cons, List.sum_cons, add_assoc]

/-- Positions of a window of 64 along the third axis. -/
def along : (⟨4, ![1, 1, 64, 1]⟩ : Shape).Idx ≃ Fin 64 where
  toFun i := i 2
  invFun n := ix4 (0 : Fin 1) (0 : Fin 1) n (0 : Fin 1)
  left_inv i := by
    funext a
    fin_cases a
    · exact Subsingleton.elim (α := Fin 1) _ _
    · exact Subsingleton.elim (α := Fin 1) _ _
    · rfl
    · exact Subsingleton.elim (α := Fin 1) _ _
  right_inv n := rfl

/-- A window of 64 that ends at each position, padded by zeros before the first, adds up what is there up to the position. -/
theorem window_apply (x : FVec Ideal S4x4x64x128 .f32) (v : FVec Ideal S_ .f32) (hv : ∀ i, v i = 0) (b h : Fin 4) (t : Fin 64) (d : Fin 128) :
    Host.reduceWindowAdd ![1, 1, 64, 1] ![1, 1, 1, 1] ![0, 0, 63, 0] ![0, 0, 0, 0] x v
      reduceWindows_S4x4x64x128_S4x4x64x128_w1s1p0_0_w1s1p0_0_w64s1p63_0_w1s1p0_0 h_S_ (ix4 b h t d)
      = cum (fun u => x (ix4 b h u d)) t := by
  show Host.reduceWindow (· + ·) ![1, 1, 64, 1] ![1, 1, 1, 1] ![0, 0, 63, 0] ![0, 0, 0, 0] x (fun _ : (⟨0, ![]⟩ : Shape).Idx => v (Shape.Idx.first h_S_))
      reduceWindows_S4x4x64x128_S4x4x64x128_w1s1p0_0_w1s1p0_0_w64s1p63_0_w1s1p0_0 (by decide) (ix4 b h t d) = _
  rw [hv]
  unfold Host.reduceWindow
  refine (foldl_add _ _ _).trans ?_
  rw [zero_add, ← Fin.sum_univ_def]
  unfold cum
  refine Fintype.sum_equiv (((⟨4, ![1, 1, 64, 1]⟩ : Shape).rowMajor.symm.trans along).trans (Equiv.addRight (t + 1))) _ _ fun i => ?_
  let w : (⟨4, ![1, 1, 64, 1]⟩ : Shape).Idx := (⟨4, ![1, 1, 64, 1]⟩ : Shape).rowMajor.symm i
  let u : Fin 64 := along w + (t + 1)
  have hu : u.val = (t.val + (w 2).val + 1) % 64 := by
    show (along w + (t + 1) : Fin 64).val = _
    rw [Fin.val_add, Fin.val_add]
    show ((w 2).val + (t.val + 1) % 64) % 64 = _
    omega
  show _ = if u.val ≤ t.val then x (ix4 b h u d) else 0
  have w0 : (w 0).val = 0 := by have : (w 0).val < 1 := (w 0).isLt; omega
  have w1 : (w 1).val = 0 := by have : (w 1).val < 1 := (w 1).isLt; omega
  have w2 : (w 2).val < 64 := (w 2).isLt
  have w3 : (w 3).val = 0 := by have : (w 3).val < 1 := (w 3).isLt; omega
  by_cases c : 63 ≤ t.val + (w 2).val
  · rw [if_pos (by omega)]
    refine (dif_pos (fun a => ?_)).trans ?_
    · fin_cases a
      · show 0 ≤ b.val * 1 + (w 0).val ∧ b.val * 1 + (w 0).val - 0 < 4; omega
      · show 0 ≤ h.val * 1 + (w 1).val ∧ h.val * 1 + (w 1).val - 0 < 4; omega
      · show 63 ≤ t.val * 1 + (w 2).val ∧ t.val * 1 + (w 2).val - 63 < 64; omega
      · show 0 ≤ d.val * 1 + (w 3).val ∧ d.val * 1 + (w 3).val - 0 < 128; omega
    · congr 1
      funext a
      fin_cases a
      · exact Fin.ext (show b.val * 1 + (w 0).val - 0 = b.val by omega)
      · exact Fin.ext (show h.val * 1 + (w 1).val - 0 = h.val by omega)
      · exact Fin.ext (show t.val * 1 + (w 2).val - 63 = u.val by omega)
      · exact Fin.ext (show d.val * 1 + (w 3).val - 0 = d.val by omega)
  · rw [if_neg (by omega)]
    refine dif_neg fun hin => c ?_
    have h2 : 63 ≤ t.val * 1 + (w 2).val ∧ _ := hin 2
    omega

/-- The output of a chunk at an index, from its arrays, the running sums, the mask and the state. -/
theorem raw_apply (Q K W A : FVec Ideal S4x4x64x128 .f32) (S : FVec Ideal S4x4x128x128 .f32) (M : (⟨S64x64x1, .i1⟩ : BufTy).Contents (Elt Ideal))
    (hM : ∀ t s : Fin 64, M (ix3 t s (0 : Fin 1)) = if s.val ≤ t.val then 1#1 else 0#1)
    (a : Fin 4 → Fin 4 → Fin 64 → Fin 128 → EReal) (hA : ∀ b h t d, A (ix4 b h t d) = cum (fun u => a b h u d) t)
    (b h : Fin 4) (t : Fin 64) (j : Fin 128) :
    broadcastInDim S1x4x4x64x128 ![1, 2, 3, 4] bcast_S4x4x64x128_S1x4x4x64x128_1_2_3_4 (addf (Host.dotGeneral dot_S4x4x64x128_S4x4x128x128_S4x4x64x128_3_2_2_3_01_01 none (mulf Q (Host.exp A)) S) (Host.dotGeneral dot_S4x4x64x64_S4x4x64x128_S4x4x64x128_3_2_2_3_01_01 none (Host.reduceAdd (mulf (mulf (broadcastInDim S4x4x64x64x128 ![0, 1, 2, 3, 4] bcast_S4x4x64x1x128_S4x4x64x64x128_0_1_2_3_4 (broadcastInDim S4x4x64x1x128 ![0, 1, 2, 4] bcast_S4x4x64x128_S4x4x64x1x128_0_1_2_4 Q)) (broadcastInDim S4x4x64x64x128 ![0, 1, 2, 3, 4] bcast_S4x4x1x64x128_S4x4x64x64x128_0_1_2_3_4 (broadcastInDim S4x4x1x64x128 ![0, 1, 3, 4] bcast_S4x4x64x128_S4x4x1x64x128_0_1_3_4 K))) (Host.exp (select (broadcastInDim S4x4x64x64x128 ![2, 3, 4] bcast_S64x64x1_S4x4x64x64x128_2_3_4 M) (subf (broadcastInDim S4x4x64x64x128 ![0, 1, 2, 3, 4] bcast_S4x4x64x1x128_S4x4x64x64x128_0_1_2_3_4 (broadcastInDim S4x4x64x1x128 ![0, 1, 2, 4] bcast_S4x4x64x128_S4x4x64x1x128_0_1_2_4 A)) (broadcastInDim S4x4x64x64x128 ![0, 1, 2, 3, 4] bcast_S4x4x1x64x128_S4x4x64x64x128_0_1_2_3_4 (broadcastInDim S4x4x1x64x128 ![0, 1, 3, 4] bcast_S4x4x64x128_S4x4x1x64x128_0_1_3_4 A))) (broadcastInDim S4x4x64x64x128 ![] bcast_S_S4x4x64x64x128 (id (constant S_ .f32 0xFF800000#32)))))) (constant S_ .f32 0x00000000#32) reducesTo_S4x4x64x64x128_S4x4x64x64_d4 h_S_) W))
      (ix5 (0 : Fin 1) b h t j)
      = raw (fun t d => Q (ix4 b h t d)) (fun t d => K (ix4 b h t d)) (fun t d => W (ix4 b h t d)) (a b h) (fun d j => S (ix4 b h d j)) t j := by
  have hbot : Ideal.ofBits .f32 0xFF800000#32 = (⊥ : EReal) := by simp [Ideal.ofBits, Ideal.ieee]
  unfold raw score
  pointwise [hA]
  refine congrArg₂ (· + ·) rfl (Finset.sum_congr rfl fun s _ => congrArg (· * W (ix4 b h s j)) (Finset.sum_congr rfl fun d _ =>
    congrArg (fun x => Q (ix4 b h t d) * K (ix4 b h s d) * Ideal.exp x) ?_))
  rw [hM]
  by_cases c : s.val ≤ t.val
  · rw [if_pos c, if_pos c]; rfl
  · rw [if_neg c, if_neg c]; exact hbot

/-- The state after a chunk at an index. -/
theorem next_apply (K W A : FVec Ideal S4x4x64x128 .f32) (S : FVec Ideal S4x4x128x128 .f32) (L : FVec Ideal S4x4x128 .f32)
    (a : Fin 4 → Fin 4 → Fin 64 → Fin 128 → EReal) (hA : ∀ b h t d, A (ix4 b h t d) = cum (fun u => a b h u d) t)
    (hL : ∀ b h d, L (ix3 b h d) = A (ix4 b h (63 : Fin 64) d))
    (b h : Fin 4) (d j : Fin 128) :
    addf (mulf (broadcastInDim S4x4x128x128 ![0, 1, 2, 3] bcast_S4x4x128x1_S4x4x128x128_0_1_2_3 (broadcastInDim S4x4x128x1 ![0, 1, 2] bcast_S4x4x128_S4x4x128x1_0_1_2 (Host.exp L))) S) (Host.dotGeneral dot_S4x4x64x128_S4x4x64x128_S4x4x128x128_2_2_3_3_01_01 none (mulf K (Host.exp (subf (broadcastInDim S4x4x64x128 ![0, 1, 2, 3] bcast_S4x4x1x128_S4x4x64x128_0_1_2_3 (broadcastInDim S4x4x1x128 ![0, 1, 3] bcast_S4x4x128_S4x4x1x128_0_1_3 L)) A))) W)
      (ix4 b h d j)
      = next (fun t d => K (ix4 b h t d)) (fun t d => W (ix4 b h t d)) (a b h) (fun d j => S (ix4 b h d j)) d j := by
  unfold next
  pointwise [hA, hL]

variable (V0 : Valuation τ sig (Elt Ideal))

theorem start_eq (n : Fin 64) (hc : V0 (Proc.devRef .tc main_v59_5) = fun _ => BitVec.ofNat 32 n.val) (a : Fin 5) :
    (((![V0 (Proc.devRef .tc main_v59_5), constantI S_ 32 0#32, constantI S_ 32 0#32, constantI S_ 32 0#32, constantI S_ 32 0#32] : Fin 5 → (⟨S_, .i32⟩ : BufTy).Contents (Elt Ideal))) a (Shape.Idx.first h_S_)).toInt
      = (at5 n a : Int) := by
  fin_cases a
  · show (V0 (Proc.devRef .tc main_v59_5) (Shape.Idx.first h_S_)).toInt = (n.val : Int)
    rw [hc]
    exact toInt_ofNat_of_lt (by have := n.isLt; omega)
  all_goals rfl

/-- What the carried buffers hold before trip `k`. -/
structure At (T : Fin 4 → Fin 4096 → Fin 5384 → EReal) (lb : Fin 512 → EReal) (k : ℕ) : Prop where
  on_q : ∀ (n : Fin 64) (b h : Fin 4) (t : Fin 64) (d : Fin 128), V0 (Proc.devRef .tc main_v59_0) (ix5 n b h t d) = qs (T b) h n.val t d
  on_k : ∀ (n : Fin 64) (b h : Fin 4) (t : Fin 64) (d : Fin 128), V0 (Proc.devRef .tc main_v59_1) (ix5 n b h t d) = ks (T b) lb h n.val t d
  on_v : ∀ (n : Fin 64) (b h : Fin 4) (t : Fin 64) (d : Fin 128), V0 (Proc.devRef .tc main_v59_2) (ix5 n b h t d) = vs (T b) h n.val t d
  on_l : ∀ (n : Fin 64) (b h : Fin 4) (t : Fin 64) (d : Fin 128), V0 (Proc.devRef .tc main_v59_3) (ix5 n b h t d) = ls (T b) lb h n.val t d
  mask : ∀ t s : Fin 64, V0 (Proc.devRef .tc main_v59_4) (ix3 t s (0 : Fin 1)) = if s.val ≤ t.val then 1#1 else 0#1
  counter : V0 (Proc.devRef .tc main_v59_5) = fun _ => BitVec.ofNat 32 k
  on_state : ∀ (b h : Fin 4) (d j : Fin 128), V0 (Proc.devRef .tc main_v59_6) (ix4 b h d j) = state (T b) lb h k d j
  outs : ∀ (n : Fin 64) (b h : Fin 4) (t : Fin 64) (j : Fin 128), n.val < k →
    V0 (Proc.devRef .tc main_v59_7) (ix5 n b h t j) = out (T b) lb h n.val t j

variable {V0} {T : Fin 4 → Fin 4096 → Fin 5384 → EReal} {lb : Fin 512 → EReal}

section Trip

variable (n : Fin 64) (H : At V0 T lb n.val) (b h : Fin 4) (t : Fin 64) (d : Fin 128)
include H

theorem v81_apply : res_main_while0b_v81 V0 (ix4 b h t d) = qs (T b) h n.val t d :=
  (slice_apply _ _ n (start_eq V0 n H.counter) b h t d).trans (H.on_q n b h t d)

theorem v82_apply : res_main_while0b_v82 V0 (ix4 b h t d) = ks (T b) lb h n.val t d :=
  (slice_apply _ _ n (start_eq V0 n H.counter) b h t d).trans (H.on_k n b h t d)

theorem v83_apply : res_main_while0b_v83 V0 (ix4 b h t d) = vs (T b) h n.val t d :=
  (slice_apply _ _ n (start_eq V0 n H.counter) b h t d).trans (H.on_v n b h t d)

theorem v85_apply : res_main_while0b_v85 V0 (ix4 b h t d) = cum (fun u => ls (T b) lb h n.val u d) t := by
  refine (window_apply _ _ (fun i => ?_) b h t d).trans (congrArg (fun a => cum a t) (funext fun u =>
    (slice_apply _ _ n (start_eq V0 n H.counter) b h u d).trans (H.on_l n b h u d)))
  show Ideal.ofBits .f32 0x00000000#32 = 0
  simp [Ideal.ofBits, Ideal.ieee]

theorem v105_apply : res_main_while0b_v105 V0 (ix3 b h d) = res_main_while0b_v85 V0 (ix4 b h (63 : Fin 64) d) := by
  unfold res_main_while0b_v105
  generalize res_main_while0b_v85 V0 = x
  pointwise

theorem step_out (k : Fin 64) (j : Fin 128) : step_main_v59_7 V0 (ix5 k b h t j)
    = if k = n then out (T b) lb h n.val t j else V0 (Proc.devRef .tc main_v59_7) (ix5 k b h t j) := by
  refine (update_apply _ _ _ n (start_eq V0 n H.counter) k b h t j).trans ?_
  refine congrArg (fun x => if k = n then x else V0 (Proc.devRef .tc main_v59_7) (ix5 k b h t j)) ?_
  refine (raw_apply _ _ _ _ _ _ H.mask (fun b h u d => ls (T b) lb h n.val u d) (fun b h t d => v85_apply n H b h t d) b h t j).trans ?_
  unfold out
  simp only [v81_apply n H, v82_apply n H, v83_apply n H, H.on_state]

theorem step_state (j : Fin 128) : step_main_v59_6 V0 (ix4 b h d j) = Cert.Hgrn.state (T b) lb h (n.val + 1) d j := by
  refine (next_apply _ _ _ _ _ (fun b h u d => ls (T b) lb h n.val u d) (fun b h t d => v85_apply n H b h t d) (fun b h d => v105_apply n H b h d) b h d j).trans ?_
  simp only [v82_apply n H, v83_apply n H, H.on_state]
  rfl

/-- One trip carries what the buffers hold one chunk on. -/
theorem at_step : At (STEP V0) T lb (n.val + 1) where
  on_q := by rw [STEP_main_v59_0]; exact H.on_q
  on_k := by rw [STEP_main_v59_1]; exact H.on_k
  on_v := by rw [STEP_main_v59_2]; exact H.on_v
  on_l := by rw [STEP_main_v59_3]; exact H.on_l
  mask := by rw [STEP_main_v59_4]; exact H.mask
  counter := by
    rw [STEP_main_v59_5]
    unfold step_main_v59_5
    rw [H.counter]
    funext i
    exact (BitVec.ofNat_add ..).symm
  on_state := by rw [STEP_main_v59_6]; exact fun b h d j => step_state n H b h d j
  outs := by
    rw [STEP_main_v59_7]
    intro k b h t j hk
    rw [step_out n H b h t k j]
    by_cases e : k = n
    · rw [if_pos e, e]
    · rw [if_neg e]
      exact H.outs k b h t j (by have : k.val ≠ n.val := fun x => e (Fin.ext x); omega)

end Trip

/-- So do any number of trips, up to all 64. -/
theorem at_trips (H : At V0 T lb 0) : ∀ k, k ≤ 64 → At (STEP^[k] V0) T lb k
  | 0, _ => H
  | k + 1, hk => by
    rw [Function.iterate_succ_apply']
    exact at_step ⟨k, by omega⟩ (at_trips H k (by omega))

end Cert.Reference6Ideal.Hgrn

end
-- ==== Proof.Hgrn.RefFinal.lean ====
module

public import proofs.«01_k».proof.Proof.Hgrn.RefTrip

@[expose] public section

/-!
# The reference's result

What the loop finds, what it leaves, and the norm and the gate after it.
-/

set_option maxRecDepth 16384

noncomputable section

namespace Cert.Reference6Ideal.Hgrn

open Cert.Hgrn (cum score raw next qs ks vs ls state out pos silu sigm key logf one normed res)
open Cert.Reference6Ideal Cert.Reference6Ideal.Gen Cert.Reference6Ideal.Value
open Idealize.ShloMosaic Idealize.ShloMosaic.TcCoe Idealize.ShloMosaic.Tactic Idealize.ShloMosaic.StableHlo

variable (m : (ℓ : Loc nD τ sig) → Buf (Elt Ideal) ℓ) (c : Dev nD)

/-- The projection's argument by sequence, position and column. -/
abbrev argT (b : Fin 4) (s : Fin 4096) (l : Fin 5384) : EReal := m ((c.tc : Thread nD τ).loc main_arg0) (ix3 b s l)
/-- The lower bounds' argument. -/
abbrev argL (l : Fin 512) : EReal := m ((c.tc : Thread nD τ).loc main_arg1) (ix1 l)
/-- The gain's argument. -/
abbrev argG (l : Fin 512) : EReal := m ((c.tc : Thread nD τ).loc main_arg2) (ix1 l)

section Entry

variable (n : Fin 64) (b h : Fin 4) (t : Fin 64) (d : Fin 128)

theorem argT_at (o : ℕ) (ho : o + 512 ≤ 5384) : argT m c b ⟨n.val * 64 + t.val, by omega⟩ ⟨o + (h.val * 128 + d.val), by omega⟩
    = argT m c b (pos n.val t) ⟨o + (128 * h.val + d.val), by omega⟩ :=
  congrArg₂ (argT m c b) (Fin.ext (show n.val * 64 + t.val = (64 * n.val + t.val) % 4096 by omega))
    (Fin.ext (show o + (h.val * 128 + d.val) = o + (128 * h.val + d.val) by omega))

theorem argL_at : argL m c ⟨h.val * 128 + d.val, by omega⟩ = argL m c ⟨128 * h.val + d.val, by omega⟩ :=
  congrArg (argL m c) (Fin.ext (show h.val * 128 + d.val = 128 * h.val + d.val by omega))

theorem entry_v : entryContents preI m c (Proc.devRef .tc main_v59_2) (ix5 n b h t d) = vs (argT m c b) h n.val t d := by
  refine Eq.trans ?_ (argT_at m c n b h t d 2304 (by decide))
  simp only [entryContents, afterL_cons, afterL_nil]
  after_reads_simp
  simp only [id_eq]
  pointwise

theorem entry_q : entryContents preI m c (Proc.devRef .tc main_v59_0) (ix5 n b h t d) = qs (argT m c b) h n.val t d := by
  unfold qs
  rw [← argT_at m c n b h t d 1280 (by decide)]
  simp only [entryContents, afterL_cons, afterL_nil]
  after_reads_simp
  simp only [TRef.toBuf, TRef.ofBuf, cast_eq, id_eq]
  pointwise [silu, sigm, one]

theorem entry_k : entryContents preI m c (Proc.devRef .tc main_v59_1) (ix5 n b h t d) = ks (argT m c b) (argL m c) h n.val t d := by
  unfold ks
  rw [← argT_at m c n b h t d 1792 (by decide), ← argL_at m c h d]
  simp only [entryContents, afterL_cons, afterL_nil]
  after_reads_simp
  simp only [id_eq]
  pointwise [key, sigm, one]

theorem entry_l : entryContents preI m c (Proc.devRef .tc main_v59_3) (ix5 n b h t d) = ls (argT m c b) (argL m c) h n.val t d := by
  unfold ls
  rw [← argT_at m c n b h t d 1792 (by decide), ← argL_at m c h d]
  simp only [entryContents, afterL_cons, afterL_nil]
  after_reads_simp
  simp only [id_eq]
  pointwise [logf, sigm, one]

end Entry

theorem entry_mask (t s : Fin 64) : entryContents preI m c (Proc.devRef .tc main_v59_4) (ix3 t s (0 : Fin 1)) = if s.val ≤ t.val then 1#1 else 0#1 := by
  have key : ∀ t s : Fin 64, Scalar.select (IntOp.cmpi CmpIPredicate.sge (IntOp.addi (BitVec.ofNat 32 t.val) 0#32) (BitVec.ofNat 32 s.val)) 1#1 0#1
      = if s.val ≤ t.val then 1#1 else 0#1 := by decide +kernel
  refine Eq.trans ?_ (key t s)
  simp only [entryContents, afterL_cons, afterL_nil]
  after_reads_simp
  simp only [TRef.toBuf, TRef.ofBuf, cast_eq, id_eq]
  pointwise

theorem entry_state (b h : Fin 4) (d j : Fin 128) : entryContents preI m c (Proc.devRef .tc main_v59_6) (ix4 b h d j) = (0 : EReal) := by
  simp only [entryContents, afterL_cons, afterL_nil]
  after_reads_simp
  simp only [id_eq]
  pointwise

theorem entry_gate (b : Fin 4) (s : Fin 4096) (l : Fin 512) :
    entryContents preI m c (Proc.devRef .tc main_v6) (ix3 b s l) = argT m c b s ⟨2816 + l.val, by omega⟩ := by
  simp only [entryContents, afterL_cons, afterL_nil]
  after_reads_simp
  pointwise

/-- The loop's entry. -/
theorem at_entry : At (entryContents preI m c) (argT m c) (argL m c) 0 where
  on_q := entry_q m c
  on_k := entry_k m c
  on_v := entry_v m c
  on_l := entry_l m c
  mask := entry_mask m c
  counter := ctr_entry m c
  on_state := entry_state m c
  outs _ _ _ _ _ hk := absurd hk (Nat.not_lt_zero _)

/-- The norm and the gate. -/
theorem post_apply (X : Valuation τ sig (Elt Ideal)) (row : Fin 16384) (col : Fin 512) :
    afterL postI X (Proc.devRef .tc main_v80) (ix2 row col)
      = normed (fun d => X (Proc.devRef .tc main_v59_7) (ix5 (⟨row.val % 4096 / 64, by omega⟩ : Fin 64) (⟨row.val / 4096, by omega⟩ : Fin 4)
            (⟨col.val / 128, by omega⟩ : Fin 4) (⟨row.val % 64, by omega⟩ : Fin 64) d)) ⟨col.val % 128, by omega⟩
          * X (Proc.devRef .tc main_arg2) (ix1 col)
        * silu (X (Proc.devRef .tc main_v6) (ix3 (⟨row.val / 4096, by omega⟩ : Fin 4) (⟨row.val % 4096, by omega⟩ : Fin 4096) col)) := by
  simp only [postI, afterL_cons, afterL_nil]
  after_reads_simp
  simp only [TRef.toBuf, TRef.ofBuf, cast_eq, id_eq]
  generalize X (Proc.devRef .tc main_v59_7) = x
  generalize X (Proc.devRef .tc main_v6) = y
  generalize X (Proc.devRef .tc main_arg2) = z
  pointwise [normed, silu, sigm, one]
  have e1 : row.val % 4096 % 64 = row.val % 64 := by omega
  have e2 : col.val / 128 * 128 + col.val % 128 = col.val := by omega
  simp only [e1, e2]

/-- The reference's result at an index. -/
theorem result (row : Fin 16384) (col : Fin 512) : finalContents condOps preI bodyI postI 64 m c (Proc.devRef .tc main_v80) (ix2 row col)
    = res (argT m c) (argL m c) (argG m c) row col := by
  have H := at_trips (at_entry m c) 64 le_rfl
  refine (post_apply (after condOps (atK m 64 c)) row col).trans ?_
  rw [exit_keep m (b := main_arg2) (by decide), exit_keep m (b := main_v6) (by decide), keep condOps_writes (b := main_v59_7) (by decide),
    atK_agree m c 64 main_v59_7 (by decide)]
  unfold res
  refine congrArg₂ (· * ·) (congrArg₂ (· * ·) ?_ ?_) ?_
  · exact congrArg (fun f => normed f _) (funext fun d => H.outs _ _ _ _ d (by show row.val % 4096 / 64 < 64; omega))
  · exact congrFun (pre_keep (b := main_arg2) (by decide) (launchContents m c)) (ix1 col)
  · exact congrArg silu (entry_gate m c _ _ col)

end Cert.Reference6Ideal.Hgrn

end
-- ==== Proof.Hgrn.Claims.lean ====
module

public import proofs.«01_k».proof.Defs
public import proofs.«01_k».proof.Proof.Hgrn.Frame
public import proofs.«01_k».proof.Proof.Gen.Kernel6
public import proofs.«01_k».proof.Proof.Hgrn.Bounded
public import proofs.«01_k».proof.Proof.Hgrn.Final
public import proofs.«01_k».proof.Proof.Hgrn.RefFinal

@[expose] public section

/-!
# The claims about the HGRN2 recurrence's call
-/

noncomputable section

namespace Cert.Hgrn

open Idealize.ShloMosaic Idealize.SL.Sem

variable {F : FTy → Type} [FloatOps F]

/-! The two programs have the same text. -/

theorem body_eq : @Cert.Kernel6.cc0_hgrn2_scan F _ _ = @Cert.Kernel6Ideal.cc0_hgrn2_scan F _ _ := rfl

theorem defs₀_eq : Cert.Kernel6.defs₀ (F := F) = Cert.Kernel6Ideal.defs₀ := by
  unfold Cert.Kernel6.defs₀ Cert.Kernel6Ideal.defs₀
  refine congrArg Defs.onTc ?_
  funext l a
  match l, a with
  | 0, (t, s) => rfl
  | ⟨_ + 1, h⟩, _ => exact absurd h (Nat.not_lt.2 (Nat.le_add_left _ _))

theorem defs_eq : Cert.Kernel6.defs (F := F) = Cert.Kernel6Ideal.defs := congrArg (Pipeline.defs _) defs₀_eq

theorem main_eq : Cert.Kernel6.main (F := F) = Cert.Kernel6Ideal.main := by
  unfold Cert.Kernel6.main Cert.Kernel6Ideal.main
  rw [show Cert.Kernel6.lit0 = Cert.Kernel6Ideal.lit0 from rfl, show Cert.Kernel6.lit1 = Cert.Kernel6Ideal.lit1 from rfl]
  generalize Cert.Kernel6Ideal.lit0 = l0
  generalize Cert.Kernel6Ideal.lit1 = l1
  rfl

theorem frame_kernelIdeal : Cert.quiescent_Kernel6Ideal := fun m ρ _ => frame m ρ

theorem frame_kernelIdeal_bounded : Cert.quiescent_Kernel6Ideal_pre_bounded := fun m ρ _ => frame m ρ

theorem frame_kernel : Cert.quiescent_Kernel6 := fun m ρ _ => by
  rw [defs_eq, main_eq]
  exact frame (F := Bits) m ρ

/-- The reference declares no semaphore. -/
theorem frame_referenceIdeal : Cert.quiescent_Reference6Ideal := fun m ρ _ =>
  (θ_run Cert.Reference6Ideal.defs _ _).mono (fun r h => ⟨fun c => (h c).2, sem_eq_zero_of_no_sems (by decide) r.2⟩)
    (Cert.Reference6Ideal.Hgrn.run (F := Ideal) m ρ)

theorem frame_referenceIdeal_bounded : Cert.quiescent_Reference6Ideal_pre_bounded := fun m ρ _ => frame_referenceIdeal m ρ trivial

theorem preserves : Cert.preserves_Kernel6_Kernel6Ideal := trivial

/-- With lower bounds below infinity the kernel and the reference leave the same array. -/
theorem algebraic : Cert.algebraic_Kernel6Ideal_Reference6Ideal_pre_bounded := fun m ρ m' ρ' hpre hag =>
  ⟨fun c => G m c, run_result m ρ fun c l => bounded_read _ _ _ (hpre c) l,
    (θ_run Cert.Reference6Ideal.defs _ _).mono (fun _ h c => ⟨(h c).1.trans (by
      obtain ⟨h0, h1, h2⟩ := hag c
      have eT : Cert.Reference6Ideal.Hgrn.argT m' c = argT m c := by funext b s l; exact congrFun h0 (ix3 b s l)
      have eL : Cert.Reference6Ideal.Hgrn.argL m' c = argL m c := by funext l; exact congrFun h1 (ix1 l)
      have eG : Cert.Reference6Ideal.Hgrn.argG m' c = argG m c := by funext l; exact congrFun h2 (ix1 l)
      refine funext fun (i : Cert.Kernel6Ideal.S16384x512.Idx) => ?_
      have e := Cert.Reference6Ideal.Hgrn.result m' c (i 0) (i 1)
      rw [eT, eL, eG, ← eq_ix2 i] at e
      exact e), (h c).2⟩) (Cert.Reference6Ideal.Hgrn.run m' ρ')⟩

end Cert.Hgrn

end
-- ==== Proof.lean ====
module

public import proofs.«01_k».proof.Proof.Att.Claims
public import proofs.«01_k».proof.Proof.In.Claims
public import proofs.«01_k».proof.Proof.Query.Claims
public import proofs.«01_k».proof.Proof.Out.Claims
public import proofs.«01_k».proof.Proof.Norm.Claims
public import proofs.«01_k».proof.Proof.Hgrn.Claims

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Att.preFacts, Cert.Hgrn.preFacts,
    Cert.Att.frame_kernel, Cert.Att.frame_kernelIdeal, Cert.Att.frame_kernelIdeal_finite, Cert.Att.frame_referenceIdeal,
    Cert.Att.frame_referenceIdeal_finite,
    Cert.In.frame_kernel, Cert.In.frame_kernelIdeal, Cert.In.frame_referenceIdeal,
    Cert.Query.frame_kernel, Cert.Query.frame_kernelIdeal, Cert.Query.frame_referenceIdeal,
    Cert.Out.frame_kernel, Cert.Out.frame_kernelIdeal, Cert.Out.frame_referenceIdeal,
    Cert.Norm.frame_kernel, Cert.Norm.frame_kernelIdeal, Cert.Norm.frame_referenceIdeal,
    Cert.Hgrn.frame_kernel, Cert.Hgrn.frame_kernelIdeal, Cert.Hgrn.frame_kernelIdeal_bounded,
    Cert.Hgrn.frame_referenceIdeal, Cert.Hgrn.frame_referenceIdeal_bounded,
    Cert.Att.preserves, Cert.Att.algebraic,
    Cert.In.preserves, Cert.In.algebraic,
    Cert.Query.preserves, Cert.Query.algebraic,
    Cert.Out.preserves, Cert.Out.algebraic,
    Cert.Norm.preserves, Cert.Norm.algebraic,
    Cert.Hgrn.preserves, Cert.Hgrn.algebraic⟩

end Cert.Proof

end
